-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v433) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x1024 : Shape := ⟨3, ![2, 8192, 1024]⟩
abbrev S2x3072 : Shape := ⟨2, ![2, 3072]⟩
abbrev S1x1024 : Shape := ⟨2, ![1, 1024]⟩
abbrev S1x1024x7168 : Shape := ⟨3, ![1, 1024, 7168]⟩
abbrev S1x31x1024 : Shape := ⟨3, ![1, 31, 1024]⟩
abbrev S1x1024x1024 : Shape := ⟨3, ![1, 1024, 1024]⟩
abbrev S1x2048x1024 : Shape := ⟨3, ![1, 2048, 1024]⟩
abbrev S1024 : Shape := ⟨1, ![1024]⟩
abbrev S2x2048 : Shape := ⟨2, ![2, 2048]⟩
abbrev S_ : Shape := ⟨0, ![]⟩
abbrev S1x1024x3072 : Shape := ⟨3, ![1, 1024, 3072]⟩

class Facts : Prop where
  slices_S2x3072_S2x2048_0_0 : S2x3072.Slices ![0, 0] S2x2048
  bcast_S_S2x2048 : S_.BroadcastsInDim S2x2048 (![] : Fin 0 → Fin S2x2048.rank)
  bcast_S_S1x1024 : S_.BroadcastsInDim S1x1024 (![] : Fin 0 → Fin S1x1024.rank)
  slices_S1x1024x7168_S1x1024x3072_0_0_3072 : S1x1024x7168.Slices ![0, 0, 3072] S1x1024x3072
  bcast_S_S1x1024x3072 : S_.BroadcastsInDim S1x1024x3072 (![] : Fin 0 → Fin S1x1024x3072.rank)

variable [Facts]

def fn {F : FTy → Type} [FloatOps F] (main_arg0 : FVec F S2x8192x1024 .f32) (main_arg1 : FVec F S2x3072 .f32) (main_arg2 : FVec F S1x1024 .f32) (main_arg3 : FVec F S1x1024x7168 .f32) (main_arg4 : FVec F S1x31x1024 .f32) (main_arg5 : FVec F S1x1024 .f32) (main_arg6 : FVec F S1x1024 .f32) (main_arg7 : FVec F S1x1024 .f32) (main_arg8 : FVec F S1x1024x1024 .f32) (main_arg9 : FVec F S1x1024 .f32) (main_arg10 : FVec F S1x1024 .f32) (main_arg11 : FVec F S1x2048x1024 .f32) (main_arg12 : FVec F S1024 .f32) : IVec S2x2048 1 × IVec S1x1024 1 × IVec S1x1024x3072 1 :=
  let main_v0 : FVec F S2x2048 .f32 := (extractStridedSlice S2x2048 ![0, 0] · slices_S2x3072_S2x2048_0_0) main_arg1
  let main_v1 : FVec F S2x2048 .f32 := Host.absf main_v0
  let main_cst : FVec F S_ .f32 := constant S_ .f32 0x7F800000#32
  let main_v2 : FVec F S2x2048 .f32 := broadcastInDim S2x2048 ![] bcast_S_S2x2048 main_cst
  let main_v3 : IVec S2x2048 1 := cmpf .olt main_v1 main_v2
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024x3072 .f32 := (extractStridedSlice S1x1024x3072 ![0, 0, 3072] · slices_S1x1024x7168_S1x1024x3072_0_0_3072) main_arg3
  let main_v8 : FVec F S1x1024x3072 .f32 := Host.absf main_v7
  let main_cst_1 : FVec F S_ .f32 := constant S_ .f32 0x7F800000#32
  let main_v9 : FVec F S1x1024x3072 .f32 := broadcastInDim S1x1024x3072 ![] bcast_S_S1x1024x3072 main_cst_1
  let main_v10 : IVec S1x1024x3072 1 := cmpf .olt main_v8 main_v9
  (main_v3, main_v6, main_v10)
-- ==== Kernel.lean ====
abbrev S2x8192x1024 : Shape := ⟨3, ![2, 8192, 1024]⟩
abbrev S2x3072 : Shape := ⟨2, ![2, 3072]⟩
abbrev S1x1024 : Shape := ⟨2, ![1, 1024]⟩
abbrev S1x1024x7168 : Shape := ⟨3, ![1, 1024, 7168]⟩
abbrev S1x31x1024 : Shape := ⟨3, ![1, 31, 1024]⟩
abbrev S1x1024x1024 : Shape := ⟨3, ![1, 1024, 1024]⟩
abbrev S1x2048x1024 : Shape := ⟨3, ![1, 2048, 1024]⟩
abbrev S1024 : Shape := ⟨1, ![1024]⟩
abbrev S2x3x1024 : Shape := ⟨3, ![2, 3, 1024]⟩
abbrev S_ : Shape := ⟨0, ![]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S4x1x256 : Shape := ⟨3, ![4, 1, 256]⟩
abbrev S1024x7168 : Shape := ⟨2, ![1024, 7168]⟩
abbrev S31x1024 : Shape := ⟨2, ![31, 1024]⟩
abbrev S1024x1024 : Shape := ⟨2, ![1024, 1024]⟩
abbrev S2048x1024 : Shape := ⟨2, ![2048, 1024]⟩
abbrev S1x256x1024 : Shape := ⟨3, ![1, 256, 1024]⟩
abbrev S1x3x1024 : Shape := ⟨3, ![1, 3, 1024]⟩
abbrev S256x128 : Shape := ⟨2, ![256, 128]⟩
abbrev S256x1024 : Shape := ⟨2, ![256, 1024]⟩
abbrev S256x7168 : Shape := ⟨2, ![256, 7168]⟩
abbrev S288x1024 : Shape := ⟨2, ![288, 1024]⟩
abbrev S7x280x1024 : Shape := ⟨3, ![7, 280, 1024]⟩
abbrev S256x2048 : Shape := ⟨2, ![256, 2048]⟩
abbrev S32x1024 : Shape := ⟨2, ![32, 1024]⟩
abbrev S1x1x1024 : Shape := ⟨3, ![1, 1, 1024]⟩
abbrev S1x32x1024 : Shape := ⟨3, ![1, 32, 1024]⟩
abbrev S32 : Shape := ⟨1, ![32]⟩
abbrev S32x1 : Shape := ⟨2, ![32, 1]⟩
abbrev S280x1024 : Shape := ⟨2, ![280, 1024]⟩
abbrev S1x280x1024 : Shape := ⟨3, ![1, 280, 1024]⟩
abbrev S32x128 : Shape := ⟨2, ![32, 128]⟩
abbrev S64x128 : Shape := ⟨2, ![64, 128]⟩
abbrev S1x56x128 : Shape := ⟨3, ![1, 56, 128]⟩
abbrev S56x128 : Shape := ⟨2, ![56, 128]⟩
abbrev S1x32x128 : Shape := ⟨3, ![1, 32, 128]⟩
abbrev S1x1x256 : Shape := ⟨3, ![1, 1, 256]⟩

abbrev nBuf : Space → Nat
  | .hbm => 135
  | .vmem => 39
  | .smem => 0
  | _ => 0

abbrev hbmTy0_0 (i : Nat) : BufTy := match i % 128 with
  | 0 => ⟨S2x8192x1024, .f32⟩
  | 1 => ⟨S2x3072, .f32⟩
  | 2 => ⟨S1x1024, .f32⟩
  | 3 => ⟨S1x1024x7168, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x1024, .f32⟩
  | 11 => ⟨S1x2048x1024, .f32⟩
  | 12 => ⟨S1024, .f32⟩
  | 13 => ⟨S2x3x1024, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S127, .f32⟩
  | 22 => ⟨S_, .f32⟩
  | 23 => ⟨S127, .f32⟩
  | 24 => ⟨S127, .f32⟩
  | 25 => ⟨S1, .f32⟩
  | 26 => ⟨S_, .f32⟩
  | 27 => ⟨S127, .f32⟩
  | 28 => ⟨S127, .f32⟩
  | 29 => ⟨S127, .f32⟩
  | 30 => ⟨S127, .f32⟩
  | 31 => ⟨S1, .f32⟩
  | 32 => ⟨S127, .f32⟩
  | 33 => ⟨S127, .f32⟩
  | 34 => ⟨S127, .f32⟩
  | 35 => ⟨S1, .f32⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S8192, .f32⟩
  | 44 => ⟨S8192x1, .f32⟩
  | 45 => ⟨S1x128, .f32⟩
  | 46 => ⟨S8192x128, .f32⟩
  | 47 => ⟨S8192x128, .f32⟩
  | 48 => ⟨S8192x128, .f32⟩
  | 49 => ⟨S8192x128, .f32⟩
  | 50 => ⟨S8192x128, .f32⟩
  | 51 => ⟨S4, .f32⟩
  | 52 => ⟨S_, .f32⟩
  | 53 => ⟨S4, .f32⟩
  | 54 => ⟨S4, .f32⟩
  | 55 => ⟨S_, .f32⟩
  | 56 => ⟨S4, .f32⟩
  | 57 => ⟨S4, .f32⟩
  | 58 => ⟨S4, .f32⟩
  | 59 => ⟨S_, .f32⟩
  | 60 => ⟨S4, .f32⟩
  | 61 => ⟨S4, .f32⟩
  | 62 => ⟨S4, .f32⟩
  | 63 => ⟨S256, .f32⟩
  | 64 => ⟨S256x1, .f32⟩
  | 65 => ⟨S1x256, .f32⟩
  | 66 => ⟨S256x256, .f32⟩
  | 67 => ⟨S256x256, .f32⟩
  | 68 => ⟨S256x256, .f32⟩
  | 69 => ⟨S_, .f32⟩
  | 70 => ⟨S256x256, .f32⟩
  | 71 => ⟨S256x256, .i1⟩
  | 72 => ⟨S4x1x1, .f32⟩
  | 73 => ⟨S_, .f32⟩
  | 74 => ⟨S256x256, .f32⟩
  | 75 => ⟨S256x256, .f32⟩
  | 76 => ⟨S1x256x256, .f32⟩
  | 77 => ⟨S4x256x256, .f32⟩
  | 78 => ⟨S4x256x256, .f32⟩
  | 79 => ⟨S4x256x256, .f32⟩
  | 80 => ⟨S4x256x256, .f32⟩
  | 81 => ⟨S_, .f32⟩
  | 82 => ⟨S_, .f32⟩
  | 83 => ⟨S4x256x256, .i1⟩
  | 84 => ⟨S4x256x256, .f32⟩
  | 85 => ⟨S4x256x256, .f32⟩
  | 86 => ⟨S4x1, .f32⟩
  | 87 => ⟨S_, .f32⟩
  | 88 => ⟨S256, .f32⟩
  | 89 => ⟨S256, .f32⟩
  | 90 => ⟨S1x256, .f32⟩
  | 91 => ⟨S4x256, .f32⟩
  | 92 => ⟨S4x256, .f32⟩
  | 93 => ⟨S4x256, .f32⟩
  | 94 => ⟨S4x256, .f32⟩
  | 95 => ⟨S4x1, .f32⟩
  | 96 => ⟨S_, .f32⟩
  | 97 => ⟨S256, .f32⟩
  | 98 => ⟨S256, .f32⟩
  | 99 => ⟨S1x256, .f32⟩
  | 100 => ⟨S4x256, .f32⟩
  | 101 => ⟨S4x256, .f32⟩
  | 102 => ⟨S4x256, .f32⟩
  | 103 => ⟨S4x256, .f32⟩
  | 104 => ⟨S_, .f32⟩
  | 105 => ⟨S4, .f32⟩
  | 106 => ⟨S4, .f32⟩
  | 107 => ⟨S4, .f32⟩
  | 108 => ⟨S4x256x1, .f32⟩
  | 109 => ⟨S4x256x256, .f32⟩
  | 110 => ⟨S4x256x1, .f32⟩
  | 111 => ⟨S4x256x128, .f32⟩
  | 112 => ⟨S4x1x1, .f32⟩
  | 113 => ⟨S4x1x256, .f32⟩
  | 114 => ⟨S1024, .f32⟩
  | 115 => ⟨S1x1024, .f32⟩
  | 116 => ⟨S1024x7168, .f32⟩
  | 117 => ⟨S1024x7168, .bf16⟩
  | 118 => ⟨S31x1024, .f32⟩
  | 119 => ⟨S1024, .f32⟩
  | 120 => ⟨S1x1024, .f32⟩
  | 121 => ⟨S1024, .f32⟩
  | 122 => ⟨S1x1024, .f32⟩
  | 123 => ⟨S1024, .f32⟩
  | 124 => ⟨S1x1024, .f32⟩
  | 125 => ⟨S1024x1024, .f32⟩
  | 126 => ⟨S1024x1024, .bf16⟩
  | 127 => ⟨S1024, .f32⟩
  | _ => ⟨S2x8192x1024, .f32⟩

abbrev hbmTy0_1 (i : Nat) : BufTy := match i % 128 with
  | 0 => ⟨S1x1024, .f32⟩
  | 1 => ⟨S1024, .f32⟩
  | 2 => ⟨S1x1024, .f32⟩
  | 3 => ⟨S2048x1024, .f32⟩
  | 4 => ⟨S2048x1024, .bf16⟩
  | 5 => ⟨S1x1024, .f32⟩
  | 6 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x7168, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S2048x1024, .bf16⟩
  | .local _ .vmem, ⟨14, _⟩ => ⟨S1x1024, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S4x256x256, .f32⟩
  | .local _ .vmem, ⟨20, _⟩ => ⟨S4x256x256, .f32⟩
  | .local _ .vmem, ⟨21, _⟩ => ⟨S4x256x128, .f32⟩
  | .local _ .vmem, ⟨22, _⟩ => ⟨S4x1x256, .f32⟩
  | .local _ .vmem, ⟨23, _⟩ => ⟨S1x256x1024, .f32⟩
  | .local _ .vmem, ⟨24, _⟩ => ⟨S1x256x1024, .f32⟩
  | .local _ .vmem, ⟨25, _⟩ => ⟨S256x1024, .bf16⟩
  | .local _ .vmem, ⟨26, _⟩ => ⟨S256x7168, .f32⟩
  | .local _ .vmem, ⟨27, _⟩ => ⟨S288x1024, .f32⟩
  | .local _ .vmem, ⟨28, _⟩ => ⟨S7x280x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x2048, .bf16⟩
  | .local _ .vmem, ⟨37, _⟩ => ⟨S256x1024, .f32⟩
  | .local _ .vmem, ⟨38, _⟩ => ⟨S4x256x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v1 : Ref sig .tc := ⟨.hbm, 36, rfl⟩
abbrev main_cst_1 : Ref sig .tc := ⟨.hbm, 37, rfl⟩
abbrev main_v2 : Ref sig .tc := ⟨.hbm, 38, rfl⟩
abbrev main_v3 : Ref sig .tc := ⟨.hbm, 39, rfl⟩
abbrev main_cst_2 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_3 : Ref sig .tc := ⟨.hbm, 52, rfl⟩
abbrev main_v15 : Ref sig .tc := ⟨.hbm, 53, rfl⟩
abbrev main_v16 : Ref sig .tc := ⟨.hbm, 54, rfl⟩
abbrev main_cst_4 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_5 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_8 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v39 : Ref sig .tc := ⟨.hbm, 85, rfl⟩
abbrev main_v40 : Ref sig .tc := ⟨.hbm, 86, rfl⟩
abbrev main_cst_9 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_10 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_11 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_9 : BitVec 32 := 0#32
  let c8_i32 : BitVec 32 := 8#32
  let v13 : BitVec 32 := Scalar.addi c0_i32_9 c8_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg36 : BitVec 32 := Scf.iv c0_i32_9 c1_i32 k0_t1
  let c32_i32 : BitVec 32 := 32#32
  let v339 : BitVec 32 := Scalar.muli arg36 c32_i32
  v339
def k0_off1 (k0_t1 : Fin k0_t1_loop.trips) : Fin 3 → Nat :=
  let c0_257 : Index := 0#32
  let c0_i32_9 : BitVec 32 := 0#32
  let c1_i32 : BitVec 32 := 1#32
  let arg36 : BitVec 32 := Scf.iv c0_i32_9 c1_i32 k0_t1
  let c32_i32 : BitVec 32 := 32#32
  let v339 : BitVec 32 := Scalar.muli arg36 c32_i32
  let v340 : BitVec 32 := v339
  let v341 : Index := Scalar.indexCast v340
  let c0_258 : Index := 0#32
  ![0, v341.toNat, 0]
def k0_off2 (k0_t1 : Fin k0_t1_loop.trips) : Fin 2 → Nat :=
  let c0_i32_9 : BitVec 32 := 0#32
  let c1_i32 : BitVec 32 := 1#32
  let arg36 : BitVec 32 := Scf.iv c0_i32_9 c1_i32 k0_t1
  let c32_i32 : BitVec 32 := 32#32
  let v339 : BitVec 32 := Scalar.muli arg36 c32_i32
  let v340 : BitVec 32 := v339
  let v361 : Index := Scalar.indexCast v340
  let c0_262 : Index := 0#32
  ![v361.toNat, 0]
@[reducible] def k0_t2_loop : Scf.Loop 32 :=
  let c0_i32_18 : BitVec 32 := 0#32
  let c8_i32_19 : BitVec 32 := 8#32
  let v21 : BitVec 32 := Scalar.addi c0_i32_18 c8_i32_19
  let c1_i32_20 : BitVec 32 := 1#32
  ⟨c0_i32_18, v21, c1_i32_20⟩
def k0_mult2 (k0_t2 : Fin k0_t2_loop.trips) : BitVec 32 :=
  let c0_i32_18 : BitVec 32 := 0#32
  let c1_i32_20 : BitVec 32 := 1#32
  let arg36 : BitVec 32 := Scf.iv c0_i32_18 c1_i32_20 k0_t2
  let c32_i32 : BitVec 32 := 32#32
  let v339 : BitVec 32 := Scalar.muli arg36 c32_i32
  v339
def k0_off3 (k0_t2 : Fin k0_t2_loop.trips) : Fin 2 → Nat :=
  let c0_i32_18 : BitVec 32 := 0#32
  let c1_i32_20 : BitVec 32 := 1#32
  let arg36 : BitVec 32 := Scf.iv c0_i32_18 c1_i32_20 k0_t2
  let c32_i32 : BitVec 32 := 32#32
  let v339 : BitVec 32 := Scalar.muli arg36 c32_i32
  let v340 : BitVec 32 := v339
  let v341 : Index := Scalar.indexCast v340
  let c0_257 : Index := 0#32
  ![v341.toNat, 0]
def k0_off4 (k0_t2 : Fin k0_t2_loop.trips) : Fin 2 → Nat :=
  let c0_i32_18 : BitVec 32 := 0#32
  let c1_i32_20 : BitVec 32 := 1#32
  let arg36 : BitVec 32 := Scf.iv c0_i32_18 c1_i32_20 k0_t2
  let c32_i32 : BitVec 32 := 32#32
  let v339 : BitVec 32 := Scalar.muli arg36 c32_i32
  let v340 : BitVec 32 := v339
  let v343 : Index := Scalar.indexCast v340
  let c1024_258 : Index := 1024#32
  ![v343.toNat, 1024]
def k0_off5 (k0_t2 : Fin k0_t2_loop.trips) : Fin 2 → Nat :=
  let c32_i32_262 : BitVec 32 := 32#32
  let c0_i32_18 : BitVec 32 := 0#32
  let c1_i32_20 : BitVec 32 := 1#32
  let arg36 : BitVec 32 := Scf.iv c0_i32_18 c1_i32_20 k0_t2
  let c32_i32 : BitVec 32 := 32#32
  let v339 : BitVec 32 := Scalar.muli arg36 c32_i32
  let v340 : BitVec 32 := v339
  let v353 : BitVec 32 := Scalar.addi c32_i32_262 v340
  let v354 : Index := Scalar.indexCast v353
  let c0_263 : Index := 0#32
  ![v354.toNat, 0]
@[reducible] def k0_t3_loop : Scf.Loop 32 :=
  let c0_i32_52 : BitVec 32 := 0#32
  let c8_i32_53 : BitVec 32 := 8#32
  let v50 : BitVec 32 := Scalar.addi c0_i32_52 c8_i32_53
  let c1_i32_54 : BitVec 32 := 1#32
  ⟨c0_i32_52, v50, c1_i32_54⟩
def k0_mult3 (k0_t3 : Fin k0_t3_loop.trips) : BitVec 32 :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  v339
def k0_off6 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v345 : Index := Scalar.indexCast v340
  let c0_259 : Index := 0#32
  ![v345.toNat, 0]
def k0_off7 (k0_t3 : Fin k0_t3_loop.trips) : Fin 3 → Nat :=
  let c0_265 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v371 : Index := Scalar.indexCast v340
  let c0_266 : Index := 0#32
  ![0, v371.toNat, 0]
def k0_off8 (k0_t3 : Fin k0_t3_loop.trips) : Fin 3 → Nat :=
  let c1_271 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v392 : Index := Scalar.indexCast v340
  let c0_272 : Index := 0#32
  ![1, v392.toNat, 0]
def k0_off9 (k0_t3 : Fin k0_t3_loop.trips) : Fin 3 → Nat :=
  let c2_278 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v419 : Index := Scalar.indexCast v340
  let c0_279 : Index := 0#32
  ![2, v419.toNat, 0]
def k0_off10 (k0_t3 : Fin k0_t3_loop.trips) : Fin 3 → Nat :=
  let c3_285 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v446 : Index := Scalar.indexCast v340
  let c0_286 : Index := 0#32
  ![3, v446.toNat, 0]
def k0_off11 (k0_t3 : Fin k0_t3_loop.trips) : Fin 3 → Nat :=
  let c4_292 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v473 : Index := Scalar.indexCast v340
  let c0_293 : Index := 0#32
  ![4, v473.toNat, 0]
def k0_off12 (k0_t3 : Fin k0_t3_loop.trips) : Fin 3 → Nat :=
  let c5_299 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v500 : Index := Scalar.indexCast v340
  let c0_300 : Index := 0#32
  ![5, v500.toNat, 0]
def k0_off13 (k0_t3 : Fin k0_t3_loop.trips) : Fin 3 → Nat :=
  let c6_306 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v527 : Index := Scalar.indexCast v340
  let c0_307 : Index := 0#32
  ![6, v527.toNat, 0]
def k0_off14 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v554 : Index := Scalar.indexCast v340
  let c0_313 : Index := 0#32
  ![v554.toNat, 0]
def k0_off15 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v562 : Index := Scalar.indexCast v340
  let c128_315 : Index := 128#32
  ![v562.toNat, 128]
def k0_off16 (k0_t3 : Fin k0_t3_loop.trips) : Fin 3 → Nat :=
  let c0_324 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v588 : Index := Scalar.indexCast v340
  let c128_325 : Index := 128#32
  ![0, v588.toNat, 128]
def k0_off17 (k0_t3 : Fin k0_t3_loop.trips) : Fin 3 → Nat :=
  let c1_332 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v609 : Index := Scalar.indexCast v340
  let c128_333 : Index := 128#32
  ![1, v609.toNat, 128]
def k0_off18 (k0_t3 : Fin k0_t3_loop.trips) : Fin 3 → Nat :=
  let c2_342 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v636 : Index := Scalar.indexCast v340
  let c128_343 : Index := 128#32
  ![2, v636.toNat, 128]
def k0_off19 (k0_t3 : Fin k0_t3_loop.trips) : Fin 3 → Nat :=
  let c3_352 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v663 : Index := Scalar.indexCast v340
  let c128_353 : Index := 128#32
  ![3, v663.toNat, 128]
def k0_off20 (k0_t3 : Fin k0_t3_loop.trips) : Fin 3 → Nat :=
  let c4_362 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v690 : Index := Scalar.indexCast v340
  let c128_363 : Index := 128#32
  ![4, v690.toNat, 128]
def k0_off21 (k0_t3 : Fin k0_t3_loop.trips) : Fin 3 → Nat :=
  let c5_372 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v717 : Index := Scalar.indexCast v340
  let c128_373 : Index := 128#32
  ![5, v717.toNat, 128]
def k0_off22 (k0_t3 : Fin k0_t3_loop.trips) : Fin 3 → Nat :=
  let c6_382 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v744 : Index := Scalar.indexCast v340
  let c128_383 : Index := 128#32
  ![6, v744.toNat, 128]
def k0_off23 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v771 : Index := Scalar.indexCast v340
  let c128_392 : Index := 128#32
  ![v771.toNat, 128]
def k0_off24 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v779 : Index := Scalar.indexCast v340
  let c256_395 : Index := 256#32
  ![v779.toNat, 256]
def k0_off25 (k0_t3 : Fin k0_t3_loop.trips) : Fin 3 → Nat :=
  let c0_404 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v805 : Index := Scalar.indexCast v340
  let c256_405 : Index := 256#32
  ![0, v805.toNat, 256]
def k0_off26 (k0_t3 : Fin k0_t3_loop.trips) : Fin 3 → Nat :=
  let c1_412 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v826 : Index := Scalar.indexCast v340
  let c256_413 : Index := 256#32
  ![1, v826.toNat, 256]
def k0_off27 (k0_t3 : Fin k0_t3_loop.trips) : Fin 3 → Nat :=
  let c2_422 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v853 : Index := Scalar.indexCast v340
  let c256_423 : Index := 256#32
  ![2, v853.toNat, 256]
def k0_off28 (k0_t3 : Fin k0_t3_loop.trips) : Fin 3 → Nat :=
  let c3_432 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v880 : Index := Scalar.indexCast v340
  let c256_433 : Index := 256#32
  ![3, v880.toNat, 256]
def k0_off29 (k0_t3 : Fin k0_t3_loop.trips) : Fin 3 → Nat :=
  let c4_442 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v907 : Index := Scalar.indexCast v340
  let c256_443 : Index := 256#32
  ![4, v907.toNat, 256]
def k0_off30 (k0_t3 : Fin k0_t3_loop.trips) : Fin 3 → Nat :=
  let c5_452 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v934 : Index := Scalar.indexCast v340
  let c256_453 : Index := 256#32
  ![5, v934.toNat, 256]
def k0_off31 (k0_t3 : Fin k0_t3_loop.trips) : Fin 3 → Nat :=
  let c6_462 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v961 : Index := Scalar.indexCast v340
  let c256_463 : Index := 256#32
  ![6, v961.toNat, 256]
def k0_off32 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v988 : Index := Scalar.indexCast v340
  let c256_472 : Index := 256#32
  ![v988.toNat, 256]
def k0_off33 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v996 : Index := Scalar.indexCast v340
  let c384_474 : Index := 384#32
  ![v996.toNat, 384]
def k0_off34 (k0_t3 : Fin k0_t3_loop.trips) : Fin 3 → Nat :=
  let c0_483 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1022 : Index := Scalar.indexCast v340
  let c384_484 : Index := 384#32
  ![0, v1022.toNat, 384]
def k0_off35 (k0_t3 : Fin k0_t3_loop.trips) : Fin 3 → Nat :=
  let c1_491 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1043 : Index := Scalar.indexCast v340
  let c384_492 : Index := 384#32
  ![1, v1043.toNat, 384]
def k0_off36 (k0_t3 : Fin k0_t3_loop.trips) : Fin 3 → Nat :=
  let c2_501 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1070 : Index := Scalar.indexCast v340
  let c384_502 : Index := 384#32
  ![2, v1070.toNat, 384]
def k0_off37 (k0_t3 : Fin k0_t3_loop.trips) : Fin 3 → Nat :=
  let c3_511 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1097 : Index := Scalar.indexCast v340
  let c384_512 : Index := 384#32
  ![3, v1097.toNat, 384]
def k0_off38 (k0_t3 : Fin k0_t3_loop.trips) : Fin 3 → Nat :=
  let c4_521 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1124 : Index := Scalar.indexCast v340
  let c384_522 : Index := 384#32
  ![4, v1124.toNat, 384]
def k0_off39 (k0_t3 : Fin k0_t3_loop.trips) : Fin 3 → Nat :=
  let c5_531 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1151 : Index := Scalar.indexCast v340
  let c384_532 : Index := 384#32
  ![5, v1151.toNat, 384]
def k0_off40 (k0_t3 : Fin k0_t3_loop.trips) : Fin 3 → Nat :=
  let c6_541 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1178 : Index := Scalar.indexCast v340
  let c384_542 : Index := 384#32
  ![6, v1178.toNat, 384]
def k0_off41 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1205 : Index := Scalar.indexCast v340
  let c384_551 : Index := 384#32
  ![v1205.toNat, 384]
def k0_off42 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1213 : Index := Scalar.indexCast v340
  let c512_554 : Index := 512#32
  ![v1213.toNat, 512]
def k0_off43 (k0_t3 : Fin k0_t3_loop.trips) : Fin 3 → Nat :=
  let c0_563 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1239 : Index := Scalar.indexCast v340
  let c512_564 : Index := 512#32
  ![0, v1239.toNat, 512]
def k0_off44 (k0_t3 : Fin k0_t3_loop.trips) : Fin 3 → Nat :=
  let c1_571 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1260 : Index := Scalar.indexCast v340
  let c512_572 : Index := 512#32
  ![1, v1260.toNat, 512]
def k0_off45 (k0_t3 : Fin k0_t3_loop.trips) : Fin 3 → Nat :=
  let c2_581 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1287 : Index := Scalar.indexCast v340
  let c512_582 : Index := 512#32
  ![2, v1287.toNat, 512]
def k0_off46 (k0_t3 : Fin k0_t3_loop.trips) : Fin 3 → Nat :=
  let c3_591 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1314 : Index := Scalar.indexCast v340
  let c512_592 : Index := 512#32
  ![3, v1314.toNat, 512]
def k0_off47 (k0_t3 : Fin k0_t3_loop.trips) : Fin 3 → Nat :=
  let c4_601 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1341 : Index := Scalar.indexCast v340
  let c512_602 : Index := 512#32
  ![4, v1341.toNat, 512]
def k0_off48 (k0_t3 : Fin k0_t3_loop.trips) : Fin 3 → Nat :=
  let c5_611 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1368 : Index := Scalar.indexCast v340
  let c512_612 : Index := 512#32
  ![5, v1368.toNat, 512]
def k0_off49 (k0_t3 : Fin k0_t3_loop.trips) : Fin 3 → Nat :=
  let c6_621 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1395 : Index := Scalar.indexCast v340
  let c512_622 : Index := 512#32
  ![6, v1395.toNat, 512]
def k0_off50 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1422 : Index := Scalar.indexCast v340
  let c512_631 : Index := 512#32
  ![v1422.toNat, 512]
def k0_off51 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1430 : Index := Scalar.indexCast v340
  let c640_633 : Index := 640#32
  ![v1430.toNat, 640]
def k0_off52 (k0_t3 : Fin k0_t3_loop.trips) : Fin 3 → Nat :=
  let c0_642 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1456 : Index := Scalar.indexCast v340
  let c640_643 : Index := 640#32
  ![0, v1456.toNat, 640]
def k0_off53 (k0_t3 : Fin k0_t3_loop.trips) : Fin 3 → Nat :=
  let c1_650 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1477 : Index := Scalar.indexCast v340
  let c640_651 : Index := 640#32
  ![1, v1477.toNat, 640]
def k0_off54 (k0_t3 : Fin k0_t3_loop.trips) : Fin 3 → Nat :=
  let c2_660 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1504 : Index := Scalar.indexCast v340
  let c640_661 : Index := 640#32
  ![2, v1504.toNat, 640]
def k0_off55 (k0_t3 : Fin k0_t3_loop.trips) : Fin 3 → Nat :=
  let c3_670 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1531 : Index := Scalar.indexCast v340
  let c640_671 : Index := 640#32
  ![3, v1531.toNat, 640]
def k0_off56 (k0_t3 : Fin k0_t3_loop.trips) : Fin 3 → Nat :=
  let c4_680 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1558 : Index := Scalar.indexCast v340
  let c640_681 : Index := 640#32
  ![4, v1558.toNat, 640]
def k0_off57 (k0_t3 : Fin k0_t3_loop.trips) : Fin 3 → Nat :=
  let c5_690 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1585 : Index := Scalar.indexCast v340
  let c640_691 : Index := 640#32
  ![5, v1585.toNat, 640]
def k0_off58 (k0_t3 : Fin k0_t3_loop.trips) : Fin 3 → Nat :=
  let c6_700 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1612 : Index := Scalar.indexCast v340
  let c640_701 : Index := 640#32
  ![6, v1612.toNat, 640]
def k0_off59 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1639 : Index := Scalar.indexCast v340
  let c640_710 : Index := 640#32
  ![v1639.toNat, 640]
def k0_off60 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1647 : Index := Scalar.indexCast v340
  let c768_713 : Index := 768#32
  ![v1647.toNat, 768]
def k0_off61 (k0_t3 : Fin k0_t3_loop.trips) : Fin 3 → Nat :=
  let c0_722 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1673 : Index := Scalar.indexCast v340
  let c768_723 : Index := 768#32
  ![0, v1673.toNat, 768]
def k0_off62 (k0_t3 : Fin k0_t3_loop.trips) : Fin 3 → Nat :=
  let c1_730 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1694 : Index := Scalar.indexCast v340
  let c768_731 : Index := 768#32
  ![1, v1694.toNat, 768]
def k0_off63 (k0_t3 : Fin k0_t3_loop.trips) : Fin 3 → Nat :=
  let c2_740 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1721 : Index := Scalar.indexCast v340
  let c768_741 : Index := 768#32
  ![2, v1721.toNat, 768]
def k0_off64 (k0_t3 : Fin k0_t3_loop.trips) : Fin 3 → Nat :=
  let c3_750 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1748 : Index := Scalar.indexCast v340
  let c768_751 : Index := 768#32
  ![3, v1748.toNat, 768]
def k0_off65 (k0_t3 : Fin k0_t3_loop.trips) : Fin 3 → Nat :=
  let c4_760 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1775 : Index := Scalar.indexCast v340
  let c768_761 : Index := 768#32
  ![4, v1775.toNat, 768]
def k0_off66 (k0_t3 : Fin k0_t3_loop.trips) : Fin 3 → Nat :=
  let c5_770 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1802 : Index := Scalar.indexCast v340
  let c768_771 : Index := 768#32
  ![5, v1802.toNat, 768]
def k0_off67 (k0_t3 : Fin k0_t3_loop.trips) : Fin 3 → Nat :=
  let c6_780 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1829 : Index := Scalar.indexCast v340
  let c768_781 : Index := 768#32
  ![6, v1829.toNat, 768]
def k0_off68 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1856 : Index := Scalar.indexCast v340
  let c768_790 : Index := 768#32
  ![v1856.toNat, 768]
def k0_off69 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1864 : Index := Scalar.indexCast v340
  let c896_792 : Index := 896#32
  ![v1864.toNat, 896]
def k0_off70 (k0_t3 : Fin k0_t3_loop.trips) : Fin 3 → Nat :=
  let c0_801 : Index := 0#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1890 : Index := Scalar.indexCast v340
  let c896_802 : Index := 896#32
  ![0, v1890.toNat, 896]
def k0_off71 (k0_t3 : Fin k0_t3_loop.trips) : Fin 3 → Nat :=
  let c1_809 : Index := 1#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1911 : Index := Scalar.indexCast v340
  let c896_810 : Index := 896#32
  ![1, v1911.toNat, 896]
def k0_off72 (k0_t3 : Fin k0_t3_loop.trips) : Fin 3 → Nat :=
  let c2_819 : Index := 2#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1938 : Index := Scalar.indexCast v340
  let c896_820 : Index := 896#32
  ![2, v1938.toNat, 896]
def k0_off73 (k0_t3 : Fin k0_t3_loop.trips) : Fin 3 → Nat :=
  let c3_829 : Index := 3#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1965 : Index := Scalar.indexCast v340
  let c896_830 : Index := 896#32
  ![3, v1965.toNat, 896]
def k0_off74 (k0_t3 : Fin k0_t3_loop.trips) : Fin 3 → Nat :=
  let c4_839 : Index := 4#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v1992 : Index := Scalar.indexCast v340
  let c896_840 : Index := 896#32
  ![4, v1992.toNat, 896]
def k0_off75 (k0_t3 : Fin k0_t3_loop.trips) : Fin 3 → Nat :=
  let c5_849 : Index := 5#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v2019 : Index := Scalar.indexCast v340
  let c896_850 : Index := 896#32
  ![5, v2019.toNat, 896]
def k0_off76 (k0_t3 : Fin k0_t3_loop.trips) : Fin 3 → Nat :=
  let c6_859 : Index := 6#32
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v2046 : Index := Scalar.indexCast v340
  let c896_860 : Index := 896#32
  ![6, v2046.toNat, 896]
def k0_off77 (k0_t3 : Fin k0_t3_loop.trips) : Fin 2 → Nat :=
  let c0_i32_52 : BitVec 32 := 0#32
  let c1_i32_54 : BitVec 32 := 1#32
  let arg36 : BitVec 32 := Scf.iv c0_i32_52 c1_i32_54 k0_t3
  let c32_i32 : BitVec 32 := 32#32
  let v339 : BitVec 32 := Scalar.muli arg36 c32_i32
  let v340 : BitVec 32 := v339
  let v2073 : Index := Scalar.indexCast v340
  let c896_869 : Index := 896#32
  ![v2073.toNat, 896]
@[reducible] def k0_t4_loop : Scf.Loop 32 :=
  let c0_i32_63 : BitVec 32 := 0#32
  let c8_i32_64 : BitVec 32 := 8#32
  let v59 : BitVec 32 := Scalar.addi c0_i32_63 c8_i32_64
  let c1_i32_65 : BitVec 32 := 1#32
  ⟨c0_i32_63, v59, c1_i32_65⟩
def k0_mult4 (k0_t4 : Fin k0_t4_loop.trips) : BitVec 32 :=
  let c0_i32_63 : BitVec 32 := 0#32
  let c1_i32_65 : BitVec 32 := 1#32
  let arg36 : BitVec 32 := Scf.iv c0_i32_63 c1_i32_65 k0_t4
  let c32_i32 : BitVec 32 := 32#32
  let v339 : BitVec 32 := Scalar.muli arg36 c32_i32
  v339
def k0_off78 (k0_t4 : Fin k0_t4_loop.trips) : Fin 2 → Nat :=
  let c0_i32_63 : BitVec 32 := 0#32
  let c1_i32_65 : BitVec 32 := 1#32
  let arg36 : BitVec 32 := Scf.iv c0_i32_63 c1_i32_65 k0_t4
  let c32_i32 : BitVec 32 := 32#32
  let v339 : BitVec 32 := Scalar.muli arg36 c32_i32
  let v340 : BitVec 32 := v339
  let v341 : Index := Scalar.indexCast v340
  let c0_257 : Index := 0#32
  ![v341.toNat, 0]
@[reducible] def k0_t5_loop : Scf.Loop 32 :=
  let c0_i32_74 : BitVec 32 := 0#32
  let c8_i32_75 : BitVec 32 := 8#32
  let v67 : BitVec 32 := Scalar.addi c0_i32_74 c8_i32_75
  let c1_i32_76 : BitVec 32 := 1#32
  ⟨c0_i32_74, v67, c1_i32_76⟩
def k0_mult5 (k0_t5 : Fin k0_t5_loop.trips) : BitVec 32 :=
  let c0_i32_74 : BitVec 32 := 0#32
  let c1_i32_76 : BitVec 32 := 1#32
  let arg36 : BitVec 32 := Scf.iv c0_i32_74 c1_i32_76 k0_t5
  let c32_i32 : BitVec 32 := 32#32
  let v339 : BitVec 32 := Scalar.muli arg36 c32_i32
  v339
def k0_off79 (k0_t5 : Fin k0_t5_loop.trips) : Fin 2 → Nat :=
  let c0_i32_74 : BitVec 32 := 0#32
  let c1_i32_76 : BitVec 32 := 1#32
  let arg36 : BitVec 32 := Scf.iv c0_i32_74 c1_i32_76 k0_t5
  let c32_i32 : BitVec 32 := 32#32
  let v339 : BitVec 32 := Scalar.muli arg36 c32_i32
  let v340 : BitVec 32 := v339
  let v341 : Index := Scalar.indexCast v340
  let c2048 : Index := 2048#32
  ![v341.toNat, 2048]
def k0_off80 (k0_t5 : Fin k0_t5_loop.trips) : Fin 2 → Nat :=
  let c0_i32_74 : BitVec 32 := 0#32
  let c1_i32_76 : BitVec 32 := 1#32
  let arg36 : BitVec 32 := Scf.iv c0_i32_74 c1_i32_76 k0_t5
  let c32_i32 : BitVec 32 := 32#32
  let v339 : BitVec 32 := Scalar.muli arg36 c32_i32
  let v340 : BitVec 32 := v339
  let v343 : Index := Scalar.indexCast v340
  let c0_257 : Index := 0#32
  ![v343.toNat, 0]
def k0_off81 (k0_t5 : Fin k0_t5_loop.trips) : Fin 2 → Nat :=
  let c0_i32_74 : BitVec 32 := 0#32
  let c1_i32_76 : BitVec 32 := 1#32
  let arg36 : BitVec 32 := Scf.iv c0_i32_74 c1_i32_76 k0_t5
  let c32_i32 : BitVec 32 := 32#32
  let v339 : BitVec 32 := Scalar.muli arg36 c32_i32
  let v340 : BitVec 32 := v339
  let v355 : Index := Scalar.indexCast v340
  let c0_261 : Index := 0#32
  ![v355.toNat, 0]
@[reducible] def k0_t6_loop : Scf.Loop 32 :=
  let c0_i32_78 : BitVec 32 := 0#32
  let c8_i32_79 : BitVec 32 := 8#32
  let v68 : BitVec 32 := Scalar.addi c0_i32_78 c8_i32_79
  let c1_i32_80 : BitVec 32 := 1#32
  ⟨c0_i32_78, v68, c1_i32_80⟩
def k0_mult6 (k0_t6 : Fin k0_t6_loop.trips) : BitVec 32 :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  v339
def k0_off82 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v341 : Index := Scalar.indexCast v340
  let c0_257 : Index := 0#32
  ![v341.toNat, 0]
def k0_off83 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v347 : Index := Scalar.indexCast v340
  let c3072 : Index := 3072#32
  ![v347.toNat, 3072]
def k0_off84 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v349 : Index := Scalar.indexCast v340
  let c3200 : Index := 3200#32
  ![v349.toNat, 3200]
def k0_off85 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v355 : Index := Scalar.indexCast v340
  let c0_259 : Index := 0#32
  ![v355.toNat, 0]
def k0_off86 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v363 : Index := Scalar.indexCast v340
  let c128 : Index := 128#32
  ![v363.toNat, 128]
def k0_off87 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v367 : Index := Scalar.indexCast v340
  let c4096 : Index := 4096#32
  ![v367.toNat, 4096]
def k0_off88 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v369 : Index := Scalar.indexCast v340
  let c4224 : Index := 4224#32
  ![v369.toNat, 4224]
def k0_off89 (k0_t6 : Fin k0_t6_loop.trips) : Fin 3 → Nat :=
  let c0_264 : Index := 0#32
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v391 : Index := Scalar.indexCast v340
  let c0_265 : Index := 0#32
  ![0, v391.toNat, 0]
def k0_off90 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v406 : Index := Scalar.indexCast v340
  let c3328 : Index := 3328#32
  ![v406.toNat, 3328]
def k0_off91 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v408 : Index := Scalar.indexCast v340
  let c3456 : Index := 3456#32
  ![v408.toNat, 3456]
def k0_off92 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v414 : Index := Scalar.indexCast v340
  let c256_268 : Index := 256#32
  ![v414.toNat, 256]
def k0_off93 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v422 : Index := Scalar.indexCast v340
  let c384 : Index := 384#32
  ![v422.toNat, 384]
def k0_off94 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v426 : Index := Scalar.indexCast v340
  let c4352 : Index := 4352#32
  ![v426.toNat, 4352]
def k0_off95 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v428 : Index := Scalar.indexCast v340
  let c4480 : Index := 4480#32
  ![v428.toNat, 4480]
def k0_off96 (k0_t6 : Fin k0_t6_loop.trips) : Fin 3 → Nat :=
  let c1_273 : Index := 1#32
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v450 : Index := Scalar.indexCast v340
  let c0_274 : Index := 0#32
  ![1, v450.toNat, 0]
def k0_off97 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v465 : Index := Scalar.indexCast v340
  let c3584 : Index := 3584#32
  ![v465.toNat, 3584]
def k0_off98 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v467 : Index := Scalar.indexCast v340
  let c3712 : Index := 3712#32
  ![v467.toNat, 3712]
def k0_off99 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v473 : Index := Scalar.indexCast v340
  let c512_277 : Index := 512#32
  ![v473.toNat, 512]
def k0_off100 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v481 : Index := Scalar.indexCast v340
  let c640 : Index := 640#32
  ![v481.toNat, 640]
def k0_off101 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v485 : Index := Scalar.indexCast v340
  let c4608 : Index := 4608#32
  ![v485.toNat, 4608]
def k0_off102 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v487 : Index := Scalar.indexCast v340
  let c4736 : Index := 4736#32
  ![v487.toNat, 4736]
def k0_off103 (k0_t6 : Fin k0_t6_loop.trips) : Fin 3 → Nat :=
  let c2_282 : Index := 2#32
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v509 : Index := Scalar.indexCast v340
  let c0_283 : Index := 0#32
  ![2, v509.toNat, 0]
def k0_off104 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v524 : Index := Scalar.indexCast v340
  let c3840 : Index := 3840#32
  ![v524.toNat, 3840]
def k0_off105 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v526 : Index := Scalar.indexCast v340
  let c3968 : Index := 3968#32
  ![v526.toNat, 3968]
def k0_off106 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v532 : Index := Scalar.indexCast v340
  let c768_286 : Index := 768#32
  ![v532.toNat, 768]
def k0_off107 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v540 : Index := Scalar.indexCast v340
  let c896 : Index := 896#32
  ![v540.toNat, 896]
def k0_off108 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v544 : Index := Scalar.indexCast v340
  let c4864 : Index := 4864#32
  ![v544.toNat, 4864]
def k0_off109 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v546 : Index := Scalar.indexCast v340
  let c4992 : Index := 4992#32
  ![v546.toNat, 4992]
def k0_off110 (k0_t6 : Fin k0_t6_loop.trips) : Fin 3 → Nat :=
  let c3_291 : Index := 3#32
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v568 : Index := Scalar.indexCast v340
  let c0_292 : Index := 0#32
  ![3, v568.toNat, 0]
def k0_off111 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v583 : Index := Scalar.indexCast v340
  let c5120 : Index := 5120#32
  ![v583.toNat, 5120]
def k0_off112 (k0_t6 : Fin k0_t6_loop.trips) : Fin 2 → Nat :=
  let c0_i32_78 : BitVec 32 := 0#32
  let c1_i32_80 : BitVec 32 := 1#32
  let arg36 : BitVec 32 := Scf.iv c0_i32_78 c1_i32_80 k0_t6
  let c32_i32 : BitVec 32 := 32#32
  let v339 : BitVec 32 := Scalar.muli arg36 c32_i32
  let v340 : BitVec 32 := v339
  let v586 : Index := Scalar.indexCast v340
  let c0_295 : Index := 0#32
  ![v586.toNat, 0]
@[reducible] def k0_t7_loop : Scf.Loop 32 :=
  let c0_i32_253 : BitVec 32 := 0#32
  let c8_i32_254 : BitVec 32 := 8#32
  let v338 : BitVec 32 := Scalar.addi c0_i32_253 c8_i32_254
  let c1_i32_255 : BitVec 32 := 1#32
  ⟨c0_i32_253, v338, c1_i32_255⟩
def k0_mult7 (k0_t7 : Fin k0_t7_loop.trips) : BitVec 32 :=
  let c0_i32_253 : BitVec 32 := 0#32
  let c1_i32_255 : BitVec 32 := 1#32
  let arg36 : BitVec 32 := Scf.iv c0_i32_253 c1_i32_255 k0_t7
  let c32_i32 : BitVec 32 := 32#32
  let v339 : BitVec 32 := Scalar.muli arg36 c32_i32
  v339
def k0_off113 (k0_t7 : Fin k0_t7_loop.trips) : Fin 3 → Nat :=
  let c0_257 : Index := 0#32
  let c0_i32_253 : BitVec 32 := 0#32
  let c1_i32_255 : BitVec 32 := 1#32
  let arg36 : BitVec 32 := Scf.iv c0_i32_253 c1_i32_255 k0_t7
  let c32_i32 : BitVec 32 := 32#32
  let v339 : BitVec 32 := Scalar.muli arg36 c32_i32
  let v340 : BitVec 32 := v339
  let v341 : Index := Scalar.indexCast v340
  let c0_258 : Index := 0#32
  ![0, v341.toNat, 0]
def k0_off114 (k0_t7 : Fin k0_t7_loop.trips) : Fin 2 → Nat :=
  let c0_i32_253 : BitVec 32 := 0#32
  let c1_i32_255 : BitVec 32 := 1#32
  let arg36 : BitVec 32 := Scf.iv c0_i32_253 c1_i32_255 k0_t7
  let c32_i32 : BitVec 32 := 32#32
  let v339 : BitVec 32 := Scalar.muli arg36 c32_i32
  let v340 : BitVec 32 := v339
  let v344 : Index := Scalar.indexCast v340
  let c0_259 : Index := 0#32
  ![v344.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S4x256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S2x8192x1024 : Shape := ⟨3, ![2, 8192, 1024]⟩
abbrev S2x3072 : Shape := ⟨2, ![2, 3072]⟩
abbrev S1x1024 : Shape := ⟨2, ![1, 1024]⟩
abbrev S1x1024x7168 : Shape := ⟨3, ![1, 1024, 7168]⟩
abbrev S1x31x1024 : Shape := ⟨3, ![1, 31, 1024]⟩
abbrev S1x1024x1024 : Shape := ⟨3, ![1, 1024, 1024]⟩
abbrev S1x2048x1024 : Shape := ⟨3, ![1, 2048, 1024]⟩
abbrev S1024 : Shape := ⟨1, ![1024]⟩
abbrev S2x1x3072 : Shape := ⟨3, ![2, 1, 3072]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x7168 : Shape := ⟨2, ![1024, 7168]⟩
abbrev S2x8192x7168 : Shape := ⟨3, ![2, 8192, 7168]⟩
abbrev S2x8192x4x256 : Shape := ⟨4, ![2, 8192, 4, 256]⟩
abbrev S31x1024 : Shape := ⟨2, ![31, 1024]⟩
abbrev S2x8222x1024 : Shape := ⟨3, ![2, 8222, 1024]⟩
abbrev S1024x1024 : Shape := ⟨2, ![1024, 1024]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S2x8192x4x128 : Shape := ⟨4, ![2, 8192, 4, 128]⟩
abbrev S4 : Shape := ⟨1, ![4]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S2x4x8192x8192 : Shape := ⟨4, ![2, 4, 8192, 8192]⟩
abbrev S1x4x8192x8192 : Shape := ⟨4, ![1, 4, 8192, 8192]⟩
abbrev S2x4x256x8192 : Shape := ⟨4, ![2, 4, 256, 8192]⟩
abbrev S2x8192x4 : Shape := ⟨3, ![2, 8192, 4]⟩
abbrev S2x8192x4x1 : Shape := ⟨4, ![2, 8192, 4, 1]⟩
abbrev S2x8192x2048 : Shape := ⟨3, ![2, 8192, 2048]⟩
abbrev S2048x1024 : Shape := ⟨2, ![2048, 1024]⟩

abbrev nBuf : Space → Nat
  | .hbm => 550
  | .vmem => 0
  | .smem => 0
  | _ => 0

abbrev hbmTy0_0 (i : Nat) : BufTy := match i % 128 with
  | 0 => ⟨S2x8192x1024, .f32⟩
  | 1 => ⟨S2x3072, .f32⟩
  | 2 => ⟨S1x1024, .f32⟩
  | 3 => ⟨S1x1024x7168, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x1024, .f32⟩
  | 11 => ⟨S1x2048x1024, .f32⟩
  | 12 => ⟨S1024, .f32⟩
  | 13 => ⟨S2x1x3072, .f32⟩
  | 14 => ⟨S2x1x1024, .f32⟩
  | 15 => ⟨S2x1x1024, .f32⟩
  | 16 => ⟨S2x1x1024, .f32⟩
  | 17 => ⟨S1024, .f32⟩
  | 18 => ⟨S2x8192x1024, .f32⟩
  | 19 => ⟨S_, .f32⟩
  | 20 => ⟨S2x8192, .f32⟩
  | 21 => ⟨S2x8192x1, .f32⟩
  | 22 => ⟨S_, .f32⟩
  | 23 => ⟨S2x8192x1, .f32⟩
  | 24 => ⟨S2x8192x1, .f32⟩
  | 25 => ⟨S_, .f32⟩
  | 26 => ⟨S2x8192x1, .f32⟩
  | 27 => ⟨S2x8192x1, .f32⟩
  | 28 => ⟨S2x8192x1, .f32⟩
  | 29 => ⟨S2x8192x1024, .f32⟩
  | 30 => ⟨S2x8192x1024, .f32⟩
  | 31 => ⟨S1x1x1024, .f32⟩
  | 32 => ⟨S2x8192x1024, .f32⟩
  | 33 => ⟨S2x8192x1024, .f32⟩
  | 34 => ⟨S_, .f32⟩
  | 35 => ⟨S2x1x1024, .f32⟩
  | 36 => ⟨S2x1x1024, .f32⟩
  | 37 => ⟨S2x8192x1024, .f32⟩
  | 38 => ⟨S2x8192x1024, .f32⟩
  | 39 => ⟨S2x8192x1024, .f32⟩
  | 40 => ⟨S2x8192x1024, .f32⟩
  | 41 => ⟨S1024x7168, .f32⟩
  | 42 => ⟨S2x8192x7168, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x4x256, .f32⟩
  | 48 => ⟨S2x8192x1024, .f32⟩
  | 49 => ⟨S2x8192x4x256, .f32⟩
  | 50 => ⟨S2x8192x1024, .f32⟩
  | 51 => ⟨S2x8192x4x256, .f32⟩
  | 52 => ⟨S2x8192x1024, .f32⟩
  | 53 => ⟨S2x8192x1024, .f32⟩
  | 54 => ⟨S2x8192x1024, .f32⟩
  | 55 => ⟨S_, .f32⟩
  | 56 => ⟨S2x8192x1024, .f32⟩
  | 57 => ⟨S2x8192x1024, .f32⟩
  | 58 => ⟨S_, .f32⟩
  | 59 => ⟨S2x8192x1024, .f32⟩
  | 60 => ⟨S2x8192x1024, .f32⟩
  | 61 => ⟨S2x8192x1024, .f32⟩
  | 62 => ⟨S31x1024, .f32⟩
  | 63 => ⟨S1024, .f32⟩
  | 64 => ⟨S_, .i32⟩
  | 65 => ⟨S_, .f32⟩
  | 66 => ⟨S2x8222x1024, .f32⟩
  | 67 => ⟨S2x8192x1024, .f32⟩
  | 68 => ⟨S1x1024, .f32⟩
  | 69 => ⟨S1024, .f32⟩
  | 70 => ⟨S1x1x1024, .f32⟩
  | 71 => ⟨S2x8192x1024, .f32⟩
  | 72 => ⟨S2x8192x1024, .f32⟩
  | 73 => ⟨S2x8192x1024, .f32⟩
  | 74 => ⟨S1x1024, .f32⟩
  | 75 => ⟨S1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S1x1024, .f32⟩
  | 82 => ⟨S1024, .f32⟩
  | 83 => ⟨S1x1x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S1x1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S1x1024, .f32⟩
  | 96 => ⟨S1024, .f32⟩
  | 97 => ⟨S1x1x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S1x1024, .f32⟩
  | 103 => ⟨S1024, .f32⟩
  | 104 => ⟨S1x1x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S1x1024, .f32⟩
  | 110 => ⟨S1024, .f32⟩
  | 111 => ⟨S1x1x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S1x1024, .f32⟩
  | 117 => ⟨S1024, .f32⟩
  | 118 => ⟨S1x1x1024, .f32⟩
  | 119 => ⟨S2x8192x1024, .f32⟩
  | 120 => ⟨S2x8192x1024, .f32⟩
  | 121 => ⟨S2x8192x1024, .f32⟩
  | 122 => ⟨S2x8192x1024, .f32⟩
  | 123 => ⟨S1x1024, .f32⟩
  | 124 => ⟨S1024, .f32⟩
  | 125 => ⟨S1x1x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S1x1024, .f32⟩
  | 3 => ⟨S1024, .f32⟩
  | 4 => ⟨S1x1x1024, .f32⟩
  | 5 => ⟨S2x8192x1024, .f32⟩
  | 6 => ⟨S2x8192x1024, .f32⟩
  | 7 => ⟨S2x8192x1024, .f32⟩
  | 8 => ⟨S2x8192x1024, .f32⟩
  | 9 => ⟨S1x1024, .f32⟩
  | 10 => ⟨S1024, .f32⟩
  | 11 => ⟨S1x1x1024, .f32⟩
  | 12 => ⟨S2x8192x1024, .f32⟩
  | 13 => ⟨S2x8192x1024, .f32⟩
  | 14 => ⟨S2x8192x1024, .f32⟩
  | 15 => ⟨S2x8192x1024, .f32⟩
  | 16 => ⟨S1x1024, .f32⟩
  | 17 => ⟨S1024, .f32⟩
  | 18 => ⟨S1x1x1024, .f32⟩
  | 19 => ⟨S2x8192x1024, .f32⟩
  | 20 => ⟨S2x8192x1024, .f32⟩
  | 21 => ⟨S2x8192x1024, .f32⟩
  | 22 => ⟨S2x8192x1024, .f32⟩
  | 23 => ⟨S1x1024, .f32⟩
  | 24 => ⟨S1024, .f32⟩
  | 25 => ⟨S1x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S1x1024, .f32⟩
  | 31 => ⟨S1024, .f32⟩
  | 32 => ⟨S1x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S1x1024, .f32⟩
  | 38 => ⟨S1024, .f32⟩
  | 39 => ⟨S1x1x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S1x1024, .f32⟩
  | 45 => ⟨S1024, .f32⟩
  | 46 => ⟨S1x1x1024, .f32⟩
  | 47 => ⟨S2x8192x1024, .f32⟩
  | 48 => ⟨S2x8192x1024, .f32⟩
  | 49 => ⟨S2x8192x1024, .f32⟩
  | 50 => ⟨S2x8192x1024, .f32⟩
  | 51 => ⟨S1x1024, .f32⟩
  | 52 => ⟨S1024, .f32⟩
  | 53 => ⟨S1x1x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S1x1024, .f32⟩
  | 59 => ⟨S1024, .f32⟩
  | 60 => ⟨S1x1x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S1x1024, .f32⟩
  | 66 => ⟨S1024, .f32⟩
  | 67 => ⟨S1x1x1024, .f32⟩
  | 68 => ⟨S2x8192x1024, .f32⟩
  | 69 => ⟨S2x8192x1024, .f32⟩
  | 70 => ⟨S2x8192x1024, .f32⟩
  | 71 => ⟨S2x8192x1024, .f32⟩
  | 72 => ⟨S1x1024, .f32⟩
  | 73 => ⟨S1024, .f32⟩
  | 74 => ⟨S1x1x1024, .f32⟩
  | 75 => ⟨S2x8192x1024, .f32⟩
  | 76 => ⟨S2x8192x1024, .f32⟩
  | 77 => ⟨S2x8192x1024, .f32⟩
  | 78 => ⟨S2x8192x1024, .f32⟩
  | 79 => ⟨S1x1024, .f32⟩
  | 80 => ⟨S1024, .f32⟩
  | 81 => ⟨S1x1x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S1x1024, .f32⟩
  | 87 => ⟨S1024, .f32⟩
  | 88 => ⟨S1x1x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S1x1024, .f32⟩
  | 94 => ⟨S1024, .f32⟩
  | 95 => ⟨S1x1x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S1x1024, .f32⟩
  | 101 => ⟨S1024, .f32⟩
  | 102 => ⟨S1x1x1024, .f32⟩
  | 103 => ⟨S2x8192x1024, .f32⟩
  | 104 => ⟨S2x8192x1024, .f32⟩
  | 105 => ⟨S2x8192x1024, .f32⟩
  | 106 => ⟨S2x8192x1024, .f32⟩
  | 107 => ⟨S1x1024, .f32⟩
  | 108 => ⟨S1024, .f32⟩
  | 109 => ⟨S1x1x1024, .f32⟩
  | 110 => ⟨S2x8192x1024, .f32⟩
  | 111 => ⟨S2x8192x1024, .f32⟩
  | 112 => ⟨S2x8192x1024, .f32⟩
  | 113 => ⟨S2x8192x1024, .f32⟩
  | 114 => ⟨S1x1024, .f32⟩
  | 115 => ⟨S1024, .f32⟩
  | 116 => ⟨S1x1x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S1x1024, .f32⟩
  | 122 => ⟨S1024, .f32⟩
  | 123 => ⟨S1x1x1024, .f32⟩
  | 124 => ⟨S2x8192x1024, .f32⟩
  | 125 => ⟨S2x8192x1024, .f32⟩
  | 126 => ⟨S2x8192x1024, .f32⟩
  | 127 => ⟨S2x8192x1024, .f32⟩
  | _ => ⟨S2x8192x1024, .f32⟩

abbrev hbmTy0_2 (i : Nat) : BufTy := match i % 128 with
  | 0 => ⟨S1x1024, .f32⟩
  | 1 => ⟨S1024, .f32⟩
  | 2 => ⟨S1x1x1024, .f32⟩
  | 3 => ⟨S2x8192x1024, .f32⟩
  | 4 => ⟨S2x8192x1024, .f32⟩
  | 5 => ⟨S2x8192x1024, .f32⟩
  | 6 => ⟨S2x8192x1024, .f32⟩
  | 7 => ⟨S1x1024, .f32⟩
  | 8 => ⟨S1024, .f32⟩
  | 9 => ⟨S1x1x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S1x1024, .f32⟩
  | 15 => ⟨S1024, .f32⟩
  | 16 => ⟨S1x1x1024, .f32⟩
  | 17 => ⟨S2x8192x1024, .f32⟩
  | 18 => ⟨S2x8192x1024, .f32⟩
  | 19 => ⟨S2x8192x1024, .f32⟩
  | 20 => ⟨S2x8192x1024, .f32⟩
  | 21 => ⟨S1x1024, .f32⟩
  | 22 => ⟨S1024, .f32⟩
  | 23 => ⟨S1x1x1024, .f32⟩
  | 24 => ⟨S2x8192x1024, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S1024, .f32⟩
  | 31 => ⟨S1024, .f32⟩
  | 32 => ⟨S_, .f32⟩
  | 33 => ⟨S2x8192, .f32⟩
  | 34 => ⟨S2x8192x1, .f32⟩
  | 35 => ⟨S_, .f32⟩
  | 36 => ⟨S2x8192x1, .f32⟩
  | 37 => ⟨S2x8192x1, .f32⟩
  | 38 => ⟨S2x8192x1024, .f32⟩
  | 39 => ⟨S2x8192x1024, .f32⟩
  | 40 => ⟨S2x8192x1024, .f32⟩
  | 41 => ⟨S_, .f32⟩
  | 42 => ⟨S2x8192, .f32⟩
  | 43 => ⟨S2x8192x1, .f32⟩
  | 44 => ⟨S_, .f32⟩
  | 45 => ⟨S2x8192x1, .f32⟩
  | 46 => ⟨S2x8192x1, .f32⟩
  | 47 => ⟨S2x8192x1024, .f32⟩
  | 48 => ⟨S2x8192x1024, .f32⟩
  | 49 => ⟨S_, .f32⟩
  | 50 => ⟨S2x8192x1, .f32⟩
  | 51 => ⟨S2x8192x1, .f32⟩
  | 52 => ⟨S2x8192x1, .f32⟩
  | 53 => ⟨S2x8192x1024, .f32⟩
  | 54 => ⟨S2x8192x1024, .f32⟩
  | 55 => ⟨S1x1x1024, .f32⟩
  | 56 => ⟨S2x8192x1024, .f32⟩
  | 57 => ⟨S2x8192x1024, .f32⟩
  | 58 => ⟨S1x1x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S_, .f32⟩
  | 64 => ⟨S2x8192x1024, .f32⟩
  | 65 => ⟨S2x8192x1024, .f32⟩
  | 66 => ⟨S_, .f32⟩
  | 67 => ⟨S2x8192x1024, .f32⟩
  | 68 => ⟨S2x8192x1024, .f32⟩
  | 69 => ⟨S2x8192x1024, .f32⟩
  | 70 => ⟨S1024x1024, .f32⟩
  | 71 => ⟨S2x8192x1024, .f32⟩
  | 72 => ⟨S2x8192x1024, .f32⟩
  | 73 => ⟨S2x8192x1024, .f32⟩
  | 74 => ⟨S_, .f32⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S2x8192x1024, .f32⟩
  | 81 => ⟨S2x8192x1024, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S127, .f32⟩
  | 90 => ⟨S_, .f32⟩
  | 91 => ⟨S127, .f32⟩
  | 92 => ⟨S127, .f32⟩
  | 93 => ⟨S1, .f32⟩
  | 94 => ⟨S_, .f32⟩
  | 95 => ⟨S127, .f32⟩
  | 96 => ⟨S127, .f32⟩
  | 97 => ⟨S127, .f32⟩
  | 98 => ⟨S127, .f32⟩
  | 99 => ⟨S1, .f32⟩
  | 100 => ⟨S127, .f32⟩
  | 101 => ⟨S127, .f32⟩
  | 102 => ⟨S127, .f32⟩
  | 103 => ⟨S1, .f32⟩
  | 104 => ⟨S128, .f32⟩
  | 105 => ⟨S_, .f32⟩
  | 106 => ⟨S128, .f32⟩
  | 107 => ⟨S128, .f32⟩
  | 108 => ⟨S_, .f32⟩
  | 109 => ⟨S128, .f32⟩
  | 110 => ⟨S128, .f32⟩
  | 111 => ⟨S8192, .f32⟩
  | 112 => ⟨S8192x1, .f32⟩
  | 113 => ⟨S1x128, .f32⟩
  | 114 => ⟨S8192x128, .f32⟩
  | 115 => ⟨S8192x128, .f32⟩
  | 116 => ⟨S8192x128, .f32⟩
  | 117 => ⟨S8192x128, .f32⟩
  | 118 => ⟨S1x8192x1x128, .f32⟩
  | 119 => ⟨S8192x128, .f32⟩
  | 120 => ⟨S1x8192x1x128, .f32⟩
  | 121 => ⟨S2x8192x4x128, .f32⟩
  | 122 => ⟨S2x8192x4x128, .f32⟩
  | 123 => ⟨S2x8192x4x128, .f32⟩
  | 124 => ⟨S2x8192x4x128, .f32⟩
  | 125 => ⟨S2x8192x4x128, .f32⟩
  | 126 => ⟨S2x8192x4x128, .f32⟩
  | 127 => ⟨S2x8192x4x128, .f32⟩
  | _ => ⟨S2x8192x1024, .f32⟩

abbrev hbmTy0_3 (i : Nat) : BufTy := match i % 128 with
  | 0 => ⟨S2x8192x4x128, .f32⟩
  | 1 => ⟨S2x8192x4x128, .f32⟩
  | 2 => ⟨S2x8192x4x128, .f32⟩
  | 3 => ⟨S2x8192x4x128, .f32⟩
  | 4 => ⟨S2x8192x4x128, .f32⟩
  | 5 => ⟨S2x8192x4x256, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S127, .f32⟩
  | 14 => ⟨S_, .f32⟩
  | 15 => ⟨S127, .f32⟩
  | 16 => ⟨S127, .f32⟩
  | 17 => ⟨S1, .f32⟩
  | 18 => ⟨S_, .f32⟩
  | 19 => ⟨S127, .f32⟩
  | 20 => ⟨S127, .f32⟩
  | 21 => ⟨S127, .f32⟩
  | 22 => ⟨S127, .f32⟩
  | 23 => ⟨S1, .f32⟩
  | 24 => ⟨S127, .f32⟩
  | 25 => ⟨S127, .f32⟩
  | 26 => ⟨S127, .f32⟩
  | 27 => ⟨S1, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S8192, .f32⟩
  | 36 => ⟨S8192x1, .f32⟩
  | 37 => ⟨S1x128, .f32⟩
  | 38 => ⟨S8192x128, .f32⟩
  | 39 => ⟨S8192x128, .f32⟩
  | 40 => ⟨S8192x128, .f32⟩
  | 41 => ⟨S8192x128, .f32⟩
  | 42 => ⟨S1x8192x1x128, .f32⟩
  | 43 => ⟨S8192x128, .f32⟩
  | 44 => ⟨S1x8192x1x128, .f32⟩
  | 45 => ⟨S2x8192x4x128, .f32⟩
  | 46 => ⟨S2x8192x4x128, .f32⟩
  | 47 => ⟨S2x8192x4x128, .f32⟩
  | 48 => ⟨S2x8192x4x128, .f32⟩
  | 49 => ⟨S2x8192x4x128, .f32⟩
  | 50 => ⟨S2x8192x4x128, .f32⟩
  | 51 => ⟨S2x8192x4x128, .f32⟩
  | 52 => ⟨S2x8192x4x128, .f32⟩
  | 53 => ⟨S2x8192x4x128, .f32⟩
  | 54 => ⟨S2x8192x4x128, .f32⟩
  | 55 => ⟨S2x8192x4x128, .f32⟩
  | 56 => ⟨S2x8192x4x128, .f32⟩
  | 57 => ⟨S2x8192x4x256, .f32⟩
  | 58 => ⟨S_, .f32⟩
  | 59 => ⟨S2x8192x4x256, .f32⟩
  | 60 => ⟨S2x8192x4x256, .f32⟩
  | 61 => ⟨S4, .f32⟩
  | 62 => ⟨S_, .f32⟩
  | 63 => ⟨S4, .f32⟩
  | 64 => ⟨S4, .f32⟩
  | 65 => ⟨S_, .f32⟩
  | 66 => ⟨S4, .f32⟩
  | 67 => ⟨S4, .f32⟩
  | 68 => ⟨S4, .f32⟩
  | 69 => ⟨S_, .f32⟩
  | 70 => ⟨S4, .f32⟩
  | 71 => ⟨S4, .f32⟩
  | 72 => ⟨S4, .f32⟩
  | 73 => ⟨S8192, .f32⟩
  | 74 => ⟨S8192x1, .f32⟩
  | 75 => ⟨S1x8192, .f32⟩
  | 76 => ⟨S8192x8192, .f32⟩
  | 77 => ⟨S8192x8192, .f32⟩
  | 78 => ⟨S8192x8192, .f32⟩
  | 79 => ⟨S_, .f32⟩
  | 80 => ⟨S8192x8192, .f32⟩
  | 81 => ⟨S8192x8192, .i1⟩
  | 82 => ⟨S4x1x1, .f32⟩
  | 83 => ⟨S_, .f32⟩
  | 84 => ⟨S8192x8192, .f32⟩
  | 85 => ⟨S8192x8192, .f32⟩
  | 86 => ⟨S1x8192x8192, .f32⟩
  | 87 => ⟨S4x8192x8192, .f32⟩
  | 88 => ⟨S4x8192x8192, .f32⟩
  | 89 => ⟨S4x8192x8192, .f32⟩
  | 90 => ⟨S4x8192x8192, .f32⟩
  | 91 => ⟨S_, .f32⟩
  | 92 => ⟨S_, .f32⟩
  | 93 => ⟨S4x8192x8192, .i1⟩
  | 94 => ⟨S4x8192x8192, .f32⟩
  | 95 => ⟨S4x8192x8192, .f32⟩
  | 96 => ⟨S2x4x8192x8192, .f32⟩
  | 97 => ⟨S1x4x8192x8192, .f32⟩
  | 98 => ⟨S2x4x8192x8192, .f32⟩
  | 99 => ⟨S2x4x8192x8192, .f32⟩
  | 100 => ⟨S2x4x256x8192, .f32⟩
  | 101 => ⟨S2x8192x4x256, .f32⟩
  | 102 => ⟨S1024, .f32⟩
  | 103 => ⟨S1024, .f32⟩
  | 104 => ⟨S_, .f32⟩
  | 105 => ⟨S2x8192x4, .f32⟩
  | 106 => ⟨S2x8192x4x1, .f32⟩
  | 107 => ⟨S_, .f32⟩
  | 108 => ⟨S2x8192x4x1, .f32⟩
  | 109 => ⟨S2x8192x4x1, .f32⟩
  | 110 => ⟨S2x8192x4x256, .f32⟩
  | 111 => ⟨S2x8192x4x256, .f32⟩
  | 112 => ⟨S2x8192x4x256, .f32⟩
  | 113 => ⟨S_, .f32⟩
  | 114 => ⟨S2x8192x4, .f32⟩
  | 115 => ⟨S2x8192x4x1, .f32⟩
  | 116 => ⟨S_, .f32⟩
  | 117 => ⟨S2x8192x4x1, .f32⟩
  | 118 => ⟨S2x8192x4x1, .f32⟩
  | 119 => ⟨S2x8192x4x256, .f32⟩
  | 120 => ⟨S2x8192x4x256, .f32⟩
  | 121 => ⟨S_, .f32⟩
  | 122 => ⟨S2x8192x4x1, .f32⟩
  | 123 => ⟨S2x8192x4x1, .f32⟩
  | 124 => ⟨S2x8192x4x1, .f32⟩
  | 125 => ⟨S2x8192x4x256, .f32⟩
  | 126 => ⟨S2x8192x4x256, .f32⟩
  | 127 => ⟨S2x8192x1024, .f32⟩
  | _ => ⟨S2x8192x1024, .f32⟩

abbrev hbmTy0_4 (i : Nat) : BufTy := match i % 128 with
  | 0 => ⟨S1x1x1024, .f32⟩
  | 1 => ⟨S2x8192x1024, .f32⟩
  | 2 => ⟨S2x8192x1024, .f32⟩
  | 3 => ⟨S1x1x1024, .f32⟩
  | 4 => ⟨S2x8192x1024, .f32⟩
  | 5 => ⟨S2x8192x1024, .f32⟩
  | 6 => ⟨S2x8192x1024, .f32⟩
  | 7 => ⟨S2x8192x1024, .f32⟩
  | 8 => ⟨S_, .f32⟩
  | 9 => ⟨S2x8192x1024, .f32⟩
  | 10 => ⟨S2x8192x1024, .f32⟩
  | 11 => ⟨S_, .f32⟩
  | 12 => ⟨S2x8192x1024, .f32⟩
  | 13 => ⟨S2x8192x1024, .f32⟩
  | 14 => ⟨S2x8192x1024, .f32⟩
  | 15 => ⟨S2x8192x1024, .f32⟩
  | 16 => ⟨S2x8192x2048, .f32⟩
  | 17 => ⟨S2048x1024, .f32⟩
  | 18 => ⟨S2x8192x1024, .f32⟩
  | 19 => ⟨S2x8192x1024, .f32⟩
  | 20 => ⟨S2x8192x1024, .f32⟩
  | 21 => ⟨S2x8192x1024, .f32⟩
  | 22 => ⟨S2x8192x1024, .f32⟩
  | 23 => ⟨S_, .f32⟩
  | 24 => ⟨S2x8192, .f32⟩
  | 25 => ⟨S2x8192x1, .f32⟩
  | 26 => ⟨S_, .f32⟩
  | 27 => ⟨S2x8192x1, .f32⟩
  | 28 => ⟨S2x8192x1, .f32⟩
  | 29 => ⟨S_, .f32⟩
  | 30 => ⟨S2x8192x1, .f32⟩
  | 31 => ⟨S2x8192x1, .f32⟩
  | 32 => ⟨S2x8192x1, .f32⟩
  | 33 => ⟨S2x8192x1024, .f32⟩
  | 34 => ⟨S2x8192x1024, .f32⟩
  | 35 => ⟨S1x1x1024, .f32⟩
  | 36 => ⟨S2x8192x1024, .f32⟩
  | 37 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_cst_5 : Ref sig .tc := ⟨.hbm, 288, rfl⟩
abbrev main_v267 : Ref sig .tc := ⟨.hbm, 289, rfl⟩
abbrev main_v268 : Ref sig .tc := ⟨.hbm, 290, rfl⟩
abbrev main_cst_6 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_cst_7 : Ref sig .tc := ⟨.hbm, 297, rfl⟩
abbrev main_v274 : Ref sig .tc := ⟨.hbm, 298, rfl⟩
abbrev main_v275 : Ref sig .tc := ⟨.hbm, 299, rfl⟩
abbrev main_cst_8 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_cst_9 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_call1_v0 : Ref sig .tc := ⟨.hbm, 317, rfl⟩
abbrev main_call1_v1 : Ref sig .tc := ⟨.hbm, 318, rfl⟩
abbrev main_call1_cst : Ref sig .tc := ⟨.hbm, 319, rfl⟩
abbrev main_call1_v2 : Ref sig .tc := ⟨.hbm, 320, rfl⟩
abbrev main_call1_v3 : Ref sig .tc := ⟨.hbm, 321, rfl⟩
abbrev main_call1_cst_0 : Ref sig .tc := ⟨.hbm, 322, rfl⟩
abbrev main_call1_v4 : Ref sig .tc := ⟨.hbm, 323, rfl⟩
abbrev main_call1_v5 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_call2_v0 : Ref sig .tc := ⟨.hbm, 328, rfl⟩
abbrev main_call2_v1 : Ref sig .tc := ⟨.hbm, 329, rfl⟩
abbrev main_call2_cst : Ref sig .tc := ⟨.hbm, 330, rfl⟩
abbrev main_call2_v2 : Ref sig .tc := ⟨.hbm, 331, rfl⟩
abbrev main_call2_v3 : Ref sig .tc := ⟨.hbm, 332, rfl⟩
abbrev main_call2_cst_0 : Ref sig .tc := ⟨.hbm, 333, rfl⟩
abbrev main_call2_v4 : Ref sig .tc := ⟨.hbm, 334, rfl⟩
abbrev main_call2_v5 : Ref sig .tc := ⟨.hbm, 335, rfl⟩
abbrev main_v294 : Ref sig .tc := ⟨.hbm, 336, rfl⟩
abbrev main_v295 : Ref sig .tc := ⟨.hbm, 337, rfl⟩
abbrev main_cst_10 : Ref sig .tc := ⟨.hbm, 338, rfl⟩
abbrev main_cst_11 : Ref sig .tc := ⟨.hbm, 339, rfl⟩
abbrev main_call3_v0 : Ref sig .tc := ⟨.hbm, 340, rfl⟩
abbrev main_call3_v1 : Ref sig .tc := ⟨.hbm, 341, rfl⟩
abbrev main_call3_v2 : Ref sig .tc := ⟨.hbm, 342, rfl⟩
abbrev main_call3_cst : Ref sig .tc := ⟨.hbm, 343, rfl⟩
abbrev main_call3_v3 : Ref sig .tc := ⟨.hbm, 344, rfl⟩
abbrev main_call3_v4 : Ref sig .tc := ⟨.hbm, 345, rfl⟩
abbrev main_call3_cst_0 : Ref sig .tc := ⟨.hbm, 346, rfl⟩
abbrev main_call3_v5 : Ref sig .tc := ⟨.hbm, 347, rfl⟩
abbrev main_call3_v6 : Ref sig .tc := ⟨.hbm, 348, rfl⟩
abbrev main_call3_v7 : Ref sig .tc := ⟨.hbm, 349, rfl⟩
abbrev main_call3_cst_1 : Ref sig .tc := ⟨.hbm, 350, rfl⟩
abbrev main_call3_v8 : Ref sig .tc := ⟨.hbm, 351, rfl⟩
abbrev main_call3_v9 : Ref sig .tc := ⟨.hbm, 352, rfl⟩
abbrev main_call3_v10 : Ref sig .tc := ⟨.hbm, 353, rfl⟩
abbrev main_call3_v11 : Ref sig .tc := ⟨.hbm, 354, rfl⟩
abbrev main_call3_v12 : Ref sig .tc := ⟨.hbm, 355, rfl⟩
abbrev main_call3_v13 : Ref sig .tc := ⟨.hbm, 356, rfl⟩
abbrev main_call3_v14 : Ref sig .tc := ⟨.hbm, 357, rfl⟩
abbrev main_call3_v15 : Ref sig .tc := ⟨.hbm, 358, rfl⟩
abbrev main_call3_v16 : Ref sig .tc := ⟨.hbm, 359, rfl⟩
abbrev main_v296 : Ref sig .tc := ⟨.hbm, 360, rfl⟩
abbrev main_cst_12 : Ref sig .tc := ⟨.hbm, 361, rfl⟩
abbrev main_v297 : Ref sig .tc := ⟨.hbm, 362, rfl⟩
abbrev main_v298 : Ref sig .tc := ⟨.hbm, 363, rfl⟩
abbrev main_cst_13 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_cst_14 : Ref sig .tc := ⟨.hbm, 390, rfl⟩
abbrev main_cst_15 : Ref sig .tc := ⟨.hbm, 391, rfl⟩
abbrev main_call4_v0 : Ref sig .tc := ⟨.hbm, 392, rfl⟩
abbrev main_call4_v1 : Ref sig .tc := ⟨.hbm, 393, rfl⟩
abbrev main_call4_v2 : Ref sig .tc := ⟨.hbm, 394, rfl⟩
abbrev main_call4_cst : Ref sig .tc := ⟨.hbm, 395, rfl⟩
abbrev main_call4_v3 : Ref sig .tc := ⟨.hbm, 396, rfl⟩
abbrev main_call4_v4 : Ref sig .tc := ⟨.hbm, 397, rfl⟩
abbrev main_call4_cst_0 : Ref sig .tc := ⟨.hbm, 398, rfl⟩
abbrev main_call4_v5 : Ref sig .tc := ⟨.hbm, 399, rfl⟩
abbrev main_call4_v6 : Ref sig .tc := ⟨.hbm, 400, rfl⟩
abbrev main_call4_v7 : Ref sig .tc := ⟨.hbm, 401, rfl⟩
abbrev main_call4_cst_1 : Ref sig .tc := ⟨.hbm, 402, rfl⟩
abbrev main_call4_v8 : Ref sig .tc := ⟨.hbm, 403, rfl⟩
abbrev main_call4_v9 : Ref sig .tc := ⟨.hbm, 404, rfl⟩
abbrev main_call4_v10 : Ref sig .tc := ⟨.hbm, 405, rfl⟩
abbrev main_call4_v11 : Ref sig .tc := ⟨.hbm, 406, rfl⟩
abbrev main_call4_v12 : Ref sig .tc := ⟨.hbm, 407, rfl⟩
abbrev main_call4_v13 : Ref sig .tc := ⟨.hbm, 408, rfl⟩
abbrev main_call4_v14 : Ref sig .tc := ⟨.hbm, 409, rfl⟩
abbrev main_call4_v15 : Ref sig .tc := ⟨.hbm, 410, rfl⟩
abbrev main_call4_v16 : Ref sig .tc := ⟨.hbm, 411, rfl⟩
abbrev main_v324 : Ref sig .tc := ⟨.hbm, 412, rfl⟩
abbrev main_cst_16 : Ref sig .tc := ⟨.hbm, 413, rfl⟩
abbrev main_v325 : Ref sig .tc := ⟨.hbm, 414, rfl⟩
abbrev main_v326 : Ref sig .tc := ⟨.hbm, 415, rfl⟩
abbrev main_cst_17 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_v333 : Ref sig .tc := ⟨.hbm, 423, rfl⟩
abbrev main_v334 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev main_v344 : Ref sig .tc := ⟨.hbm, 434, rfl⟩
abbrev main_v345 : Ref sig .tc := ⟨.hbm, 435, rfl⟩
abbrev main_v346 : Ref sig .tc := ⟨.hbm, 436, rfl⟩
abbrev main_v347 : Ref sig .tc := ⟨.hbm, 437, rfl⟩
abbrev main_v348 : Ref sig .tc := ⟨.hbm, 438, rfl⟩
abbrev main_v349 : Ref sig .tc := ⟨.hbm, 439, rfl⟩
abbrev main_v350 : Ref sig .tc := ⟨.hbm, 440, rfl⟩
abbrev main_v351 : Ref sig .tc := ⟨.hbm, 441, rfl⟩
abbrev main_cst_18 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_cst_19 : Ref sig .tc := ⟨.hbm, 446, rfl⟩
abbrev main_v355 : Ref sig .tc := ⟨.hbm, 447, rfl⟩
abbrev main_v356 : Ref sig .tc := ⟨.hbm, 448, rfl⟩
abbrev main_cst_20 : Ref sig .tc := ⟨.hbm, 449, rfl⟩
abbrev main_v357 : Ref sig .tc := ⟨.hbm, 450, rfl⟩
abbrev main_v358 : Ref sig .tc := ⟨.hbm, 451, rfl⟩
abbrev main_v359 : Ref sig .tc := ⟨.hbm, 452, rfl⟩
abbrev main_cst_21 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_cst_22 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_cst_23 : Ref sig .tc := ⟨.hbm, 467, rfl⟩
abbrev main_v372 : Ref sig .tc := ⟨.hbm, 468, rfl⟩
abbrev main_v373 : Ref sig .tc := ⟨.hbm, 469, rfl⟩
abbrev main_v374 : Ref sig .tc := ⟨.hbm, 470, rfl⟩
abbrev main_v375 : Ref sig .tc := ⟨.hbm, 471, rfl⟩
abbrev main_v376 : Ref sig .tc := ⟨.hbm, 472, rfl⟩
abbrev main_v377 : Ref sig .tc := ⟨.hbm, 473, rfl⟩
abbrev main_v378 : Ref sig .tc := ⟨.hbm, 474, rfl⟩
abbrev main_cst_24 : Ref sig .tc := ⟨.hbm, 475, rfl⟩
abbrev main_call5_v0 : Ref sig .tc := ⟨.hbm, 476, rfl⟩
abbrev main_call5_v1 : Ref sig .tc := ⟨.hbm, 477, rfl⟩
abbrev main_call5_v2 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_v385 : Ref sig .tc := ⟨.hbm, 485, rfl⟩
abbrev main_v386 : Ref sig .tc := ⟨.hbm, 486, rfl⟩
abbrev main_v387 : Ref sig .tc := ⟨.hbm, 487, rfl⟩
abbrev main_cst_25 : Ref sig .tc := ⟨.hbm, 488, rfl⟩
abbrev main_v388 : Ref sig .tc := ⟨.hbm, 489, rfl⟩
abbrev main_v389 : Ref sig .tc := ⟨.hbm, 490, rfl⟩
abbrev main_cst_26 : Ref sig .tc := ⟨.hbm, 491, rfl⟩
abbrev main_v390 : Ref sig .tc := ⟨.hbm, 492, rfl⟩
abbrev main_v391 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_cst_27 : Ref sig .tc := ⟨.hbm, 497, rfl⟩
abbrev main_v395 : Ref sig .tc := ⟨.hbm, 498, rfl⟩
abbrev main_v396 : Ref sig .tc := ⟨.hbm, 499, rfl⟩
abbrev main_cst_28 : Ref sig .tc := ⟨.hbm, 500, rfl⟩
abbrev main_v397 : Ref sig .tc := ⟨.hbm, 501, rfl⟩
abbrev main_v398 : Ref sig .tc := ⟨.hbm, 502, rfl⟩
abbrev main_v399 : Ref sig .tc := ⟨.hbm, 503, rfl⟩
abbrev main_v400 : Ref sig .tc := ⟨.hbm, 504, rfl⟩
abbrev main_cst_29 : Ref sig .tc := ⟨.hbm, 505, rfl⟩
abbrev main_v401 : Ref sig .tc := ⟨.hbm, 506, rfl⟩
abbrev main_v402 : Ref sig .tc := ⟨.hbm, 507, rfl⟩
abbrev main_v403 : Ref sig .tc := ⟨.hbm, 508, rfl⟩
abbrev main_v404 : Ref sig .tc := ⟨.hbm, 509, rfl⟩
abbrev main_v405 : Ref sig .tc := ⟨.hbm, 510, rfl⟩
abbrev main_v406 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_call6_v0 : Ref sig .tc := ⟨.hbm, 518, rfl⟩
abbrev main_call6_v1 : Ref sig .tc := ⟨.hbm, 519, rfl⟩
abbrev main_call6_cst : Ref sig .tc := ⟨.hbm, 520, rfl⟩
abbrev main_call6_v2 : Ref sig .tc := ⟨.hbm, 521, rfl⟩
abbrev main_call6_v3 : Ref sig .tc := ⟨.hbm, 522, rfl⟩
abbrev main_call6_cst_0 : Ref sig .tc := ⟨.hbm, 523, rfl⟩
abbrev main_call6_v4 : Ref sig .tc := ⟨.hbm, 524, rfl⟩
abbrev main_call6_v5 : Ref sig .tc := ⟨.hbm, 525, rfl⟩
abbrev main_v413 : Ref sig .tc := ⟨.hbm, 526, rfl⟩
abbrev main_v414 : Ref sig .tc := ⟨.hbm, 527, rfl⟩
abbrev main_v415 : Ref sig .tc := ⟨.hbm, 528, rfl⟩
abbrev main_v416 : Ref sig .tc := ⟨.hbm, 529, rfl⟩
abbrev main_v417 : Ref sig .tc := ⟨.hbm, 530, rfl⟩
abbrev main_v418 : Ref sig .tc := ⟨.hbm, 531, rfl⟩
abbrev main_v419 : Ref sig .tc := ⟨.hbm, 532, rfl⟩
abbrev main_v420 : Ref sig .tc := ⟨.hbm, 533, rfl⟩
abbrev main_v421 : Ref sig .tc := ⟨.hbm, 534, rfl⟩
abbrev main_cst_30 : Ref sig .tc := ⟨.hbm, 535, rfl⟩
abbrev main_v422 : Ref sig .tc := ⟨.hbm, 536, rfl⟩
abbrev main_v423 : Ref sig .tc := ⟨.hbm, 537, rfl⟩
abbrev main_cst_31 : Ref sig .tc := ⟨.hbm, 538, rfl⟩
abbrev main_v424 : Ref sig .tc := ⟨.hbm, 539, rfl⟩
abbrev main_v425 : Ref sig .tc := ⟨.hbm, 540, rfl⟩
abbrev main_cst_32 : Ref sig .tc := ⟨.hbm, 541, rfl⟩
abbrev main_v426 : Ref sig .tc := ⟨.hbm, 542, rfl⟩
abbrev main_v427 : Ref sig .tc := ⟨.hbm, 543, rfl⟩
abbrev main_v428 : Ref sig .tc := ⟨.hbm, 544, rfl⟩
abbrev main_v429 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_v433 : Ref sig .tc := ⟨.hbm, 549, rfl⟩

abbrev nD : Nat := 1
abbrev τ : Topo := Topo.v7x

variable {F : FTy → Type} [FloatOps F]
-- ==== Proof.Spec.lean ====
module

public import proofs.«01_k».proof.Proof.Gen.KernelIdeal.Skeleton
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What one grid point of the layer computes, as plain functions of the blocks it reads: one function per buffer that the
body fills, built from the arithmetic of one 32-row tile (or of one head) and put together over the tiles. -/

namespace Cert.KernelIdeal.Body
open Cert.KernelIdeal Cert.KernelIdeal.Gen

/-- The `m × n` piece of a matrix whose corner is row `r`, column `c`. -/
def sub2 {α : Type} {R C : ℕ} (m n r c : ℕ) (X : (⟨2, ![R, C]⟩ : Shape).Idx → α) (hr : r + m ≤ R) (hc : c + n ≤ C) :
    (⟨2, ![m, n]⟩ : Shape).Idx → α :=
  fun j => X (ix2 ⟨r + (j 0).val, Nat.lt_of_lt_of_le (Nat.add_lt_add_left (j 0).isLt r) hr⟩
    ⟨c + (j 1).val, Nat.lt_of_lt_of_le (Nat.add_lt_add_left (j 1).isLt c) hc⟩)

/-- The `1 × m × n` piece of a box at page `p`, row `r`, column `c`. -/
def sub3 {α : Type} {P R C : ℕ} (m n p r c : ℕ) (X : (⟨3, ![P, R, C]⟩ : Shape).Idx → α) (hp : p + 1 ≤ P) (hr : r + m ≤ R) (hc : c + n ≤ C) :
    (⟨3, ![1, m, n]⟩ : Shape).Idx → α :=
  fun j => X (ix3 ⟨p + (j 0).val, Nat.lt_of_lt_of_le (Nat.add_lt_add_left (j 0).isLt p) hp⟩
    ⟨r + (j 1).val, Nat.lt_of_lt_of_le (Nat.add_lt_add_left (j 1).isLt r) hr⟩
    ⟨c + (j 2).val, Nat.lt_of_lt_of_le (Nat.add_lt_add_left (j 2).isLt c) hc⟩)

/-- Row `32 k + 31` of tile `k` lies in a matrix of 256 rows. -/
theorem tile_row (k : Fin 8) : 32 * k.val + 32 ≤ 256 := by omega

/-- The tile that holds row `r`. -/
abbrev tileOf (r : Fin 256) : Fin 8 := ⟨r.val / 32, by omega⟩
/-- The row's place within its tile. -/
abbrev inTile (r : Fin 256) : Fin 32 := ⟨r.val % 32, by omega⟩

/-- Eight tiles of 32 rows on top of each other. -/
def rows8 {α : Type} {C : ℕ} (T : Fin 8 → (⟨2, ![32, C]⟩ : Shape).Idx → α) : (⟨2, ![256, C]⟩ : Shape).Idx → α :=
  fun j => T (tileOf (j 0)) (ix2 (inTile (j 0)) (j 1))

/-- A matrix of 256 rows and 1024 columns from its tiles of 32 rows and 128 columns. -/
def tiles {α : Type} (T : Fin 8 → Fin 8 → (⟨2, ![32, 128]⟩ : Shape).Idx → α) : (⟨2, ![256, 1024]⟩ : Shape).Idx → α :=
  fun j => T (tileOf (j 0)) ⟨(j 1).val / 128, by have : (j 1).val < 1024 := (j 1).isLt; omega⟩
    (ix2 (inTile (j 0)) ⟨(j 1).val % 128, Nat.mod_lt _ (by decide)⟩)

variable {F : FTy → Type} [FloatOps F]

/-- The normed and modulated rows of the block. -/
def specU (x : Vec F S1x256x1024 .f32) (v3 v5 : Vec F S1x1x1024 .f32) (v11 : Vec F S1x1024 .f32) : FVec F S256x1024 .bf16 :=
  rows8 fun k => k0_pay152 v3 v5 v11 (sub3 32 1024 0 (32 * k.val) 0 x (by omega) (tile_row k) (by omega))

/-- One tile of gated rows. -/
def gluT (P : Vec F S256x7168 .f32) (k : Fin 8) : FVec F S32x1024 .f32 :=
  k0_pay154 (sub2 32 1024 (32 * k.val) 0 P (tile_row k) (by omega)) (sub2 32 1024 (32 * k.val) 1024 P (tile_row k) (by omega))

/-- The rows the convolution sees: 32 carried rows, then the block's 256 gated rows. -/
def specA (a : Vec F S288x1024 .f32) (P : Vec F S256x7168 .f32) : Vec F S288x1024 .f32 :=
  fun j => if h : (j 0).val < 32 then a j
    else rows8 (gluT P) (ix2 ⟨(j 0).val - 32, by have : (j 0).val < 288 := (j 0).isLt; omega⟩ (j 1))

/-- The seven row-shifted copies of those rows. -/
def specSh (A : Vec F S288x1024 .f32) : Vec F S7x280x1024 .f32 :=
  fun j => A (ix2 ⟨(j 0).val + 1 + (j 1).val, by
    have h0 : (j 0).val < 7 := (j 0).isLt
    have h1 : (j 1).val < 280 := (j 1).isLt
    omega⟩ (j 2))

/-- One tile of the convolution: the bias and the 31 taps in the order the body adds them. -/
def convT (cb : Vec F S1x128 .f32) (w : Fin 31 → Vec F S1x128 .f32) (a : Vec F S64x128 .f32) (sh : Fin 7 → Vec F S1x56x128 .f32) :
    FVec F S32x128 .f32 :=
  k0_pay18 (k0_pay17 (k0_pay13 (sh 5))
    (k0_pay14
      (k0_pay11
        (k0_pay7 (k0_pay4 (sh 0)) (k0_pay5 cb a (w 6) (w 14) (w 22) (w 30) (sh 0) (w 7)) (k0_pay6 (sh 0)) (w 15) (w 23) (sh 1) (w 0) (w 8)
          (w 16) (w 24))
        (k0_pay8 (sh 2)) (k0_pay9 (sh 2)) (w 1) (w 9) (w 17) (w 25) (sh 3) (w 2) (w 10) (w 18))
      (k0_pay12 (sh 3)) (w 26) (sh 4) (w 3) (w 11) (w 19) (w 27) (sh 5) (w 4))
    (k0_pay15 (sh 5)) (k0_pay16 (w 12)) (w 20) (w 28) (sh 6) (w 5) (w 13) (w 21) (w 29))

/-- The convolution of the block's rows. -/
def specConv (cw : Vec F S31x1024 .f32) (cb : Vec F S1x1024 .f32) (A : Vec F S288x1024 .f32) (Sh : Vec F S7x280x1024 .f32) : Vec F S256x1024 .f32 :=
  tiles fun k s => convT (sub2 1 128 0 (128 * s.val) cb (by omega) (by omega))
    (fun t => sub2 1 128 t.val (128 * s.val) cw (by omega) (by omega))
    (sub2 64 128 (32 * k.val) (128 * s.val) A (by omega) (by omega))
    (fun r => sub3 56 128 r.val (32 * k.val) (128 * s.val) Sh (by omega) (by omega) (by omega))

/-- The carried rows for the next block: the last 32 rows move to the front. -/
def specA' (A : Vec F S288x1024 .f32) : Vec F S288x1024 .f32 :=
  fun j => if h : (j 0).val < 32 then A (ix2 ⟨256 + (j 0).val, by omega⟩ (j 1)) else A j

/-- The normed and gated convolution rows. -/
def specC (g b : Vec F S1x1024 .f32) (Y : Vec F S256x1024 .f32) : FVec F S256x1024 .bf16 :=
  rows8 fun k => k0_pay164 g b (sub2 32 1024 (32 * k.val) 0 Y (tile_row k) (by omega))

/-- The convolution branch's half of the joined rows. -/
def specYL (P : Vec F S256x7168 .f32) (W : Vec F S256x1024 .f32) : FVec F S256x1024 .bf16 :=
  rows8 fun k => k0_pay166 (sub2 32 1024 (32 * k.val) 2048 P (tile_row k) (by omega)) (sub2 32 1024 (32 * k.val) 0 W (tile_row k) (by omega))

/-- The head that holds slab `s` of 128 columns. -/
abbrev headOf (s : Fin 8) : ℕ := s.val / 2

/-- The turned queries. -/
def specQ (co si : Vec F S256x128 .f32) (P : Vec F S256x7168 .f32) : FVec F S256x1024 .bf16 :=
  tiles fun k s =>
    if s.val % 2 = 0 then
      k0_pay115 (sub2 32 128 (32 * k.val) 0 co (tile_row k) (by omega)) (sub2 32 128 (32 * k.val) 0 si (tile_row k) (by omega))
        (sub2 32 128 (32 * k.val) (3072 + 256 * headOf s) P (tile_row k) (by unfold headOf; omega))
        (sub2 32 128 (32 * k.val) (3072 + 256 * headOf s + 128) P (tile_row k) (by unfold headOf; omega))
    else
      k0_pay116 (sub2 32 128 (32 * k.val) 0 co (tile_row k) (by omega)) (sub2 32 128 (32 * k.val) 0 si (tile_row k) (by omega))
        (sub2 32 128 (32 * k.val) (3072 + 256 * headOf s) P (tile_row k) (by unfold headOf; omega))
        (sub2 32 128 (32 * k.val) (3072 + 256 * headOf s + 128) P (tile_row k) (by unfold headOf; omega))

/-- One tile of the turned and scaled keys, before the rounding. -/
def kT (co si : Vec F S256x128 .f32) (P : Vec F S256x7168 .f32) (k s : Fin 8) : FVec F S32x128 .f32 :=
  if s.val % 2 = 0 then
    k0_pay117 (sub2 32 128 (32 * k.val) 0 co (tile_row k) (by omega)) (sub2 32 128 (32 * k.val) 0 si (tile_row k) (by omega))
      (sub2 32 128 (32 * k.val) (4096 + 256 * headOf s) P (tile_row k) (by unfold headOf; omega))
      (sub2 32 128 (32 * k.val) (4096 + 256 * headOf s + 128) P (tile_row k) (by unfold headOf; omega))
  else
    k0_pay118 (sub2 32 128 (32 * k.val) 0 co (tile_row k) (by omega)) (sub2 32 128 (32 * k.val) 0 si (tile_row k) (by omega))
      (sub2 32 128 (32 * k.val) (4096 + 256 * headOf s) P (tile_row k) (by unfold headOf; omega))
      (sub2 32 128 (32 * k.val) (4096 + 256 * headOf s + 128) P (tile_row k) (by unfold headOf; omega))

/-- The turned and scaled keys. -/
def specK (co si : Vec F S256x128 .f32) (P : Vec F S256x7168 .f32) : FVec F S256x1024 .bf16 :=
  tiles fun k s => k0_pay121 (kT co si P k s)

/-- The keys weighted by their decay to the block's end. -/
def specKd (co si : Vec F S256x128 .f32) (kd : Vec F S4x256x128 .f32) (P : Vec F S256x7168 .f32) : FVec F S256x1024 .bf16 :=
  tiles fun k s => k0_pay124 (kT co si P k s)
    (sub3 32 128 (headOf s) (32 * k.val) 0 kd (by unfold headOf; omega) (tile_row k) (by omega))

/-- The values. -/
def specV (P : Vec F S256x7168 .f32) : FVec F S256x1024 .bf16 :=
  rows8 fun k => k0_pay171 (sub2 32 1024 (32 * k.val) 5120 P (tile_row k) (by omega))

/-- One head's carried state after the block. -/
def headSt (st : Vec F S4x256x256 .f32) (cd : Vec F S4x1x256 .f32) (Kd V : Vec F S256x1024 .bf16) (h : Fin 4) : FVec F S1x256x256 .f32 :=
  k0_pay173 (sub2 256 256 0 (256 * h.val) V (by omega) (by omega)) (sub3 256 256 h.val 0 0 st (by omega) (by omega) (by omega))
    (sub2 256 256 0 (256 * h.val) Kd (by omega) (by omega)) (sub3 1 256 h.val 0 0 cd (by omega) (by omega) (by omega))

/-- The carried state after the block. -/
def specSt (st : Vec F S4x256x256 .f32) (cd : Vec F S4x1x256 .f32) (Kd V : Vec F S256x1024 .bf16) : Vec F S4x256x256 .f32 :=
  fun j => headSt st cd Kd V (j 0) (ix3 0 (j 1) (j 2))

/-- One head's normed and gated output rows. -/
def headY (gg gb : Vec F S1x1024 .f32) (mk qd : Vec F S4x256x256 .f32) (st : Vec F S4x256x256 .f32) (P : Vec F S256x7168 .f32)
    (Q K V : Vec F S256x1024 .bf16) (h : Fin 4) : FVec F S256x256 .bf16 :=
  k0_pay176
    (k0_pay174 (sub2 256 256 0 (256 * h.val) Q (by omega) (by omega)) (sub2 256 256 0 (256 * h.val) V (by omega) (by omega))
      (sub3 256 256 h.val 0 0 st (by omega) (by omega) (by omega)) (sub2 256 256 0 (256 * h.val) K (by omega) (by omega))
      (sub3 256 256 h.val 0 0 mk (by omega) (by omega) (by omega)) (sub3 256 256 h.val 0 0 qd (by omega) (by omega) (by omega)))
    (k0_pay175 (sub2 256 256 0 (256 * h.val) Q (by omega) (by omega)) (sub2 256 256 0 (256 * h.val) V (by omega) (by omega))
      (sub3 256 256 h.val 0 0 st (by omega) (by omega) (by omega)) (sub2 256 256 0 (256 * h.val) K (by omega) (by omega))
      (sub3 256 256 h.val 0 0 mk (by omega) (by omega) (by omega)) (sub3 256 256 h.val 0 0 qd (by omega) (by omega) (by omega)))
    (sub2 1 256 0 (256 * h.val) gg (by omega) (by omega)) (sub2 1 256 0 (256 * h.val) gb (by omega) (by omega))
    (sub2 256 256 0 (6144 + 256 * h.val) P (by omega) (by omega))

/-- The joined rows: the convolution branch, then the four heads. -/
def specCat (YL : Vec F S256x1024 .bf16) (H : Fin 4 → FVec F S256x256 .bf16) : Vec F S256x2048 .bf16 :=
  fun j => if h : (j 1).val < 1024 then YL (ix2 (j 0) ⟨(j 1).val, h⟩)
    else H ⟨((j 1).val - 1024) / 256, by have : (j 1).val < 2048 := (j 1).isLt; omega⟩
      (ix2 (j 0) ⟨((j 1).val - 1024) % 256, Nat.mod_lt _ (by decide)⟩)

/-- The block's output rows. -/
def specOut (v10 : FVec F S1x1024 .f32) (fg : Vec F S1x1024 .f32) (x : Vec F S1x256x1024 .f32) (Y : Vec F S256x1024 .f32) : Vec F S1x256x1024 .f32 :=
  fun j => k0_pay3 v10 fg (sub3 32 1024 0 (32 * (tileOf (j 1)).val) 0 x (by omega) (tile_row _) (by omega))
    (sub2 32 1024 (32 * (tileOf (j 1)).val) 0 Y (tile_row _) (by omega)) (ix3 0 (inTile (j 1)) (j 2))

/-- Everything one grid point reads besides what it carries. -/
structure Ins (F : FTy → Type) [FloatOps F] where
  x : Vec F S1x256x1024 .f32
  md : Vec F S1x3x1024 .f32
  ng : Vec F S1x1024 .f32
  win : Vec F S1024x7168 .bf16
  cw : Vec F S31x1024 .f32
  cb : Vec F S1x1024 .f32
  lg : Vec F S1x1024 .f32
  lb : Vec F S1x1024 .f32
  pw : Vec F S1024x1024 .bf16
  gg : Vec F S1x1024 .f32
  gb : Vec F S1x1024 .f32
  wo : Vec F S2048x1024 .bf16
  fg : Vec F S1x1024 .f32
  co : Vec F S256x128 .f32
  si : Vec F S256x128 .f32
  msk : Vec F S4x256x256 .f32
  qd : Vec F S4x256x256 .f32
  kd : Vec F S4x256x128 .f32
  cd : Vec F S4x1x256 .f32

namespace Ins
variable (I : Ins F) (a : Vec F S288x1024 .f32) (st : Vec F S4x256x256 .f32)

/-- The normed and modulated rows. -/
def U : FVec F S256x1024 .bf16 :=
  specU I.x (sub3 1 1024 0 0 0 I.md (by omega) (by omega) (by omega)) (sub3 1 1024 0 1 0 I.md (by omega) (by omega) (by omega)) I.ng
/-- The projected rows. -/
def P : FVec F S256x7168 .f32 := k0_pay153 I.U I.win
/-- The rows the convolution sees. -/
def A : Vec F S288x1024 .f32 := specA a I.P
/-- The convolution. -/
def Cv : Vec F S256x1024 .f32 := specConv I.cw I.cb (I.A a) (specSh (I.A a))
/-- The normed and gated convolution. -/
def C : FVec F S256x1024 .bf16 := specC I.lg I.lb (I.Cv a)
/-- The convolution branch after its projection. -/
def W : FVec F S256x1024 .f32 := k0_pay165 (I.C a) I.pw
/-- The turned queries. -/
def Q : FVec F S256x1024 .bf16 := specQ I.co I.si I.P
/-- The turned and scaled keys. -/
def K : FVec F S256x1024 .bf16 := specK I.co I.si I.P
/-- The decayed keys. -/
def Kd : FVec F S256x1024 .bf16 := specKd I.co I.si I.kd I.P
/-- The values. -/
def V : FVec F S256x1024 .bf16 := specV I.P
/-- A head's output rows. -/
def H (h : Fin 4) : FVec F S256x256 .bf16 := headY I.gg I.gb I.msk I.qd st I.P I.Q I.K I.V h
/-- The joined rows. -/
def Cat : Vec F S256x2048 .bf16 := specCat (specYL I.P (I.W a)) (I.H st)
/-- The output projection. -/
def Y : FVec F S256x1024 .f32 := k0_pay2 (I.Cat a st) I.wo
/-- The block's output. -/
def Out : Vec F S1x256x1024 .f32 := specOut (k0_pay151 (sub3 1 1024 0 2 0 I.md (by omega) (by omega) (by omega))) I.fg I.x (I.Y a st)
/-- The carried rows after the block. -/
def A' : Vec F S288x1024 .f32 := specA' (I.A a)
/-- The carried state after the block. -/
def St : Vec F S4x256x256 .f32 := specSt st I.cd I.Kd I.V
end Ins

/-- The block is the first of its sequence: the body then clears what it carries. -/
abbrev firstBlock (i : grid0.Coords) : Prop :=
  (Scalar.cmpi .ne (Scalar.extui (Scalar.cmpi .eq (BitVec.ofNat 32 (i 1).val) 0#32)) 0#32) = 1#1

/-- No carried rows: what the first block of a sequence starts from. -/
def zeroA : Vec F S288x1024 .f32 := fun _ => Scalar.ofBits .f32 0x00000000#32
/-- No carried state. -/
def zeroSt : Vec F S4x256x256 .f32 := k0_pay149

end Cert.KernelIdeal.Body
-- ==== Proof.LoopVal.lean ====
module

public import proofs.«01_k».proof.Proof.Spec
public import proofs.«01_k».proof.Proof.Gen.KernelIdeal.Loops
public import Idealize.ShloMosaic.Lib.WritesUnit

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What each counted loop leaves in the buffer it fills. -/

namespace Cert.KernelIdeal.Body
open Cert.KernelIdeal Cert.KernelIdeal.Gen

section Generic
variable {sg : RefSig} {κ : Kind} {sp : Space} {s : Shape} {e : EltTy} {Val : EltTy → Type}

/-- A piece read back at its offset is the piece of what is read. -/
theorem readAt_sub2 {R C : ℕ} (v : View sg κ sp (⟨2, ![R, C]⟩ : Shape) e) (f : v.ty.Contents Val)
    {X : (⟨2, ![R, C]⟩ : Shape).Idx → Val e} (hX : v.read Val f = X) {off : Fin 2 → ℕ} {m n : ℕ}
    (inb : ∀ a, off a + (![m, n] : Fin 2 → ℕ) a ≤ (![R, C] : Fin 2 → ℕ) a) (r c : ℕ) (hoff : off = ![r, c]) (hr : r + m ≤ R) (hc : c + n ≤ C) :
    v.readAt Val (Rect.unit (s := ⟨2, ![R, C]⟩) off ![m, n] inb).toLoadRect f = sub2 m n r c X hr hc := by
  subst hX hoff
  funext j
  show v.read Val f _ = v.read Val f _
  congr 1
  funext a
  match a with
  | ⟨0, _⟩ => exact Fin.ext (by show r + 1 * (j 0).val = r + (j 0).val; omega)
  | ⟨1, _⟩ => exact Fin.ext (by show c + 1 * (j 1).val = c + (j 1).val; omega)

/-- The same for a page of a box. -/
theorem readAt_sub3 {P R C : ℕ} (v : View sg κ sp (⟨3, ![P, R, C]⟩ : Shape) e) (f : v.ty.Contents Val)
    {X : (⟨3, ![P, R, C]⟩ : Shape).Idx → Val e} (hX : v.read Val f = X) {off : Fin 3 → ℕ} {m n : ℕ}
    (inb : ∀ a, off a + (![1, m, n] : Fin 3 → ℕ) a ≤ (![P, R, C] : Fin 3 → ℕ) a) (p r c : ℕ) (hoff : off = ![p, r, c])
    (hp : p + 1 ≤ P) (hr : r + m ≤ R) (hc : c + n ≤ C) :
    v.readAt Val (Rect.unit (s := ⟨3, ![P, R, C]⟩) off ![1, m, n] inb).toLoadRect f = sub3 m n p r c X hp hr hc := by
  subst hX hoff
  funext j
  show v.read Val f _ = v.read Val f _
  congr 1
  funext a
  match a with
  | ⟨0, _⟩ => exact Fin.ext (by show p + 1 * (j 0).val = p + (j 0).val; omega)
  | ⟨1, _⟩ => exact Fin.ext (by show r + 1 * (j 1).val = r + (j 1).val; omega)
  | ⟨2, _⟩ => exact Fin.ext (by show c + 1 * (j 2).val = c + (j 2).val; omega)

/-- The pieces of `n` rounds, each of which writes what `G` says at the places `W k` and nowhere else, leave `G` at the places of
some round and the old contents elsewhere. -/
theorem read_rounds (v : View sg κ sp s e) (f : v.ty.Contents Val) (G : s.Idx → Val e) (P : ℕ → List (View.Piece Val s e)) {n : ℕ}
    (T : Fin n → List (View.Piece Val s e)) (h0 : P 0 = []) (hs : ∀ k : Fin n, P (k.val + 1) = T k ++ P k.val)
    (W : Fin n → s.Idx → Prop)
    (hG : ∀ k, ∀ p ∈ T k, ∀ x : p.1.shape.Idx, p.2 x = G (p.1.emb x))
    (hW : ∀ k y, W k y → ∃ p ∈ T k, y ∈ p.1.set) (hN : ∀ k y, ¬ W k y → ∀ p ∈ T k, y ∉ p.1.set) :
    ∀ m ≤ n, ∀ y, ((∃ k : Fin n, k.val < m ∧ W k y) → v.read Val (v.writes Val f (P m)) y = G y) ∧
      ((∀ k : Fin n, k.val < m → ¬ W k y) → v.read Val (v.writes Val f (P m)) y = v.read Val f y) := by
  have all : ∀ m ≤ n, ∀ p ∈ P m, ∃ k : Fin n, k.val < m ∧ p ∈ T k := by
    intro m
    induction m with
    | zero => intro _ p hp; rw [h0] at hp; exact absurd hp List.not_mem_nil
    | succ m ih =>
      intro hm p hp
      rw [hs ⟨m, hm⟩] at hp
      rcases List.mem_append.mp hp with h | h
      · exact ⟨⟨m, hm⟩, Nat.lt_succ_self m, h⟩
      · obtain ⟨k, hk, hp'⟩ := ih (Nat.le_of_succ_le hm) p h
        exact ⟨k, Nat.lt_succ_of_lt hk, hp'⟩
  have some : ∀ m ≤ n, ∀ k : Fin n, k.val < m → ∀ p ∈ T k, p ∈ P m := by
    intro m
    induction m with
    | zero => intro _ k hk; exact absurd hk (Nat.not_lt_zero _)
    | succ m ih =>
      intro hm k hk p hp
      rw [hs ⟨m, hm⟩]
      rcases Nat.lt_succ_iff_lt_or_eq.mp hk with h | h
      · exact List.mem_append.mpr (Or.inr (ih (Nat.le_of_succ_le hm) k h p hp))
      · obtain rfl : k = ⟨m, hm⟩ := Fin.ext h
        exact List.mem_append.mpr (Or.inl hp)
  intro m hm y
  constructor
  · rintro ⟨k, hk, hWy⟩
    obtain ⟨p, hp, hy⟩ := hW k y hWy
    refine View.read_writes_apply_of_pieces v f G (P m) (fun q hq x => ?_) y ⟨p, some m hm k hk p hp, hy⟩
    obtain ⟨k', _, hq'⟩ := all m hm q hq
    exact hG k' q hq' x
  · intro hno
    refine View.read_writes_apply_of_forall_not_mem v f y (P m) fun q hq => ?_
    obtain ⟨k', hk', hq'⟩ := all m hm q hq
    exact hN k' y (hno k' hk') q hq'

/-- The piece `p` writes, at the `m × n` tile with corner `(r, c)`, what `G` says there. -/
def At2 {R C : ℕ} (G : (⟨2, ![R, C]⟩ : Shape).Idx → Val e) (r c m n : ℕ) (p : View.Piece Val (⟨2, ![R, C]⟩ : Shape) e) : Prop :=
  ∃ (off : Fin 2 → ℕ) (inb : ∀ a, off a + (![m, n] : Fin 2 → ℕ) a ≤ (![R, C] : Fin 2 → ℕ) a)
    (pay : (⟨2, ![m, n]⟩ : Shape).Idx → Val e), off = ![r, c] ∧ p = ⟨Rect.unit (s := ⟨2, ![R, C]⟩) off ![m, n] inb, pay⟩ ∧
      ∀ (z : (⟨2, ![m, n]⟩ : Shape).Idx) (h0 : r + (z 0).val < R) (h1 : c + (z 1).val < C), pay z = G (ix2 ⟨r + (z 0).val, h0⟩ ⟨c + (z 1).val, h1⟩)

theorem At2.agree {R C : ℕ} {G : (⟨2, ![R, C]⟩ : Shape).Idx → Val e} {r c m n : ℕ} {p : View.Piece Val (⟨2, ![R, C]⟩ : Shape) e}
    (h : At2 G r c m n p) : ∀ x : p.1.shape.Idx, p.2 x = G (p.1.emb x) := by
  obtain ⟨off, inb, pay, rfl, rfl, hp⟩ := h
  intro x
  have b0 : r + m ≤ R := inb 0
  have b1 : c + n ≤ C := inb 1
  have x0 : (x 0).val < m := (x 0).isLt
  have x1 : (x 1).val < n := (x 1).isLt
  refine (hp x (by omega) (by omega)).trans (congrArg G ?_)
  funext a
  match a with
  | ⟨0, _⟩ => exact Fin.ext (by show r + (x 0).val = r + 1 * (x 0).val; omega)
  | ⟨1, _⟩ => exact Fin.ext (by show c + (x 1).val = c + 1 * (x 1).val; omega)

theorem At2.mem {R C : ℕ} {G : (⟨2, ![R, C]⟩ : Shape).Idx → Val e} {r c m n : ℕ} {p : View.Piece Val (⟨2, ![R, C]⟩ : Shape) e}
    (h : At2 G r c m n p) (y : (⟨2, ![R, C]⟩ : Shape).Idx) :
    y ∈ p.1.set ↔ (r ≤ (y 0).val ∧ (y 0).val < r + m) ∧ (c ≤ (y 1).val ∧ (y 1).val < c + n) := by
  obtain ⟨off, inb, pay, rfl, rfl, hp⟩ := h
  rw [Rect.mem_set_unit]
  exact ⟨fun h => ⟨h 0, h 1⟩, fun h a => match a with | ⟨0, _⟩ => h.1 | ⟨1, _⟩ => h.2⟩

theorem pair_left {α β : Type _} {R : α → β → Prop} {l : List α} {l' : List β} (h : List.Forall₂ R l l') {a : α} (ha : a ∈ l) : ∃ b ∈ l', R a b := by
  induction h with
  | nil => exact absurd ha List.not_mem_nil
  | cons h0 _ ih =>
    rcases List.mem_cons.mp ha with rfl | ha
    · exact ⟨_, List.mem_cons_self, h0⟩
    · obtain ⟨b, hb, h⟩ := ih ha
      exact ⟨b, List.mem_cons_of_mem _ hb, h⟩

theorem pair_right {α β : Type _} {R : α → β → Prop} {l : List α} {l' : List β} (h : List.Forall₂ R l l') {b : β} (hb : b ∈ l') : ∃ a ∈ l, R a b := by
  induction h with
  | nil => exact absurd hb List.not_mem_nil
  | cons h0 _ ih =>
    rcases List.mem_cons.mp hb with rfl | hb
    · exact ⟨_, List.mem_cons_self, h0⟩
    · obtain ⟨a, ha, h⟩ := ih hb
      exact ⟨a, List.mem_cons_of_mem _ ha, h⟩

/-- Rounds that each fill one band of 32 rows, tile by tile. -/
theorem read_bands {R C : ℕ} (v : View sg κ sp (⟨2, ![R, C]⟩ : Shape) e) (f : v.ty.Contents Val) (G : (⟨2, ![R, C]⟩ : Shape).Idx → Val e)
    (P : ℕ → List (View.Piece Val (⟨2, ![R, C]⟩ : Shape) e)) {n : ℕ} (hn : n = 8) (d c w q : ℕ)
    (T : Fin n → List (View.Piece Val (⟨2, ![R, C]⟩ : Shape) e)) (h0 : P 0 = []) (hs : ∀ k : Fin n, P (k.val + 1) = T k ++ P k.val)
    (S : List (Fin q)) (hS : ∀ s, s ∈ S)
    (hT : ∀ k : Fin n, k.val < 8 → List.Forall₂ (fun p (s : Fin q) => At2 G (32 * k.val + d) (c + w * s.val) 32 w p) (T k) S) (y) :
    ((d ≤ (y 0).val ∧ (y 0).val < d + 256) ∧ (c ≤ (y 1).val ∧ (y 1).val < c + w * q) → v.read Val (v.writes Val f (P n)) y = G y) ∧
      (¬ ((d ≤ (y 0).val ∧ (y 0).val < d + 256) ∧ (c ≤ (y 1).val ∧ (y 1).val < c + w * q)) →
        v.read Val (v.writes Val f (P n)) y = v.read Val f y) := by
  subst hn
  have key := read_rounds v f G P T h0 hs
    (fun k y => (32 * k.val + d ≤ (y 0).val ∧ (y 0).val < 32 * k.val + d + 32) ∧ (c ≤ (y 1).val ∧ (y 1).val < c + w * q))
    (fun k p hp => by
      obtain ⟨s, _, h⟩ := pair_left (hT k k.isLt) hp
      exact h.agree)
    (fun k y hy => by
      have hw : 0 < w := Nat.pos_of_ne_zero (by rintro rfl; simp at hy; omega)
      have hlt : ((y 1).val - c) / w < q := (Nat.div_lt_iff_lt_mul hw).mpr (by rw [Nat.mul_comm]; omega)
      obtain ⟨p, hp, h⟩ := pair_right (hT k k.isLt) (hS ⟨_, hlt⟩)
      have e := Nat.div_add_mod ((y 1).val - c) w
      have l := Nat.mod_lt ((y 1).val - c) hw
      exact ⟨p, hp, (h.mem y).mpr ⟨hy.1, by constructor <;> simp only <;> omega⟩⟩)
    (fun k y hy p hp hm => hy (by
      obtain ⟨s, _, h⟩ := pair_left (hT k k.isLt) hp
      have hm := (h.mem y).mp hm
      have : w * s.val + w ≤ w * q := by
        have := Nat.mul_le_mul_left w s.isLt
        rwa [Nat.succ_eq_add_one, Nat.mul_add, Nat.mul_one] at this
      exact ⟨hm.1, by omega, by omega⟩))
    8 le_rfl y
  refine ⟨fun hy => key.1 ⟨⟨((y 0).val - d) / 32, by omega⟩, by simp only; omega, ?_, hy.2⟩, fun hy => key.2 fun k _ hW => hy ?_⟩
  · simp only; omega
  · have := k.isLt
    exact ⟨by omega, hW.2⟩

/-- One full band per round. -/
theorem read_rows {R C : ℕ} (v : View sg κ sp (⟨2, ![R, C]⟩ : Shape) e) (f : v.ty.Contents Val) (G : (⟨2, ![R, C]⟩ : Shape).Idx → Val e)
    (P : ℕ → List (View.Piece Val (⟨2, ![R, C]⟩ : Shape) e)) {n : ℕ} (hn : n = 8) (d c w : ℕ)
    (T : Fin n → List (View.Piece Val (⟨2, ![R, C]⟩ : Shape) e)) (h0 : P 0 = []) (hs : ∀ k : Fin n, P (k.val + 1) = T k ++ P k.val)
    (hT : ∀ k : Fin n, k.val < 8 → ∃ p, T k = [p] ∧ At2 G (32 * k.val + d) c 32 w p) (y) :
    ((d ≤ (y 0).val ∧ (y 0).val < d + 256) ∧ (c ≤ (y 1).val ∧ (y 1).val < c + w) → v.read Val (v.writes Val f (P n)) y = G y) ∧
      (¬ ((d ≤ (y 0).val ∧ (y 0).val < d + 256) ∧ (c ≤ (y 1).val ∧ (y 1).val < c + w)) →
        v.read Val (v.writes Val f (P n)) y = v.read Val f y) := by
  have := read_bands v f G P hn d c w 1 T h0 hs [0] (fun s => by simp [Subsingleton.elim s 0]) (fun k hk => by
    obtain ⟨p, e, h⟩ := hT k hk
    rw [e]
    exact .cons h .nil) y
  simpa only [Nat.mul_one] using this

/-- A tile of stacked bands. -/
theorem at2_rows8 {α : Type} {C : ℕ} (T : Fin 8 → (⟨2, ![32, C]⟩ : Shape).Idx → α) (k : Fin 8) (z : (⟨2, ![32, C]⟩ : Shape).Idx)
    (h0 : 32 * k.val + (z 0).val < 256) (h1 : 0 + (z 1).val < C) : T k z = rows8 T (ix2 ⟨32 * k.val + (z 0).val, h0⟩ ⟨0 + (z 1).val, h1⟩) := by
  have z0 : (z 0).val < 32 := (z 0).isLt
  unfold rows8
  have e1 : tileOf (ix2 (n0 := 256) (n1 := C) ⟨32 * k.val + (z 0).val, h0⟩ ⟨0 + (z 1).val, h1⟩ 0) = k := Fin.ext (by show (32 * k.val + (z 0).val) / 32 = k.val; omega)
  rw [e1]
  congr 1
  funext a
  match a with
  | ⟨0, _⟩ => exact Fin.ext (by show (z 0).val = (32 * k.val + (z 0).val) % 32; omega)
  | ⟨1, _⟩ => exact Fin.ext (by show (z 1).val = 0 + (z 1).val; omega)

/-- A tile of tiles. -/
theorem at2_tiles {α : Type} (T : Fin 8 → Fin 8 → (⟨2, ![32, 128]⟩ : Shape).Idx → α) (k s : Fin 8) (z : (⟨2, ![32, 128]⟩ : Shape).Idx)
    (h0 : 32 * k.val + (z 0).val < 256) (h1 : 128 * s.val + (z 1).val < 1024) :
    T k s z = tiles T (ix2 ⟨32 * k.val + (z 0).val, h0⟩ ⟨128 * s.val + (z 1).val, h1⟩) := by
  have z0 : (z 0).val < 32 := (z 0).isLt
  have z1 : (z 1).val < 128 := (z 1).isLt
  show _ = T ⟨(32 * k.val + (z 0).val) / 32, _⟩ ⟨(128 * s.val + (z 1).val) / 128, _⟩ (ix2 ⟨(32 * k.val + (z 0).val) % 32, _⟩ ⟨(128 * s.val + (z 1).val) % 128, _⟩)
  have e1 : (⟨(32 * k.val + (z 0).val) / 32, by omega⟩ : Fin 8) = k := Fin.ext (by show (32 * k.val + (z 0).val) / 32 = k.val; omega)
  have e2 : (⟨(128 * s.val + (z 1).val) / 128, by omega⟩ : Fin 8) = s := Fin.ext (by show (128 * s.val + (z 1).val) / 128 = s.val; omega)
  rw [e1, e2]
  congr 1
  funext a
  match a with
  | ⟨0, _⟩ => exact Fin.ext (by show (z 0).val = (32 * k.val + (z 0).val) % 32; omega)
  | ⟨1, _⟩ => exact Fin.ext (by show (z 1).val = (128 * s.val + (z 1).val) % 128; omega)

end Generic

variable {F : FTy → Type} [FloatOps F]
variable (𝒱 : Variants) (c : Dev nD) (bd : Option 𝒱.V) (i : grid0.Coords)
variable (arg2 : Memref sig .tc .vmem S1x256x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S4x256x256 .f32) (harg17 : arg17.IsWhole) (arg18 : Memref sig .tc .vmem S4x256x256 .f32) (harg18 : arg18.IsWhole) (arg19 : Memref sig .tc .vmem S4x256x128 .f32) (harg19 : arg19.IsWhole) (arg20 : Memref sig .tc .vmem S4x1x256 .f32) (harg20 : arg20.IsWhole) (arg21 : Memref sig .tc .vmem S1x256x1024 .f32) (harg21 : arg21.IsWhole) (arg22 : Memref sig .tc .vmem S256x1024 .bf16) (harg22 : arg22.IsWhole) (arg23 : Memref sig .tc .vmem S256x7168 .f32) (harg23 : arg23.IsWhole) (arg24 : Memref sig .tc .vmem S288x1024 .f32) (harg24 : arg24.IsWhole) (arg25 : Memref sig .tc .vmem S7x280x1024 .f32) (harg25 : arg25.IsWhole) (arg26 : Memref sig .tc .vmem S256x1024 .f32) (harg26 : arg26.IsWhole) (arg27 : Memref sig .tc .vmem S256x1024 .bf16) (harg27 : arg27.IsWhole) (arg28 : Memref sig .tc .vmem S256x1024 .f32) (harg28 : arg28.IsWhole) (arg29 : Memref sig .tc .vmem S256x1024 .bf16) (harg29 : arg29.IsWhole) (arg30 : Memref sig .tc .vmem S256x1024 .bf16) (harg30 : arg30.IsWhole) (arg31 : Memref sig .tc .vmem S256x1024 .bf16) (harg31 : arg31.IsWhole) (arg32 : Memref sig .tc .vmem S256x1024 .bf16) (harg32 : arg32.IsWhole) (arg33 : Memref sig .tc .vmem S256x2048 .bf16) (harg33 : arg33.IsWhole) (arg34 : Memref sig .tc .vmem S256x1024 .f32) (harg34 : arg34.IsWhole) (arg35 : Memref sig .tc .vmem S4x256x256 .f32) (harg35 : arg35.IsWhole)

theorem trips1 : k0_t1_loop.trips = 8 := by decide +kernel
theorem trips2 : k0_t2_loop.trips = 8 := by decide +kernel
theorem trips3 : k0_t3_loop.trips = 8 := by decide +kernel
theorem trips4 : k0_t4_loop.trips = 8 := by decide +kernel
theorem trips5 : k0_t5_loop.trips = 8 := by decide +kernel
theorem trips6 : k0_t6_loop.trips = 8 := by decide +kernel
theorem trips7 : k0_t7_loop.trips = 8 := by decide +kernel

/-- The first loop leaves the normed and modulated rows. -/
theorem loop1 (v3 v5 : Vec F S1x1x1024 .f32) (v11 : Vec F S1x1024 .f32) (X2 : BufTy.Contents (Elt F) arg2.view.ty) (x : Vec F S1x256x1024 .f32)
    (hx : arg2.view.read (Elt F) X2 = x) (G : BufTy.Contents (Elt F) arg22.view.ty) :
    arg22.view.read (Elt F) (arg22.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v3 v5 v11 X2 k0_t1_loop.trips)) = specU x v3 v5 v11 := by
  funext y
  have y0 : (y 0).val < 256 := (y 0).isLt
  have y1 : (y 1).val < 1024 := (y 1).isLt
  refine (read_rows arg22.view G (specU x v3 v5 v11) _ trips1 0 0 1024 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v3 v5 v11 X2) rfl
    (pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v3 v5 v11 X2) (fun k hk => ⟨_, by unfold tripL_k0_t1 trip_k0_t1; rfl, _, _, _, (k0_off2_eq k).trans ?_, rfl, fun z h0 h1 => ?_⟩) y).1 ⟨by omega, by omega⟩
  · rfl
  · rw [readAt_sub3 arg2.view X2 hx _ 0 (32 * k.val) 0 (k0_off1_eq k) (by omega) (by omega) (by omega)]
    unfold specU
    exact at2_rows8 (fun k : Fin 8 => k0_pay152 v3 v5 v11 (sub3 32 1024 0 (32 * k.val) 0 x (by omega) (tile_row k) (by omega))) ⟨k.val, hk⟩ z h0 h1

/-- The second loop leaves the gated rows behind the carried ones. -/
theorem loop2 (X23 : BufTy.Contents (Elt F) arg23.view.ty) (P : Vec F S256x7168 .f32) (hP : arg23.view.read (Elt F) X23 = P)
    (G : BufTy.Contents (Elt F) arg24.view.ty) (a : Vec F S288x1024 .f32) (ha : arg24.view.read (Elt F) G = a) :
    arg24.view.read (Elt F) (arg24.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X23 k0_t2_loop.trips)) = specA a P := by
  funext y
  have y0 : (y 0).val < 288 := (y 0).isLt
  have y1 : (y 1).val < 1024 := (y 1).isLt
  have key := read_rows arg24.view G (specA a P) _ trips2 32 0 1024 (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X23) rfl
    (pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X23) (fun k hk => ⟨_, by unfold tripL_k0_t2 trip_k0_t2; rfl, _, _, _, (k0_off5_eq k).trans ?_, rfl, fun z h0 h1 => ?_⟩) y
  · by_cases h : 32 ≤ (y 0).val
    · exact key.1 ⟨by omega, by omega⟩
    · rw [key.2 (by omega), ha]
      unfold specA
      rw [dif_pos (by omega)]
  · rfl
  · rw [readAt_sub2 arg23.view X23 hP _ (32 * k.val) 0 (k0_off3_eq k) (by omega) (by omega),
      readAt_sub2 arg23.view X23 hP _ (32 * k.val) 1024 (k0_off4_eq k) (by omega) (by omega)]
    unfold specA
    rw [dif_neg (by show ¬ (32 * k.val + 32 + (z 0).val < 32); omega)]
    refine (at2_rows8 (gluT P) ⟨k.val, hk⟩ z (by show 32 * k.val + (z 0).val < 256; omega) h1).trans (congrArg (rows8 (gluT P)) ?_)
    funext b
    match b with
    | ⟨0, _⟩ => exact Fin.ext (by show 32 * k.val + (z 0).val = 32 * k.val + 32 + (z 0).val - 32; omega)
    | ⟨1, _⟩ => rfl

/-- The fourth loop leaves the normed and gated convolution rows. -/
theorem loop4 (v46 : Vec F S280x1024 .f32) (g b : Vec F S1x1024 .f32) (X26 : BufTy.Contents (Elt F) arg26.view.ty) (Y : Vec F S256x1024 .f32)
    (hY : arg26.view.read (Elt F) X26 = Y) (G : BufTy.Contents (Elt F) arg27.view.ty) :
    arg27.view.read (Elt F) (arg27.view.writes (Elt F) G (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 g b X26 k0_t4_loop.trips)) = specC g b Y := by
  funext y
  have y0 : (y 0).val < 256 := (y 0).isLt
  have y1 : (y 1).val < 1024 := (y 1).isLt
  refine (read_rows arg27.view G (specC g b Y) _ trips4 0 0 1024 (tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 g b X26) rfl
    (pb_k0_t4_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 g b X26) (fun k hk => ⟨_, by unfold tripL_k0_t4 trip_k0_t4; rfl, _, _, _, (k0_off78_eq k).trans ?_, rfl, fun z h0 h1 => ?_⟩) y).1 ⟨by omega, by omega⟩
  · rfl
  · rw [readAt_sub2 arg26.view X26 hY _ (32 * k.val) 0 (k0_off78_eq k) (by omega) (by omega)]
    unfold specC
    exact at2_rows8 (fun k : Fin 8 => k0_pay164 g b (sub2 32 1024 (32 * k.val) 0 Y (tile_row k) (by omega))) ⟨k.val, hk⟩ z h0 h1

/-- The fifth loop leaves the convolution branch in the left half. -/
theorem loop5 (v46 : Vec F S280x1024 .f32) (X23 : BufTy.Contents (Elt F) arg23.view.ty) (P : Vec F S256x7168 .f32) (hP : arg23.view.read (Elt F) X23 = P)
    (X28 : BufTy.Contents (Elt F) arg28.view.ty) (W : Vec F S256x1024 .f32) (hW : arg28.view.read (Elt F) X28 = W)
    (G : BufTy.Contents (Elt F) arg33.view.ty) (y : S256x2048.Idx) (hy : (y 1).val < 1024) :
    arg33.view.read (Elt F) (arg33.view.writes (Elt F) G (pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 X23 X28 k0_t5_loop.trips)) y =
      specYL P W (ix2 (y 0) ⟨(y 1).val, hy⟩) := by
  have y0 : (y 0).val < 256 := (y 0).isLt
  refine ((read_rows arg33.view G (fun y : S256x2048.Idx => if h : (y 1).val < 1024 then specYL P W (ix2 (y 0) ⟨(y 1).val, h⟩) else arg33.view.read (Elt F) G y)
    _ trips5 0 0 1024 (tripL_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 X23 X28) rfl
    (pb_k0_t5_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 X23 X28) (fun k hk => ⟨_, by unfold tripL_k0_t5 trip_k0_t5; rfl, _, _, _, (k0_off81_eq k).trans ?_, rfl, fun z h0 h1 => ?_⟩) y).1 ⟨by omega, by omega⟩).trans (dif_pos hy)
  · rfl
  · rw [readAt_sub2 arg23.view X23 hP _ (32 * k.val) 2048 (k0_off79_eq k) (by omega) (by omega),
      readAt_sub2 arg28.view X28 hW _ (32 * k.val) 0 (k0_off80_eq k) (by omega) (by omega)]
    have z1 : (z 1).val < 1024 := (z 1).isLt
    refine Eq.trans ?_ (dif_pos (show 0 + (z 1).val < 1024 by omega)).symm
    unfold specYL
    exact at2_rows8 (fun k : Fin 8 => k0_pay166 (sub2 32 1024 (32 * k.val) 2048 P (tile_row k) (by omega)) (sub2 32 1024 (32 * k.val) 0 W (tile_row k) (by omega)))
      ⟨k.val, hk⟩ z h0 (by omega)

theorem specOut_tile (v10 : FVec F S1x1024 .f32) (fg : Vec F S1x1024 .f32) (x : Vec F S1x256x1024 .f32) (Y : Vec F S256x1024 .f32)
    (j : S1x256x1024.Idx) (k : Fin 8) (hj : tileOf (j 1) = k) :
    specOut v10 fg x Y j = k0_pay3 v10 fg (sub3 32 1024 0 (32 * k.val) 0 x (by omega) (tile_row k) (by omega))
      (sub2 32 1024 (32 * k.val) 0 Y (tile_row k) (by omega)) (ix3 0 (inTile (j 1)) (j 2)) := by
  subst hj
  rfl

/-- The last loop leaves the output rows. -/
theorem loop7 (v10 : FVec F S1x1024 .f32) (fg : Vec F S1x1024 .f32) (X2 : BufTy.Contents (Elt F) arg2.view.ty) (x : Vec F S1x256x1024 .f32)
    (hx : arg2.view.read (Elt F) X2 = x) (X34 : BufTy.Contents (Elt F) arg34.view.ty) (Y : Vec F S256x1024 .f32) (hY : arg34.view.read (Elt F) X34 = Y)
    (G : BufTy.Contents (Elt F) arg21.view.ty) :
    arg21.view.read (Elt F) (arg21.view.writes (Elt F) G (pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v10 fg X2 X34 k0_t7_loop.trips)) = specOut v10 fg x Y := by
  funext y
  have y0 : (y 0).val < 1 := (y 0).isLt
  have y1 : (y 1).val < 256 := (y 1).isLt
  have y2 : (y 2).val < 1024 := (y 2).isLt
  have hL : ∀ k : Fin k0_t7_loop.trips, ∃ (off : Fin 3 → ℕ) (inb : ∀ a, off a + (![1, 32, 1024] : Fin 3 → ℕ) a ≤ (![1, 256, 1024] : Fin 3 → ℕ) a)
      (pay : (⟨3, ![1, 32, 1024]⟩ : Shape).Idx → Elt F .f32), off = ![0, 32 * k.val, 0] ∧
      tripL_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v10 fg X2 X34 k = [⟨Rect.unit (s := ⟨3, ![1, 256, 1024]⟩) off ![1, 32, 1024] inb, pay⟩] ∧
      ∀ (z : (⟨3, ![1, 32, 1024]⟩ : Shape).Idx) (h0 : (z 0).val < 1) (h1 : 32 * k.val + (z 1).val < 256) (h2 : (z 2).val < 1024),
        pay z = specOut v10 fg x Y (ix3 ⟨(z 0).val, h0⟩ ⟨32 * k.val + (z 1).val, h1⟩ ⟨(z 2).val, h2⟩) := by
    intro k
    have hk : k.val < 8 := trips7 ▸ k.isLt
    refine ⟨_, _, _, k0_off113_eq k, by unfold tripL_k0_t7 trip_k0_t7; rfl, fun z h0 h1 h2 => ?_⟩
    rw [readAt_sub3 arg2.view X2 hx _ 0 (32 * k.val) 0 (k0_off113_eq k) (by omega) (by omega) (by omega),
      readAt_sub2 arg34.view X34 hY _ (32 * k.val) 0 (k0_off114_eq k) (by omega) (by omega)]
    have z1 : (z 1).val < 32 := (z 1).isLt
    have e1 : tileOf (⟨32 * k.val + (z 1).val, h1⟩ : Fin 256) = ⟨k.val, hk⟩ := Fin.ext (by show (32 * k.val + (z 1).val) / 32 = k.val; omega)
    rw [specOut_tile v10 fg x Y (ix3 ⟨(z 0).val, h0⟩ ⟨32 * k.val + (z 1).val, h1⟩ ⟨(z 2).val, h2⟩) ⟨k.val, hk⟩ e1]
    congr 1
    funext b
    match b with
    | ⟨0, _⟩ => exact Fin.ext (by show (z 0).val = 0; omega)
    | ⟨1, _⟩ => exact Fin.ext (by show (z 1).val = (32 * k.val + (z 1).val) % 32; omega)
    | ⟨2, _⟩ => rfl
  refine (read_rounds arg21.view G (specOut v10 fg x Y) _ (tripL_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v10 fg X2 X34) rfl
    (pb_k0_t7_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v10 fg X2 X34) (fun k y => 32 * k.val ≤ (y 1).val ∧ (y 1).val < 32 * k.val + 32) ?_ ?_ ?_ _ le_rfl y).1
    ⟨⟨(y 1).val / 32, by rw [trips7]; omega⟩, by show (y 1).val / 32 < _; rw [trips7]; omega, by show 32 * ((y 1).val / 32) ≤ _ ∧ _ < 32 * ((y 1).val / 32) + 32; omega⟩
  · intro k p hp z
    obtain ⟨off, inb, pay, rfl, e, h⟩ := hL k
    rw [e, List.mem_singleton] at hp
    subst hp
    have hk : k.val < 8 := trips7 ▸ k.isLt
    have z0 : (z 0).val < 1 := (z 0).isLt
    have z1 : (z 1).val < 32 := (z 1).isLt
    have z2 : (z 2).val < 1024 := (z 2).isLt
    refine (h z z0 (by omega) z2).trans (congrArg (specOut v10 fg x Y) ?_)
    funext b
    match b with
    | ⟨0, _⟩ => exact Fin.ext (by show (z 0).val = 0 + 1 * (z 0).val; omega)
    | ⟨1, _⟩ => exact Fin.ext (by show 32 * k.val + (z 1).val = 32 * k.val + 1 * (z 1).val; omega)
    | ⟨2, _⟩ => exact Fin.ext (by show (z 2).val = 0 + 1 * (z 2).val; omega)
  · intro k y hy
    obtain ⟨off, inb, pay, rfl, e, h⟩ := hL k
    refine ⟨_, by rw [e]; exact List.mem_singleton.mpr rfl, ?_⟩
    rw [Rect.mem_set_unit]
    have y0 : (y 0).val < 1 := (y 0).isLt
    have y2 : (y 2).val < 1024 := (y 2).isLt
    intro b
    match b with
    | ⟨0, _⟩ => exact ⟨Nat.zero_le _, by show (y 0).val < 0 + 1; omega⟩
    | ⟨1, _⟩ => exact hy
    | ⟨2, _⟩ => exact ⟨Nat.zero_le _, by show (y 2).val < 0 + 1024; omega⟩
  · intro k y hy p hp hm
    obtain ⟨off, inb, pay, rfl, e, h⟩ := hL k
    rw [e, List.mem_singleton] at hp
    subst hp
    rw [Rect.mem_set_unit] at hm
    exact hy (hm 1)

end Cert.KernelIdeal.Body
-- ==== Proof.LoopConv.lean ====
module

public import proofs.«01_k».proof.Proof.LoopVal

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
/-! The convolution loop: its eight slabs of columns run the same arithmetic. -/
namespace Cert.KernelIdeal.Body
open Cert.KernelIdeal Cert.KernelIdeal.Gen
variable {F : FTy → Type} [FloatOps F]
variable (𝒱 : Variants) (c : Dev nD) (bd : Option 𝒱.V) (i : grid0.Coords)
variable (arg2 : Memref sig .tc .vmem S1x256x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S4x256x256 .f32) (harg17 : arg17.IsWhole) (arg18 : Memref sig .tc .vmem S4x256x256 .f32) (harg18 : arg18.IsWhole) (arg19 : Memref sig .tc .vmem S4x256x128 .f32) (harg19 : arg19.IsWhole) (arg20 : Memref sig .tc .vmem S4x1x256 .f32) (harg20 : arg20.IsWhole) (arg21 : Memref sig .tc .vmem S1x256x1024 .f32) (harg21 : arg21.IsWhole) (arg22 : Memref sig .tc .vmem S256x1024 .bf16) (harg22 : arg22.IsWhole) (arg23 : Memref sig .tc .vmem S256x7168 .f32) (harg23 : arg23.IsWhole) (arg24 : Memref sig .tc .vmem S288x1024 .f32) (harg24 : arg24.IsWhole) (arg25 : Memref sig .tc .vmem S7x280x1024 .f32) (harg25 : arg25.IsWhole) (arg26 : Memref sig .tc .vmem S256x1024 .f32) (harg26 : arg26.IsWhole) (arg27 : Memref sig .tc .vmem S256x1024 .bf16) (harg27 : arg27.IsWhole) (arg28 : Memref sig .tc .vmem S256x1024 .f32) (harg28 : arg28.IsWhole) (arg29 : Memref sig .tc .vmem S256x1024 .bf16) (harg29 : arg29.IsWhole) (arg30 : Memref sig .tc .vmem S256x1024 .bf16) (harg30 : arg30.IsWhole) (arg31 : Memref sig .tc .vmem S256x1024 .bf16) (harg31 : arg31.IsWhole) (arg32 : Memref sig .tc .vmem S256x1024 .bf16) (harg32 : arg32.IsWhole) (arg33 : Memref sig .tc .vmem S256x2048 .bf16) (harg33 : arg33.IsWhole) (arg34 : Memref sig .tc .vmem S256x1024 .f32) (harg34 : arg34.IsWhole) (arg35 : Memref sig .tc .vmem S4x256x256 .f32) (harg35 : arg35.IsWhole)

/-- One tile of the convolution, on what its loads read. -/
def convR (X6 : BufTy.Contents (Elt F) arg6.view.ty) (X7 : BufTy.Contents (Elt F) arg7.view.ty) (X24 : BufTy.Contents (Elt F) arg24.view.ty)
    (X25 : BufTy.Contents (Elt F) arg25.view.ty) (offA : Fin 2 → ℕ) (inbA : ∀ a, offA a + (![64, 128] : Fin 2 → ℕ) a ≤ (![288, 1024] : Fin 2 → ℕ) a)
    (offS : Fin 7 → Fin 3 → ℕ) (inbS : ∀ r a, offS r a + (![1, 56, 128] : Fin 3 → ℕ) a ≤ (![7, 280, 1024] : Fin 3 → ℕ) a) (q : ℕ)
    (inbB : ∀ a, (![0, q] : Fin 2 → ℕ) a + (![1, 128] : Fin 2 → ℕ) a ≤ (![1, 1024] : Fin 2 → ℕ) a)
    (inbW : ∀ (t : Fin 31) a, (![t.val, q] : Fin 2 → ℕ) a + (![1, 128] : Fin 2 → ℕ) a ≤ (![31, 1024] : Fin 2 → ℕ) a) : FVec F S32x128 .f32 :=
  convT (arg7.view.readAt (Elt F) (Rect.unit (s := S1x1024) ![0, q] ![1, 128] inbB).toLoadRect X7)
    (fun t => arg6.view.readAt (Elt F) (Rect.unit (s := S31x1024) ![t.val, q] ![1, 128] (inbW t)).toLoadRect X6)
    (arg24.view.readAt (Elt F) (Rect.unit (s := S288x1024) offA ![64, 128] inbA).toLoadRect X24)
    (fun r => arg25.view.readAt (Elt F) (Rect.unit (s := S7x280x1024) (offS r) ![1, 56, 128] (inbS r)).toLoadRect X25)

theorem bias_inb (s : Fin 8) : ∀ a, (![0, 128 * s.val] : Fin 2 → ℕ) a + (![1, 128] : Fin 2 → ℕ) a ≤ (![1, 1024] : Fin 2 → ℕ) a := by decide +revert
theorem taps_inb (s : Fin 8) : ∀ (t : Fin 31) a, (![t.val, 128 * s.val] : Fin 2 → ℕ) a + (![1, 128] : Fin 2 → ℕ) a ≤ (![31, 1024] : Fin 2 → ℕ) a := by
  decide +revert +kernel

theorem convR_eq (X6 : BufTy.Contents (Elt F) arg6.view.ty) (X7 : BufTy.Contents (Elt F) arg7.view.ty) (X24 : BufTy.Contents (Elt F) arg24.view.ty)
    (X25 : BufTy.Contents (Elt F) arg25.view.ty) (cw : Vec F S31x1024 .f32) (cb : Vec F S1x1024 .f32) (A : Vec F S288x1024 .f32) (Sh : Vec F S7x280x1024 .f32)
    (h6 : arg6.view.read (Elt F) X6 = cw) (h7 : arg7.view.read (Elt F) X7 = cb) (h24 : arg24.view.read (Elt F) X24 = A)
    (h25 : arg25.view.read (Elt F) X25 = Sh) (k s : Fin 8) (offA) (inbA) (offS) (inbS)
    (hA : offA = ![32 * k.val, 128 * s.val]) (hS : ∀ r, offS r = ![r.val, 32 * k.val, 128 * s.val]) :
    convR arg6 arg7 arg24 arg25 X6 X7 X24 X25 offA inbA offS inbS (128 * s.val) (bias_inb s) (taps_inb s) =
      convT (sub2 1 128 0 (128 * s.val) cb (by omega) (by omega)) (fun t => sub2 1 128 t.val (128 * s.val) cw (by omega) (by omega))
        (sub2 64 128 (32 * k.val) (128 * s.val) A (by omega) (by omega))
        (fun r => sub3 56 128 r.val (32 * k.val) (128 * s.val) Sh (by omega) (by omega) (by omega)) := by
  unfold convR
  rw [readAt_sub2 arg7.view X7 h7 _ 0 (128 * s.val) rfl (by omega) (by omega),
    readAt_sub2 arg24.view X24 h24 _ (32 * k.val) (128 * s.val) hA (by omega) (by omega)]
  congr 1
  · funext t
    exact readAt_sub2 arg6.view X6 h6 _ t.val (128 * s.val) rfl (by omega) (by omega)
  · funext r
    exact readAt_sub3 arg25.view X25 h25 _ r.val (32 * k.val) (128 * s.val) (hS r) (by omega) (by omega) (by omega)

/-- The third loop leaves the convolution. -/
theorem loop3 (v46 : Vec F S280x1024 .f32) (X6 : BufTy.Contents (Elt F) arg6.view.ty) (X7 : BufTy.Contents (Elt F) arg7.view.ty) (X24 : BufTy.Contents (Elt F) arg24.view.ty)
    (X25 : BufTy.Contents (Elt F) arg25.view.ty) (cw : Vec F S31x1024 .f32) (cb : Vec F S1x1024 .f32) (A : Vec F S288x1024 .f32) (Sh : Vec F S7x280x1024 .f32)
    (h6 : arg6.view.read (Elt F) X6 = cw) (h7 : arg7.view.read (Elt F) X7 = cb) (h24 : arg24.view.read (Elt F) X24 = A)
    (h25 : arg25.view.read (Elt F) X25 = Sh) (G : BufTy.Contents (Elt F) arg26.view.ty) :
    arg26.view.read (Elt F) (arg26.view.writes (Elt F) G (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 X6 X7 X24 X25 k0_t3_loop.trips)) = specConv cw cb A Sh := by
  funext y
  have y0 : (y 0).val < 256 := (y 0).isLt
  have y1 : (y 1).val < 1024 := (y 1).isLt
  refine (read_bands arg26.view G (specConv cw cb A Sh) _ trips3 0 0 128 8 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 X6 X7 X24 X25) rfl
    (pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 X6 X7 X24 X25) [7, 6, 5, 4, 3, 2, 1, 0] (by decide) (fun k hk => ?_) y).1 ⟨by omega, by omega⟩
  have fin := fun (s : Fin 8) (offA : Fin 2 → ℕ) inbA (offS : Fin 7 → Fin 3 → ℕ) inbS (hA : offA = ![32 * k.val, 128 * s.val])
      (hS : ∀ r, offS r = ![r.val, 32 * k.val, 128 * s.val]) (z : S32x128.Idx) (h0 : 32 * k.val + (z 0).val < 256) (h1 : 128 * s.val + (z 1).val < 1024) =>
    (congrFun (convR_eq arg6 arg7 arg24 arg25 X6 X7 X24 X25 cw cb A Sh h6 h7 h24 h25 ⟨k.val, hk⟩ s offA inbA offS inbS hA hS) z).trans
      (at2_tiles (fun k s => convT (sub2 1 128 0 (128 * s.val) cb (by omega) (by omega))
        (fun t => sub2 1 128 t.val (128 * s.val) cw (by omega) (by omega))
        (sub2 64 128 (32 * k.val) (128 * s.val) A (by omega) (by omega))
        (fun r => sub3 56 128 r.val (32 * k.val) (128 * s.val) Sh (by omega) (by omega) (by omega))) ⟨k.val, hk⟩ s z h0 h1)
  unfold tripL_k0_t3 trip_k0_t3
  dsimp only
  refine .cons ?_ (.cons ?_ (.cons ?_ (.cons ?_ (.cons ?_ (.cons ?_ (.cons ?_ (.cons ?_ .nil)))))))
  · refine ⟨_, _, _, (k0_off77_eq k).trans rfl, rfl, fun z h0 h1 => Eq.trans ?_ (fin 7 (k0_off69 k) (k0_off69_inb k) ![k0_off70 k, k0_off71 k, k0_off72 k, k0_off73 k, k0_off74 k, k0_off75 k, k0_off76 k]
      (fun r => match r with | 0 => k0_off70_inb k | 1 => k0_off71_inb k | 2 => k0_off72_inb k | 3 => k0_off73_inb k | 4 => k0_off74_inb k | 5 => k0_off75_inb k | 6 => k0_off76_inb k) (k0_off69_eq k)
      (fun r => match r with | 0 => k0_off70_eq k | 1 => k0_off71_eq k | 2 => k0_off72_eq k | 3 => k0_off73_eq k | 4 => k0_off74_eq k | 5 => k0_off75_eq k | 6 => k0_off76_eq k) z h0 h1)⟩
    rfl
  · refine ⟨_, _, _, (k0_off68_eq k).trans rfl, rfl, fun z h0 h1 => Eq.trans ?_ (fin 6 (k0_off60 k) (k0_off60_inb k) ![k0_off61 k, k0_off62 k, k0_off63 k, k0_off64 k, k0_off65 k, k0_off66 k, k0_off67 k]
      (fun r => match r with | 0 => k0_off61_inb k | 1 => k0_off62_inb k | 2 => k0_off63_inb k | 3 => k0_off64_inb k | 4 => k0_off65_inb k | 5 => k0_off66_inb k | 6 => k0_off67_inb k) (k0_off60_eq k)
      (fun r => match r with | 0 => k0_off61_eq k | 1 => k0_off62_eq k | 2 => k0_off63_eq k | 3 => k0_off64_eq k | 4 => k0_off65_eq k | 5 => k0_off66_eq k | 6 => k0_off67_eq k) z h0 h1)⟩
    rfl
  · refine ⟨_, _, _, (k0_off59_eq k).trans rfl, rfl, fun z h0 h1 => Eq.trans ?_ (fin 5 (k0_off51 k) (k0_off51_inb k) ![k0_off52 k, k0_off53 k, k0_off54 k, k0_off55 k, k0_off56 k, k0_off57 k, k0_off58 k]
      (fun r => match r with | 0 => k0_off52_inb k | 1 => k0_off53_inb k | 2 => k0_off54_inb k | 3 => k0_off55_inb k | 4 => k0_off56_inb k | 5 => k0_off57_inb k | 6 => k0_off58_inb k) (k0_off51_eq k)
      (fun r => match r with | 0 => k0_off52_eq k | 1 => k0_off53_eq k | 2 => k0_off54_eq k | 3 => k0_off55_eq k | 4 => k0_off56_eq k | 5 => k0_off57_eq k | 6 => k0_off58_eq k) z h0 h1)⟩
    rfl
  · refine ⟨_, _, _, (k0_off50_eq k).trans rfl, rfl, fun z h0 h1 => Eq.trans ?_ (fin 4 (k0_off42 k) (k0_off42_inb k) ![k0_off43 k, k0_off44 k, k0_off45 k, k0_off46 k, k0_off47 k, k0_off48 k, k0_off49 k]
      (fun r => match r with | 0 => k0_off43_inb k | 1 => k0_off44_inb k | 2 => k0_off45_inb k | 3 => k0_off46_inb k | 4 => k0_off47_inb k | 5 => k0_off48_inb k | 6 => k0_off49_inb k) (k0_off42_eq k)
      (fun r => match r with | 0 => k0_off43_eq k | 1 => k0_off44_eq k | 2 => k0_off45_eq k | 3 => k0_off46_eq k | 4 => k0_off47_eq k | 5 => k0_off48_eq k | 6 => k0_off49_eq k) z h0 h1)⟩
    rfl
  · refine ⟨_, _, _, (k0_off41_eq k).trans rfl, rfl, fun z h0 h1 => Eq.trans ?_ (fin 3 (k0_off33 k) (k0_off33_inb k) ![k0_off34 k, k0_off35 k, k0_off36 k, k0_off37 k, k0_off38 k, k0_off39 k, k0_off40 k]
      (fun r => match r with | 0 => k0_off34_inb k | 1 => k0_off35_inb k | 2 => k0_off36_inb k | 3 => k0_off37_inb k | 4 => k0_off38_inb k | 5 => k0_off39_inb k | 6 => k0_off40_inb k) (k0_off33_eq k)
      (fun r => match r with | 0 => k0_off34_eq k | 1 => k0_off35_eq k | 2 => k0_off36_eq k | 3 => k0_off37_eq k | 4 => k0_off38_eq k | 5 => k0_off39_eq k | 6 => k0_off40_eq k) z h0 h1)⟩
    rfl
  · refine ⟨_, _, _, (k0_off32_eq k).trans rfl, rfl, fun z h0 h1 => Eq.trans ?_ (fin 2 (k0_off24 k) (k0_off24_inb k) ![k0_off25 k, k0_off26 k, k0_off27 k, k0_off28 k, k0_off29 k, k0_off30 k, k0_off31 k]
      (fun r => match r with | 0 => k0_off25_inb k | 1 => k0_off26_inb k | 2 => k0_off27_inb k | 3 => k0_off28_inb k | 4 => k0_off29_inb k | 5 => k0_off30_inb k | 6 => k0_off31_inb k) (k0_off24_eq k)
      (fun r => match r with | 0 => k0_off25_eq k | 1 => k0_off26_eq k | 2 => k0_off27_eq k | 3 => k0_off28_eq k | 4 => k0_off29_eq k | 5 => k0_off30_eq k | 6 => k0_off31_eq k) z h0 h1)⟩
    rfl
  · refine ⟨_, _, _, (k0_off23_eq k).trans rfl, rfl, fun z h0 h1 => Eq.trans ?_ (fin 1 (k0_off15 k) (k0_off15_inb k) ![k0_off16 k, k0_off17 k, k0_off18 k, k0_off19 k, k0_off20 k, k0_off21 k, k0_off22 k]
      (fun r => match r with | 0 => k0_off16_inb k | 1 => k0_off17_inb k | 2 => k0_off18_inb k | 3 => k0_off19_inb k | 4 => k0_off20_inb k | 5 => k0_off21_inb k | 6 => k0_off22_inb k) (k0_off15_eq k)
      (fun r => match r with | 0 => k0_off16_eq k | 1 => k0_off17_eq k | 2 => k0_off18_eq k | 3 => k0_off19_eq k | 4 => k0_off20_eq k | 5 => k0_off21_eq k | 6 => k0_off22_eq k) z h0 h1)⟩
    rfl
  · refine ⟨_, _, _, (k0_off14_eq k).trans rfl, rfl, fun z h0 h1 => Eq.trans ?_ (fin 0 (k0_off6 k) (k0_off6_inb k) ![k0_off7 k, k0_off8 k, k0_off9 k, k0_off10 k, k0_off11 k, k0_off12 k, k0_off13 k]
      (fun r => match r with | 0 => k0_off7_inb k | 1 => k0_off8_inb k | 2 => k0_off9_inb k | 3 => k0_off10_inb k | 4 => k0_off11_inb k | 5 => k0_off12_inb k | 6 => k0_off13_inb k) (k0_off6_eq k)
      (fun r => match r with | 0 => k0_off7_eq k | 1 => k0_off8_eq k | 2 => k0_off9_eq k | 3 => k0_off10_eq k | 4 => k0_off11_eq k | 5 => k0_off12_eq k | 6 => k0_off13_eq k) z h0 h1)⟩
    rfl

end Cert.KernelIdeal.Body
-- ==== Proof.LoopTurn.lean ====
module

public import proofs.«01_k».proof.Proof.LoopVal

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
/-! The loop that turns queries and keys: four buffers, filled tile by tile. -/
namespace Cert.KernelIdeal.Body
open Cert.KernelIdeal Cert.KernelIdeal.Gen
variable {F : FTy → Type} [FloatOps F]
variable (𝒱 : Variants) (c : Dev nD) (bd : Option 𝒱.V) (i : grid0.Coords)
variable (arg2 : Memref sig .tc .vmem S1x256x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S4x256x256 .f32) (harg17 : arg17.IsWhole) (arg18 : Memref sig .tc .vmem S4x256x256 .f32) (harg18 : arg18.IsWhole) (arg19 : Memref sig .tc .vmem S4x256x128 .f32) (harg19 : arg19.IsWhole) (arg20 : Memref sig .tc .vmem S4x1x256 .f32) (harg20 : arg20.IsWhole) (arg21 : Memref sig .tc .vmem S1x256x1024 .f32) (harg21 : arg21.IsWhole) (arg22 : Memref sig .tc .vmem S256x1024 .bf16) (harg22 : arg22.IsWhole) (arg23 : Memref sig .tc .vmem S256x7168 .f32) (harg23 : arg23.IsWhole) (arg24 : Memref sig .tc .vmem S288x1024 .f32) (harg24 : arg24.IsWhole) (arg25 : Memref sig .tc .vmem S7x280x1024 .f32) (harg25 : arg25.IsWhole) (arg26 : Memref sig .tc .vmem S256x1024 .f32) (harg26 : arg26.IsWhole) (arg27 : Memref sig .tc .vmem S256x1024 .bf16) (harg27 : arg27.IsWhole) (arg28 : Memref sig .tc .vmem S256x1024 .f32) (harg28 : arg28.IsWhole) (arg29 : Memref sig .tc .vmem S256x1024 .bf16) (harg29 : arg29.IsWhole) (arg30 : Memref sig .tc .vmem S256x1024 .bf16) (harg30 : arg30.IsWhole) (arg31 : Memref sig .tc .vmem S256x1024 .bf16) (harg31 : arg31.IsWhole) (arg32 : Memref sig .tc .vmem S256x1024 .bf16) (harg32 : arg32.IsWhole) (arg33 : Memref sig .tc .vmem S256x2048 .bf16) (harg33 : arg33.IsWhole) (arg34 : Memref sig .tc .vmem S256x1024 .f32) (harg34 : arg34.IsWhole) (arg35 : Memref sig .tc .vmem S4x256x256 .f32) (harg35 : arg35.IsWhole)

/-- A turned tile, on what its loads read. -/
def turnR {α : Type} (f : Vec F S32x128 .f32 → Vec F S32x128 .f32 → Vec F S32x128 .f32 → Vec F S32x128 .f32 → α)
    (X15 : BufTy.Contents (Elt F) arg15.view.ty) (X16 : BufTy.Contents (Elt F) arg16.view.ty)
    (X23 : BufTy.Contents (Elt F) arg23.view.ty) (k : Fin k0_t6_loop.trips) (offL offR : Fin 2 → ℕ)
    (inbL : ∀ a, offL a + (![32, 128] : Fin 2 → ℕ) a ≤ (![256, 7168] : Fin 2 → ℕ) a)
    (inbR : ∀ a, offR a + (![32, 128] : Fin 2 → ℕ) a ≤ (![256, 7168] : Fin 2 → ℕ) a) : α :=
  f (arg15.view.readAt (Elt F) (Rect.unit (s := S256x128) (k0_off82 k) ![32, 128] (k0_off82_inb k)).toLoadRect X15)
    (arg16.view.readAt (Elt F) (Rect.unit (s := S256x128) (k0_off82 k) ![32, 128] (k0_off82_inb k)).toLoadRect X16)
    (arg23.view.readAt (Elt F) (Rect.unit (s := S256x7168) offL ![32, 128] inbL).toLoadRect X23)
    (arg23.view.readAt (Elt F) (Rect.unit (s := S256x7168) offR ![32, 128] inbR).toLoadRect X23)

variable (X15 : BufTy.Contents (Elt F) arg15.view.ty) (X16 : BufTy.Contents (Elt F) arg16.view.ty) (X19 : BufTy.Contents (Elt F) arg19.view.ty)
  (X23 : BufTy.Contents (Elt F) arg23.view.ty) (co si : Vec F S256x128 .f32) (kd : Vec F S4x256x128 .f32) (P : Vec F S256x7168 .f32)
  (h15 : arg15.view.read (Elt F) X15 = co) (h16 : arg16.view.read (Elt F) X16 = si) (h19 : arg19.view.read (Elt F) X19 = kd)
  (h23 : arg23.view.read (Elt F) X23 = P)

include h15 h16 h23 in
theorem turnR_eq {α : Type} (f : _ → _ → _ → _ → α) (k : Fin k0_t6_loop.trips) (hk : k.val < 8) (offL offR) (inbL) (inbR) (cl cr : ℕ) (hL : offL = ![32 * k.val, cl]) (hR : offR = ![32 * k.val, cr])
    (hl : cl + 128 ≤ 7168) (hr : cr + 128 ≤ 7168) :
    turnR arg15 arg16 arg23 f X15 X16 X23 k offL offR inbL inbR =
      f (sub2 32 128 (32 * k.val) 0 co (tile_row ⟨k.val, hk⟩) (by omega)) (sub2 32 128 (32 * k.val) 0 si (tile_row ⟨k.val, hk⟩) (by omega))
        (sub2 32 128 (32 * k.val) cl P (tile_row ⟨k.val, hk⟩) hl) (sub2 32 128 (32 * k.val) cr P (tile_row ⟨k.val, hk⟩) hr) := by
  unfold turnR
  rw [readAt_sub2 arg15.view X15 h15 _ (32 * k.val) 0 (k0_off82_eq k) (by omega) (by omega),
    readAt_sub2 arg16.view X16 h16 _ (32 * k.val) 0 (k0_off82_eq k) (by omega) (by omega),
    readAt_sub2 arg23.view X23 h23 _ (32 * k.val) cl hL (by omega) hl,
    readAt_sub2 arg23.view X23 h23 _ (32 * k.val) cr hR (by omega) hr]

include h15 h16 h23 in
/-- The turned queries are left. -/
theorem loop6q (w : BitVec 32) (G : BufTy.Contents (Elt F) arg29.view.ty) :
    arg29.view.read (Elt F) (arg29.view.writes (Elt F) G (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k0_t6_loop.trips).1) = specQ co si P := by
  funext y
  have y0 : (y 0).val < 256 := (y 0).isLt
  have y1 : (y 1).val < 1024 := (y 1).isLt
  refine (read_bands arg29.view G (specQ co si P) (fun n => (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 n).1) trips6 0 0 128 8
    (fun k => (tripL_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k).1) rfl
    (fun k => congrArg (fun L => L.1) (pb_k0_t6_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k)) [7, 6, 5, 4, 3, 2, 1, 0] (by decide) (fun k hk => ?_) y).1 ⟨by omega, by omega⟩
  have fin := fun (s : Fin 8) (z : S32x128.Idx) (h0 : 32 * k.val + (z 0).val < 256) (h1 : 128 * s.val + (z 1).val < 1024) =>
    at2_tiles (fun k s : Fin 8 =>
      if s.val % 2 = 0 then
        k0_pay115 (sub2 32 128 (32 * k.val) 0 co (tile_row k) (by omega)) (sub2 32 128 (32 * k.val) 0 si (tile_row k) (by omega))
          (sub2 32 128 (32 * k.val) (3072 + 256 * headOf s) P (tile_row k) (by unfold headOf; omega))
          (sub2 32 128 (32 * k.val) (3072 + 256 * headOf s + 128) P (tile_row k) (by unfold headOf; omega))
      else
        k0_pay116 (sub2 32 128 (32 * k.val) 0 co (tile_row k) (by omega)) (sub2 32 128 (32 * k.val) 0 si (tile_row k) (by omega))
          (sub2 32 128 (32 * k.val) (3072 + 256 * headOf s) P (tile_row k) (by unfold headOf; omega))
          (sub2 32 128 (32 * k.val) (3072 + 256 * headOf s + 128) P (tile_row k) (by unfold headOf; omega))) ⟨k.val, hk⟩ s z h0 h1
  unfold tripL_k0_t6 trip_k0_t6
  dsimp only
  refine .cons ?_ (.cons ?_ (.cons ?_ (.cons ?_ (.cons ?_ (.cons ?_ (.cons ?_ (.cons ?_ .nil)))))))
  · refine ⟨_, _, _, (k0_off107_eq k).trans rfl, rfl, fun z h0 h1 => Eq.trans ?_ (fin 7 z h0 h1)⟩
    refine Eq.trans (show _ = (turnR arg15 arg16 arg23 k0_pay116 X15 X16 X23 k (k0_off104 k) (k0_off105 k) (k0_off104_inb k) (k0_off105_inb k)) z from rfl) ?_
    rw [turnR_eq arg15 arg16 arg23 X15 X16 X23 co si P h15 h16 h23 k0_pay116 k hk _ _ _ _ 3840 3968 (k0_off104_eq k) (k0_off105_eq k) (by omega) (by omega)]
    rfl
  · refine ⟨_, _, _, (k0_off106_eq k).trans rfl, rfl, fun z h0 h1 => Eq.trans ?_ (fin 6 z h0 h1)⟩
    refine Eq.trans (show _ = (turnR arg15 arg16 arg23 k0_pay115 X15 X16 X23 k (k0_off104 k) (k0_off105 k) (k0_off104_inb k) (k0_off105_inb k)) z from rfl) ?_
    rw [turnR_eq arg15 arg16 arg23 X15 X16 X23 co si P h15 h16 h23 k0_pay115 k hk _ _ _ _ 3840 3968 (k0_off104_eq k) (k0_off105_eq k) (by omega) (by omega)]
    rfl
  · refine ⟨_, _, _, (k0_off100_eq k).trans rfl, rfl, fun z h0 h1 => Eq.trans ?_ (fin 5 z h0 h1)⟩
    refine Eq.trans (show _ = (turnR arg15 arg16 arg23 k0_pay116 X15 X16 X23 k (k0_off97 k) (k0_off98 k) (k0_off97_inb k) (k0_off98_inb k)) z from rfl) ?_
    rw [turnR_eq arg15 arg16 arg23 X15 X16 X23 co si P h15 h16 h23 k0_pay116 k hk _ _ _ _ 3584 3712 (k0_off97_eq k) (k0_off98_eq k) (by omega) (by omega)]
    rfl
  · refine ⟨_, _, _, (k0_off99_eq k).trans rfl, rfl, fun z h0 h1 => Eq.trans ?_ (fin 4 z h0 h1)⟩
    refine Eq.trans (show _ = (turnR arg15 arg16 arg23 k0_pay115 X15 X16 X23 k (k0_off97 k) (k0_off98 k) (k0_off97_inb k) (k0_off98_inb k)) z from rfl) ?_
    rw [turnR_eq arg15 arg16 arg23 X15 X16 X23 co si P h15 h16 h23 k0_pay115 k hk _ _ _ _ 3584 3712 (k0_off97_eq k) (k0_off98_eq k) (by omega) (by omega)]
    rfl
  · refine ⟨_, _, _, (k0_off93_eq k).trans rfl, rfl, fun z h0 h1 => Eq.trans ?_ (fin 3 z h0 h1)⟩
    refine Eq.trans (show _ = (turnR arg15 arg16 arg23 k0_pay116 X15 X16 X23 k (k0_off90 k) (k0_off91 k) (k0_off90_inb k) (k0_off91_inb k)) z from rfl) ?_
    rw [turnR_eq arg15 arg16 arg23 X15 X16 X23 co si P h15 h16 h23 k0_pay116 k hk _ _ _ _ 3328 3456 (k0_off90_eq k) (k0_off91_eq k) (by omega) (by omega)]
    rfl
  · refine ⟨_, _, _, (k0_off92_eq k).trans rfl, rfl, fun z h0 h1 => Eq.trans ?_ (fin 2 z h0 h1)⟩
    refine Eq.trans (show _ = (turnR arg15 arg16 arg23 k0_pay115 X15 X16 X23 k (k0_off90 k) (k0_off91 k) (k0_off90_inb k) (k0_off91_inb k)) z from rfl) ?_
    rw [turnR_eq arg15 arg16 arg23 X15 X16 X23 co si P h15 h16 h23 k0_pay115 k hk _ _ _ _ 3328 3456 (k0_off90_eq k) (k0_off91_eq k) (by omega) (by omega)]
    rfl
  · refine ⟨_, _, _, (k0_off86_eq k).trans rfl, rfl, fun z h0 h1 => Eq.trans ?_ (fin 1 z h0 h1)⟩
    refine Eq.trans (show _ = (turnR arg15 arg16 arg23 k0_pay116 X15 X16 X23 k (k0_off83 k) (k0_off84 k) (k0_off83_inb k) (k0_off84_inb k)) z from rfl) ?_
    rw [turnR_eq arg15 arg16 arg23 X15 X16 X23 co si P h15 h16 h23 k0_pay116 k hk _ _ _ _ 3072 3200 (k0_off83_eq k) (k0_off84_eq k) (by omega) (by omega)]
    rfl
  · refine ⟨_, _, _, (k0_off85_eq k).trans rfl, rfl, fun z h0 h1 => Eq.trans ?_ (fin 0 z h0 h1)⟩
    refine Eq.trans (show _ = (turnR arg15 arg16 arg23 k0_pay115 X15 X16 X23 k (k0_off83 k) (k0_off84 k) (k0_off83_inb k) (k0_off84_inb k)) z from rfl) ?_
    rw [turnR_eq arg15 arg16 arg23 X15 X16 X23 co si P h15 h16 h23 k0_pay115 k hk _ _ _ _ 3072 3200 (k0_off83_eq k) (k0_off84_eq k) (by omega) (by omega)]
    rfl

include h15 h16 h23 in
/-- The turned and scaled keys are left. -/
theorem loop6k (w : BitVec 32) (G : BufTy.Contents (Elt F) arg31.view.ty) :
    arg31.view.read (Elt F) (arg31.view.writes (Elt F) G (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k0_t6_loop.trips).2.2.1) = specK co si P := by
  funext y
  have y0 : (y 0).val < 256 := (y 0).isLt
  have y1 : (y 1).val < 1024 := (y 1).isLt
  refine (read_bands arg31.view G (specK co si P) (fun n => (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 n).2.2.1) trips6 0 0 128 8
    (fun k => (tripL_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k).2.2.1) rfl
    (fun k => congrArg (fun L => L.2.2.1) (pb_k0_t6_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k)) [7, 6, 5, 4, 3, 2, 1, 0] (by decide) (fun k hk => ?_) y).1 ⟨by omega, by omega⟩
  have fin := fun (s : Fin 8) (z : S32x128.Idx) (h0 : 32 * k.val + (z 0).val < 256) (h1 : 128 * s.val + (z 1).val < 1024) =>
    at2_tiles (fun k s : Fin 8 => k0_pay121 (kT co si P k s)) ⟨k.val, hk⟩ s z h0 h1
  unfold tripL_k0_t6 trip_k0_t6
  dsimp only
  refine .cons ?_ (.cons ?_ (.cons ?_ (.cons ?_ (.cons ?_ (.cons ?_ (.cons ?_ (.cons ?_ .nil)))))))
  · refine ⟨_, _, _, (k0_off107_eq k).trans rfl, rfl, fun z h0 h1 => Eq.trans ?_ (fin 7 z h0 h1)⟩
    refine Eq.trans (show _ = (k0_pay121 (turnR arg15 arg16 arg23 k0_pay118 X15 X16 X23 k (k0_off108 k) (k0_off109 k) (k0_off108_inb k) (k0_off109_inb k))) z from rfl) ?_
    rw [turnR_eq arg15 arg16 arg23 X15 X16 X23 co si P h15 h16 h23 k0_pay118 k hk _ _ _ _ 4864 4992 (k0_off108_eq k) (k0_off109_eq k) (by omega) (by omega)]
    rfl
  · refine ⟨_, _, _, (k0_off106_eq k).trans rfl, rfl, fun z h0 h1 => Eq.trans ?_ (fin 6 z h0 h1)⟩
    refine Eq.trans (show _ = (k0_pay121 (turnR arg15 arg16 arg23 k0_pay117 X15 X16 X23 k (k0_off108 k) (k0_off109 k) (k0_off108_inb k) (k0_off109_inb k))) z from rfl) ?_
    rw [turnR_eq arg15 arg16 arg23 X15 X16 X23 co si P h15 h16 h23 k0_pay117 k hk _ _ _ _ 4864 4992 (k0_off108_eq k) (k0_off109_eq k) (by omega) (by omega)]
    rfl
  · refine ⟨_, _, _, (k0_off100_eq k).trans rfl, rfl, fun z h0 h1 => Eq.trans ?_ (fin 5 z h0 h1)⟩
    refine Eq.trans (show _ = (k0_pay121 (turnR arg15 arg16 arg23 k0_pay118 X15 X16 X23 k (k0_off101 k) (k0_off102 k) (k0_off101_inb k) (k0_off102_inb k))) z from rfl) ?_
    rw [turnR_eq arg15 arg16 arg23 X15 X16 X23 co si P h15 h16 h23 k0_pay118 k hk _ _ _ _ 4608 4736 (k0_off101_eq k) (k0_off102_eq k) (by omega) (by omega)]
    rfl
  · refine ⟨_, _, _, (k0_off99_eq k).trans rfl, rfl, fun z h0 h1 => Eq.trans ?_ (fin 4 z h0 h1)⟩
    refine Eq.trans (show _ = (k0_pay121 (turnR arg15 arg16 arg23 k0_pay117 X15 X16 X23 k (k0_off101 k) (k0_off102 k) (k0_off101_inb k) (k0_off102_inb k))) z from rfl) ?_
    rw [turnR_eq arg15 arg16 arg23 X15 X16 X23 co si P h15 h16 h23 k0_pay117 k hk _ _ _ _ 4608 4736 (k0_off101_eq k) (k0_off102_eq k) (by omega) (by omega)]
    rfl
  · refine ⟨_, _, _, (k0_off93_eq k).trans rfl, rfl, fun z h0 h1 => Eq.trans ?_ (fin 3 z h0 h1)⟩
    refine Eq.trans (show _ = (k0_pay121 (turnR arg15 arg16 arg23 k0_pay118 X15 X16 X23 k (k0_off94 k) (k0_off95 k) (k0_off94_inb k) (k0_off95_inb k))) z from rfl) ?_
    rw [turnR_eq arg15 arg16 arg23 X15 X16 X23 co si P h15 h16 h23 k0_pay118 k hk _ _ _ _ 4352 4480 (k0_off94_eq k) (k0_off95_eq k) (by omega) (by omega)]
    rfl
  · refine ⟨_, _, _, (k0_off92_eq k).trans rfl, rfl, fun z h0 h1 => Eq.trans ?_ (fin 2 z h0 h1)⟩
    refine Eq.trans (show _ = (k0_pay121 (turnR arg15 arg16 arg23 k0_pay117 X15 X16 X23 k (k0_off94 k) (k0_off95 k) (k0_off94_inb k) (k0_off95_inb k))) z from rfl) ?_
    rw [turnR_eq arg15 arg16 arg23 X15 X16 X23 co si P h15 h16 h23 k0_pay117 k hk _ _ _ _ 4352 4480 (k0_off94_eq k) (k0_off95_eq k) (by omega) (by omega)]
    rfl
  · refine ⟨_, _, _, (k0_off86_eq k).trans rfl, rfl, fun z h0 h1 => Eq.trans ?_ (fin 1 z h0 h1)⟩
    refine Eq.trans (show _ = (k0_pay121 (turnR arg15 arg16 arg23 k0_pay118 X15 X16 X23 k (k0_off87 k) (k0_off88 k) (k0_off87_inb k) (k0_off88_inb k))) z from rfl) ?_
    rw [turnR_eq arg15 arg16 arg23 X15 X16 X23 co si P h15 h16 h23 k0_pay118 k hk _ _ _ _ 4096 4224 (k0_off87_eq k) (k0_off88_eq k) (by omega) (by omega)]
    rfl
  · refine ⟨_, _, _, (k0_off85_eq k).trans rfl, rfl, fun z h0 h1 => Eq.trans ?_ (fin 0 z h0 h1)⟩
    refine Eq.trans (show _ = (k0_pay121 (turnR arg15 arg16 arg23 k0_pay117 X15 X16 X23 k (k0_off87 k) (k0_off88 k) (k0_off87_inb k) (k0_off88_inb k))) z from rfl) ?_
    rw [turnR_eq arg15 arg16 arg23 X15 X16 X23 co si P h15 h16 h23 k0_pay117 k hk _ _ _ _ 4096 4224 (k0_off87_eq k) (k0_off88_eq k) (by omega) (by omega)]
    rfl

include h15 h16 h19 h23 in
/-- The decayed keys are left. -/
theorem loop6kd (w : BitVec 32) (G : BufTy.Contents (Elt F) arg30.view.ty) :
    arg30.view.read (Elt F) (arg30.view.writes (Elt F) G (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k0_t6_loop.trips).2.1) = specKd co si kd P := by
  funext y
  have y0 : (y 0).val < 256 := (y 0).isLt
  have y1 : (y 1).val < 1024 := (y 1).isLt
  refine (read_bands arg30.view G (specKd co si kd P) (fun n => (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 n).2.1) trips6 0 0 128 8
    (fun k => (tripL_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k).2.1) rfl
    (fun k => congrArg (fun L => L.2.1) (pb_k0_t6_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k)) [7, 6, 5, 4, 3, 2, 1, 0] (by decide) (fun k hk => ?_) y).1 ⟨by omega, by omega⟩
  have fin := fun (s : Fin 8) (z : S32x128.Idx) (h0 : 32 * k.val + (z 0).val < 256) (h1 : 128 * s.val + (z 1).val < 1024) =>
    at2_tiles (fun k s : Fin 8 => k0_pay124 (kT co si P k s)
      (sub3 32 128 (headOf s) (32 * k.val) 0 kd (by unfold headOf; omega) (tile_row k) (by omega))) ⟨k.val, hk⟩ s z h0 h1
  unfold tripL_k0_t6 trip_k0_t6
  dsimp only
  refine .cons ?_ (.cons ?_ (.cons ?_ (.cons ?_ (.cons ?_ (.cons ?_ (.cons ?_ (.cons ?_ .nil)))))))
  · refine ⟨_, _, _, (k0_off107_eq k).trans rfl, rfl, fun z h0 h1 => Eq.trans ?_ (fin 7 z h0 h1)⟩
    refine Eq.trans (show _ = (k0_pay124 (turnR arg15 arg16 arg23 k0_pay118 X15 X16 X23 k (k0_off108 k) (k0_off109 k) (k0_off108_inb k) (k0_off109_inb k)) (arg19.view.readAt (Elt F) (Rect.unit (s := S4x256x128) (k0_off110 k) ![1, 32, 128] (k0_off110_inb k)).toLoadRect X19)) z from rfl) ?_
    rw [turnR_eq arg15 arg16 arg23 X15 X16 X23 co si P h15 h16 h23 k0_pay118 k hk _ _ _ _ 4864 4992 (k0_off108_eq k) (k0_off109_eq k) (by omega) (by omega), readAt_sub3 arg19.view X19 h19 _ 3 (32 * k.val) 0 (k0_off110_eq k) (by omega) (by omega) (by omega)]
    rfl
  · refine ⟨_, _, _, (k0_off106_eq k).trans rfl, rfl, fun z h0 h1 => Eq.trans ?_ (fin 6 z h0 h1)⟩
    refine Eq.trans (show _ = (k0_pay124 (turnR arg15 arg16 arg23 k0_pay117 X15 X16 X23 k (k0_off108 k) (k0_off109 k) (k0_off108_inb k) (k0_off109_inb k)) (arg19.view.readAt (Elt F) (Rect.unit (s := S4x256x128) (k0_off110 k) ![1, 32, 128] (k0_off110_inb k)).toLoadRect X19)) z from rfl) ?_
    rw [turnR_eq arg15 arg16 arg23 X15 X16 X23 co si P h15 h16 h23 k0_pay117 k hk _ _ _ _ 4864 4992 (k0_off108_eq k) (k0_off109_eq k) (by omega) (by omega), readAt_sub3 arg19.view X19 h19 _ 3 (32 * k.val) 0 (k0_off110_eq k) (by omega) (by omega) (by omega)]
    rfl
  · refine ⟨_, _, _, (k0_off100_eq k).trans rfl, rfl, fun z h0 h1 => Eq.trans ?_ (fin 5 z h0 h1)⟩
    refine Eq.trans (show _ = (k0_pay124 (turnR arg15 arg16 arg23 k0_pay118 X15 X16 X23 k (k0_off101 k) (k0_off102 k) (k0_off101_inb k) (k0_off102_inb k)) (arg19.view.readAt (Elt F) (Rect.unit (s := S4x256x128) (k0_off103 k) ![1, 32, 128] (k0_off103_inb k)).toLoadRect X19)) z from rfl) ?_
    rw [turnR_eq arg15 arg16 arg23 X15 X16 X23 co si P h15 h16 h23 k0_pay118 k hk _ _ _ _ 4608 4736 (k0_off101_eq k) (k0_off102_eq k) (by omega) (by omega), readAt_sub3 arg19.view X19 h19 _ 2 (32 * k.val) 0 (k0_off103_eq k) (by omega) (by omega) (by omega)]
    rfl
  · refine ⟨_, _, _, (k0_off99_eq k).trans rfl, rfl, fun z h0 h1 => Eq.trans ?_ (fin 4 z h0 h1)⟩
    refine Eq.trans (show _ = (k0_pay124 (turnR arg15 arg16 arg23 k0_pay117 X15 X16 X23 k (k0_off101 k) (k0_off102 k) (k0_off101_inb k) (k0_off102_inb k)) (arg19.view.readAt (Elt F) (Rect.unit (s := S4x256x128) (k0_off103 k) ![1, 32, 128] (k0_off103_inb k)).toLoadRect X19)) z from rfl) ?_
    rw [turnR_eq arg15 arg16 arg23 X15 X16 X23 co si P h15 h16 h23 k0_pay117 k hk _ _ _ _ 4608 4736 (k0_off101_eq k) (k0_off102_eq k) (by omega) (by omega), readAt_sub3 arg19.view X19 h19 _ 2 (32 * k.val) 0 (k0_off103_eq k) (by omega) (by omega) (by omega)]
    rfl
  · refine ⟨_, _, _, (k0_off93_eq k).trans rfl, rfl, fun z h0 h1 => Eq.trans ?_ (fin 3 z h0 h1)⟩
    refine Eq.trans (show _ = (k0_pay124 (turnR arg15 arg16 arg23 k0_pay118 X15 X16 X23 k (k0_off94 k) (k0_off95 k) (k0_off94_inb k) (k0_off95_inb k)) (arg19.view.readAt (Elt F) (Rect.unit (s := S4x256x128) (k0_off96 k) ![1, 32, 128] (k0_off96_inb k)).toLoadRect X19)) z from rfl) ?_
    rw [turnR_eq arg15 arg16 arg23 X15 X16 X23 co si P h15 h16 h23 k0_pay118 k hk _ _ _ _ 4352 4480 (k0_off94_eq k) (k0_off95_eq k) (by omega) (by omega), readAt_sub3 arg19.view X19 h19 _ 1 (32 * k.val) 0 (k0_off96_eq k) (by omega) (by omega) (by omega)]
    rfl
  · refine ⟨_, _, _, (k0_off92_eq k).trans rfl, rfl, fun z h0 h1 => Eq.trans ?_ (fin 2 z h0 h1)⟩
    refine Eq.trans (show _ = (k0_pay124 (turnR arg15 arg16 arg23 k0_pay117 X15 X16 X23 k (k0_off94 k) (k0_off95 k) (k0_off94_inb k) (k0_off95_inb k)) (arg19.view.readAt (Elt F) (Rect.unit (s := S4x256x128) (k0_off96 k) ![1, 32, 128] (k0_off96_inb k)).toLoadRect X19)) z from rfl) ?_
    rw [turnR_eq arg15 arg16 arg23 X15 X16 X23 co si P h15 h16 h23 k0_pay117 k hk _ _ _ _ 4352 4480 (k0_off94_eq k) (k0_off95_eq k) (by omega) (by omega), readAt_sub3 arg19.view X19 h19 _ 1 (32 * k.val) 0 (k0_off96_eq k) (by omega) (by omega) (by omega)]
    rfl
  · refine ⟨_, _, _, (k0_off86_eq k).trans rfl, rfl, fun z h0 h1 => Eq.trans ?_ (fin 1 z h0 h1)⟩
    refine Eq.trans (show _ = (k0_pay124 (turnR arg15 arg16 arg23 k0_pay118 X15 X16 X23 k (k0_off87 k) (k0_off88 k) (k0_off87_inb k) (k0_off88_inb k)) (arg19.view.readAt (Elt F) (Rect.unit (s := S4x256x128) (k0_off89 k) ![1, 32, 128] (k0_off89_inb k)).toLoadRect X19)) z from rfl) ?_
    rw [turnR_eq arg15 arg16 arg23 X15 X16 X23 co si P h15 h16 h23 k0_pay118 k hk _ _ _ _ 4096 4224 (k0_off87_eq k) (k0_off88_eq k) (by omega) (by omega), readAt_sub3 arg19.view X19 h19 _ 0 (32 * k.val) 0 (k0_off89_eq k) (by omega) (by omega) (by omega)]
    rfl
  · refine ⟨_, _, _, (k0_off85_eq k).trans rfl, rfl, fun z h0 h1 => Eq.trans ?_ (fin 0 z h0 h1)⟩
    refine Eq.trans (show _ = (k0_pay124 (turnR arg15 arg16 arg23 k0_pay117 X15 X16 X23 k (k0_off87 k) (k0_off88 k) (k0_off87_inb k) (k0_off88_inb k)) (arg19.view.readAt (Elt F) (Rect.unit (s := S4x256x128) (k0_off89 k) ![1, 32, 128] (k0_off89_inb k)).toLoadRect X19)) z from rfl) ?_
    rw [turnR_eq arg15 arg16 arg23 X15 X16 X23 co si P h15 h16 h23 k0_pay117 k hk _ _ _ _ 4096 4224 (k0_off87_eq k) (k0_off88_eq k) (by omega) (by omega), readAt_sub3 arg19.view X19 h19 _ 0 (32 * k.val) 0 (k0_off89_eq k) (by omega) (by omega) (by omega)]
    rfl

include h23 in
/-- The values are left. -/
theorem loop6v (w : BitVec 32) (G : BufTy.Contents (Elt F) arg32.view.ty) :
    arg32.view.read (Elt F) (arg32.view.writes (Elt F) G (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k0_t6_loop.trips).2.2.2) = specV P := by
  funext y
  have y0 : (y 0).val < 256 := (y 0).isLt
  have y1 : (y 1).val < 1024 := (y 1).isLt
  refine (read_rows arg32.view G (specV P) (fun n => (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 n).2.2.2) trips6 0 0 1024
    (fun k => (tripL_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k).2.2.2) rfl
    (fun k => congrArg (fun L => L.2.2.2) (pb_k0_t6_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 w X15 X16 X19 X23 k))
    (fun k hk => ⟨_, by unfold tripL_k0_t6 trip_k0_t6; rfl, _, _, _, (k0_off112_eq k).trans ?_, rfl, fun z h0 h1 => ?_⟩) y).1 ⟨by omega, by omega⟩
  · rfl
  · rw [readAt_sub2 arg23.view X23 h23 _ (32 * k.val) 5120 (k0_off111_eq k) (by omega) (by omega)]
    unfold specV
    exact at2_rows8 (fun k : Fin 8 => k0_pay171 (sub2 32 1024 (32 * k.val) 5120 P (tile_row k) (by omega))) ⟨k.val, hk⟩ z h0 h1

end Cert.KernelIdeal.Body
-- ==== Proof.Chain.lean ====
module

public import proofs.«01_k».proof.Proof.LoopConv
public import proofs.«01_k».proof.Proof.LoopTurn
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The stages of one grid point, each from the values of the stages before it. -/

namespace Cert.KernelIdeal.Body
open Cert.KernelIdeal Cert.KernelIdeal.Gen

section Generic
variable {sg : RefSig} {κ : Kind} {sp : Space} {s : Shape} {e : EltTy} {Val : EltTy → Type}

/-- A load of the whole matrix gives the matrix. -/
theorem readAt_all2 {R C : ℕ} (v : View sg κ sp (⟨2, ![R, C]⟩ : Shape) e) (f : v.ty.Contents Val)
    {X : (⟨2, ![R, C]⟩ : Shape).Idx → Val e} (hX : v.read Val f = X) {off : Fin 2 → ℕ}
    (inb : ∀ a, off a + (![R, C] : Fin 2 → ℕ) a ≤ (![R, C] : Fin 2 → ℕ) a) (hoff : off = ![0, 0]) :
    v.readAt Val (Rect.unit (s := ⟨2, ![R, C]⟩) off ![R, C] inb).toLoadRect f = X := by
  rw [readAt_sub2 v f hX inb 0 0 hoff (by omega) (by omega)]
  funext j
  show X _ = X j
  congr 1
  funext a
  match a with
  | ⟨0, _⟩ => exact Fin.ext (by show 0 + (j 0).val = (j 0).val; omega)
  | ⟨1, _⟩ => exact Fin.ext (by show 0 + (j 1).val = (j 1).val; omega)

/-- After a store of the whole matrix the matrix is there. -/
theorem read_all2 {R C : ℕ} (v : View sg κ sp (⟨2, ![R, C]⟩ : Shape) e) (f : v.ty.Contents Val)
    (L : List (View.Piece Val (⟨2, ![R, C]⟩ : Shape) e)) {off : Fin 2 → ℕ}
    (inb : ∀ a, off a + (![R, C] : Fin 2 → ℕ) a ≤ (![R, C] : Fin 2 → ℕ) a) (hoff : off = ![0, 0])
    {w X : (⟨2, ![R, C]⟩ : Shape).Idx → Val e} (hw : w = X) :
    v.read Val (v.writes Val f (⟨Rect.unit (s := ⟨2, ![R, C]⟩) off ![R, C] inb, w⟩ :: L)) = X := by
  subst hw
  funext y
  refine View.read_writes_cons_unit_of_mem v f inb w L y y hoff fun a => ?_
  match a with
  | ⟨0, _⟩ => show (y 0).val = 0 + (y 0).val; omega
  | ⟨1, _⟩ => show (y 1).val = 0 + (y 1).val; omega

/-- After a store of the whole box the box is there. -/
theorem read_all3 {P R C : ℕ} (v : View sg κ sp (⟨3, ![P, R, C]⟩ : Shape) e) (f : v.ty.Contents Val)
    (L : List (View.Piece Val (⟨3, ![P, R, C]⟩ : Shape) e)) {off : Fin 3 → ℕ}
    (inb : ∀ a, off a + (![P, R, C] : Fin 3 → ℕ) a ≤ (![P, R, C] : Fin 3 → ℕ) a) (hoff : off = ![0, 0, 0])
    {w X : (⟨3, ![P, R, C]⟩ : Shape).Idx → Val e} (hw : w = X) :
    v.read Val (v.writes Val f (⟨Rect.unit (s := ⟨3, ![P, R, C]⟩) off ![P, R, C] inb, w⟩ :: L)) = X := by
  subst hw
  funext y
  refine View.read_writes_cons_unit_of_mem v f inb w L y y hoff fun a => ?_
  match a with
  | ⟨0, _⟩ => show (y 0).val = 0 + (y 0).val; omega
  | ⟨1, _⟩ => show (y 1).val = 0 + (y 1).val; omega
  | ⟨2, _⟩ => show (y 2).val = 0 + (y 2).val; omega

/-- The pages from `h` on of the box hold `X`. -/
def From {P R C : ℕ} (v : View sg κ sp (⟨3, ![P, R, C]⟩ : Shape) e) (g : v.ty.Contents Val) (h : ℕ)
    (X : (⟨3, ![P, R, C]⟩ : Shape).Idx → Val e) : Prop := ∀ y, h ≤ (y 0).val → v.read Val g y = X y

theorem From.start {P R C : ℕ} {v : View sg κ sp (⟨3, ![P, R, C]⟩ : Shape) e} {g : v.ty.Contents Val}
    {X : (⟨3, ![P, R, C]⟩ : Shape).Idx → Val e} (h : v.read Val g = X) : From v g 0 X := fun y _ => congrFun h y

/-- A store into page `h` leaves the pages after it. -/
theorem From.store {P R C : ℕ} {v : View sg κ sp (⟨3, ![P, R, C]⟩ : Shape) e} {f : v.ty.Contents Val}
    {L : List (View.Piece Val (⟨3, ![P, R, C]⟩ : Shape) e)} {h : ℕ} {X : (⟨3, ![P, R, C]⟩ : Shape).Idx → Val e}
    (H : From v (v.writes Val f L) h X) {off : Fin 3 → ℕ} {m n : ℕ}
    (inb : ∀ a, off a + (![1, m, n] : Fin 3 → ℕ) a ≤ (![P, R, C] : Fin 3 → ℕ) a) (hoff : off = ![h, 0, 0])
    (w : (⟨3, ![1, m, n]⟩ : Shape).Idx → Val e) :
    From v (v.writes Val f (⟨Rect.unit (s := ⟨3, ![P, R, C]⟩) off ![1, m, n] inb, w⟩ :: L)) (h + 1) X := fun y hy =>
  (View.read_writes_cons_unit_of_not_mem v f inb w L y hoff 0 (Or.inr hy)).trans (H y (by omega))

/-- A load of a page that still holds `X`. -/
theorem From.load {P R C : ℕ} {v : View sg κ sp (⟨3, ![P, R, C]⟩ : Shape) e} {g : v.ty.Contents Val} {h : ℕ}
    {X : (⟨3, ![P, R, C]⟩ : Shape).Idx → Val e} (H : From v g h X) {off : Fin 3 → ℕ} {m n : ℕ}
    (inb : ∀ a, off a + (![1, m, n] : Fin 3 → ℕ) a ≤ (![P, R, C] : Fin 3 → ℕ) a) (hoff : off = ![h, 0, 0])
    (hp : h + 1 ≤ P) (hr : 0 + m ≤ R) (hc : 0 + n ≤ C) :
    v.readAt Val (Rect.unit (s := ⟨3, ![P, R, C]⟩) off ![1, m, n] inb).toLoadRect g = sub3 m n h 0 0 X hp hr hc := by
  rw [readAt_sub3 v g rfl inb h 0 0 hoff hp hr hc]
  funext j
  exact H _ (Nat.le_add_right _ _)

end Generic

variable {F : FTy → Type} [FloatOps F]

theorem head1_st (v : Vec F S256x256 .bf16) (s : Vec F S1x256x256 .f32) (k : Vec F S256x256 .bf16) (d : Vec F S1x1x256 .f32) :
    k0_pay178 v s k d = k0_pay173 v s k d := rfl
theorem head2_st (v : Vec F S256x256 .bf16) (s : Vec F S1x256x256 .f32) (k : Vec F S256x256 .bf16) (d : Vec F S1x1x256 .f32) :
    k0_pay184 v (k0_pay182 s) k d = k0_pay173 v s k d := rfl
theorem head3_st (v : Vec F S256x256 .bf16) (s : Vec F S1x256x256 .f32) (k : Vec F S256x256 .bf16) (d : Vec F S1x1x256 .f32) :
    k0_pay190 v (k0_pay187 s) k d = k0_pay173 v s k d := rfl
theorem head1_y (q v k : Vec F S256x256 .bf16) (s m d : Vec F S1x256x256 .f32) (g b : Vec F S1x256 .f32) (p : Vec F S256x256 .f32) :
    k0_pay181 (k0_pay179 q v s k m d) (k0_pay180 q v s k m d) g b p = k0_pay176 (k0_pay174 q v s k m d) (k0_pay175 q v s k m d) g b p := rfl
theorem head2_y (q v k : Vec F S256x256 .bf16) (s m d : Vec F S1x256x256 .f32) (g b : Vec F S1x256 .f32) (p : Vec F S256x256 .f32) :
    k0_pay186 (k0_pay185 q v (k0_pay182 s) (k0_pay183 q k) m d) g b p = k0_pay176 (k0_pay174 q v s k m d) (k0_pay175 q v s k m d) g b p := rfl
theorem head3_y (q v k : Vec F S256x256 .bf16) (s m d : Vec F S1x256x256 .f32) (g b : Vec F S1x256 .f32) (p : Vec F S256x256 .f32) :
    k0_pay1 (k0_pay191 q (k0_pay188 q v k m) (k0_pay189 s) (constant S256x256 .f32 0x00000000#32) d g) (k0_pay192 b) p
      = k0_pay176 (k0_pay174 q v s k m d) (k0_pay175 q v s k m d) g b p := rfl

variable (I : Ins F) (a : Vec F S288x1024 .f32) (st : Vec F S4x256x256 .f32)

/-- Head `h`'s new state, from the pieces it reads. -/
theorem st_of (h : Fin 4) {v k : Vec F S256x256 .bf16} {s : Vec F S1x256x256 .f32} {d : Vec F S1x1x256 .f32}
    (hv : v = sub2 256 256 0 (256 * h.val) I.V (by omega) (by omega)) (hs : s = sub3 256 256 h.val 0 0 st (by omega) (by omega) (by omega))
    (hk : k = sub2 256 256 0 (256 * h.val) I.Kd (by omega) (by omega)) (hd : d = sub3 1 256 h.val 0 0 I.cd (by omega) (by omega) (by omega)) :
    k0_pay173 v s k d = headSt st I.cd I.Kd I.V h := by
  subst hv hs hk hd; rfl

/-- Head `h`'s output rows, from the pieces they read. -/
theorem y_of (h : Fin 4) {q v k : Vec F S256x256 .bf16} {s m d : Vec F S1x256x256 .f32} {g b : Vec F S1x256 .f32} {p : Vec F S256x256 .f32}
    (hq : q = sub2 256 256 0 (256 * h.val) I.Q (by omega) (by omega)) (hv : v = sub2 256 256 0 (256 * h.val) I.V (by omega) (by omega))
    (hs : s = sub3 256 256 h.val 0 0 st (by omega) (by omega) (by omega)) (hk : k = sub2 256 256 0 (256 * h.val) I.K (by omega) (by omega))
    (hm : m = sub3 256 256 h.val 0 0 I.msk (by omega) (by omega) (by omega)) (hd : d = sub3 256 256 h.val 0 0 I.qd (by omega) (by omega) (by omega))
    (hg : g = sub2 1 256 0 (256 * h.val) I.gg (by omega) (by omega)) (hb : b = sub2 1 256 0 (256 * h.val) I.gb (by omega) (by omega))
    (hp : p = sub2 256 256 0 (6144 + 256 * h.val) I.P (by omega) (by omega)) :
    k0_pay176 (k0_pay174 q v s k m d) (k0_pay175 q v s k m d) g b p = I.H st h := by
  subst hq hv hs hk hm hd hg hb hp; rfl

/-- Only the first 32 carried rows count. -/
theorem specA_congr {a b : Vec F S288x1024 .f32} (P : Vec F S256x7168 .f32) (h : ∀ j : S288x1024.Idx, (j 0).val < 32 → a j = b j) :
    specA a P = specA b P := by
  funext j
  unfold specA
  by_cases hj : (j 0).val < 32
  · rw [dif_pos hj, dif_pos hj]; exact h j hj
  · rw [dif_neg hj, dif_neg hj]

variable (𝒱 : Variants) (c : Dev nD) (bd : Option 𝒱.V) (i : grid0.Coords)
variable (arg2 : Memref sig .tc .vmem S1x256x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S4x256x256 .f32) (harg17 : arg17.IsWhole) (arg18 : Memref sig .tc .vmem S4x256x256 .f32) (harg18 : arg18.IsWhole) (arg19 : Memref sig .tc .vmem S4x256x128 .f32) (harg19 : arg19.IsWhole) (arg20 : Memref sig .tc .vmem S4x1x256 .f32) (harg20 : arg20.IsWhole) (arg21 : Memref sig .tc .vmem S1x256x1024 .f32) (harg21 : arg21.IsWhole) (arg22 : Memref sig .tc .vmem S256x1024 .bf16) (harg22 : arg22.IsWhole) (arg23 : Memref sig .tc .vmem S256x7168 .f32) (harg23 : arg23.IsWhole) (arg24 : Memref sig .tc .vmem S288x1024 .f32) (harg24 : arg24.IsWhole) (arg25 : Memref sig .tc .vmem S7x280x1024 .f32) (harg25 : arg25.IsWhole) (arg26 : Memref sig .tc .vmem S256x1024 .f32) (harg26 : arg26.IsWhole) (arg27 : Memref sig .tc .vmem S256x1024 .bf16) (harg27 : arg27.IsWhole) (arg28 : Memref sig .tc .vmem S256x1024 .f32) (harg28 : arg28.IsWhole) (arg29 : Memref sig .tc .vmem S256x1024 .bf16) (harg29 : arg29.IsWhole) (arg30 : Memref sig .tc .vmem S256x1024 .bf16) (harg30 : arg30.IsWhole) (arg31 : Memref sig .tc .vmem S256x1024 .bf16) (harg31 : arg31.IsWhole) (arg32 : Memref sig .tc .vmem S256x1024 .bf16) (harg32 : arg32.IsWhole) (arg33 : Memref sig .tc .vmem S256x2048 .bf16) (harg33 : arg33.IsWhole) (arg34 : Memref sig .tc .vmem S256x1024 .f32) (harg34 : arg34.IsWhole) (arg35 : Memref sig .tc .vmem S4x256x256 .f32) (harg35 : arg35.IsWhole)

/-- The normed rows. -/
theorem stageU (v3 v5 : Vec F S1x1x1024 .f32) (v11 : Vec F S1x1024 .f32) (X2 : BufTy.Contents (Elt F) arg2.view.ty)
    (h3 : v3 = sub3 1 1024 0 0 0 I.md (by omega) (by omega) (by omega)) (h5 : v5 = sub3 1 1024 0 1 0 I.md (by omega) (by omega) (by omega))
    (h11 : v11 = I.ng) (hx : arg2.view.read (Elt F) X2 = I.x) (G : BufTy.Contents (Elt F) arg22.view.ty) :
    arg22.view.read (Elt F) (arg22.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v3 v5 v11 X2 k0_t1_loop.trips)) = I.U := by
  subst h3 h5 h11
  apply loop1; exact hx

/-- The projected rows. -/
theorem stageP {w1 : Vec F S256x1024 .bf16} {w2 : Vec F S1024x7168 .bf16} (h1 : w1 = I.U) (h2 : w2 = I.win) : k0_pay153 w1 w2 = I.P := by
  subst h1 h2; rfl

/-- The rows the convolution sees, on top of cleared rows. -/
theorem stageA0 (X23 : BufTy.Contents (Elt F) arg23.view.ty) (hP : arg23.view.read (Elt F) X23 = I.P) (f : BufTy.Contents (Elt F) arg24.view.ty)
    {off : Fin 2 → ℕ} (inb : ∀ a, off a + (![32, 1024] : Fin 2 → ℕ) a ≤ (![288, 1024] : Fin 2 → ℕ) a) (hoff : off = ![0, 0]) :
    arg24.view.read (Elt F) (arg24.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X23 k0_t2_loop.trips
      ++ [⟨Rect.unit (s := ⟨2, ![288, 1024]⟩) off ![32, 1024] inb, k0_pay150⟩])) = I.A zeroA := by
  rw [View.writes_append]
  refine Eq.trans (by apply loop2; exacts [hP, rfl]) (specA_congr I.P fun j hj => ?_)
  refine (View.read_writes_cons_unit_of_mem arg24.view f inb k0_pay150 [] j (ix2 ⟨(j 0).val, hj⟩ (j 1)) hoff fun a => ?_).trans ?_
  · match a with
    | ⟨0, _⟩ => show (j 0).val = 0 + (j 0).val; omega
    | ⟨1, _⟩ => show (j 1).val = 0 + (j 1).val; omega
  · rfl

/-- The rows the convolution sees, on top of carried rows. -/
theorem stageA (X23 : BufTy.Contents (Elt F) arg23.view.ty) (hP : arg23.view.read (Elt F) X23 = I.P) (G : BufTy.Contents (Elt F) arg24.view.ty)
    (ha : arg24.view.read (Elt F) G = a) :
    arg24.view.read (Elt F) (arg24.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 X23 k0_t2_loop.trips)) = I.A a := by
  apply loop2; exacts [hP, ha]

/-- The carried rows for the next block: a store over the first 32 rows. -/
theorem stageA' (f : BufTy.Contents (Elt F) arg24.view.ty) (L : List (View.Piece (Elt F) S288x1024 .f32))
    (hA : arg24.view.read (Elt F) (arg24.view.writes (Elt F) f L) = I.A a) {w : Vec F S32x1024 .f32}
    (hw : w = sub2 32 1024 256 0 (I.A a) (by omega) (by omega))
    {off : Fin 2 → ℕ} (inb : ∀ a, off a + (![32, 1024] : Fin 2 → ℕ) a ≤ (![288, 1024] : Fin 2 → ℕ) a) (hoff : off = ![0, 0]) :
    arg24.view.read (Elt F) (arg24.view.writes (Elt F) f (⟨Rect.unit (s := ⟨2, ![288, 1024]⟩) off ![32, 1024] inb, k0_pay163 w⟩ :: L)) = I.A' a := by
  have e : k0_pay163 w = w := shapeCast_self _ _
  rw [e]; subst hw
  funext j
  by_cases hj : (j 0).val < 32
  · refine Eq.trans (View.read_writes_cons_unit_of_mem arg24.view f inb _ L j (ix2 ⟨(j 0).val, hj⟩ (j 1)) hoff fun a => ?_)
      (Eq.trans ?_ (dif_pos hj).symm)
    · match a with
      | ⟨0, _⟩ => show (j 0).val = 0 + (j 0).val; omega
      | ⟨1, _⟩ => show (j 1).val = 0 + (j 1).val; omega
    · show I.A a _ = I.A a _
      congr 1
      funext b
      match b with
      | ⟨0, _⟩ => rfl
      | ⟨1, _⟩ => exact Fin.ext (by show 0 + (j 1).val = (j 1).val; omega)
  · refine Eq.trans (View.read_writes_cons_unit_of_not_mem arg24.view f inb _ L j hoff 0 (Or.inr (by show 0 + 32 ≤ (j 0).val; omega)))
      (Eq.trans (congrFun hA j) ?_)
    refine Eq.trans ?_ (dif_neg hj).symm
    rfl

/-- A page of the shifted copies, as the body casts it. -/
theorem page_cast (A : Vec F S288x1024 .f32) (r : Fin 7) {w : Vec F S280x1024 .f32}
    (hw : w = sub2 280 1024 (r.val + 1) 0 A (by omega) (by omega)) (h : S280x1024.ShapeCasts S1x280x1024) (y : S7x280x1024.Idx) (hy : y 0 = r) :
    shapeCast S1x280x1024 w h (ix3 0 (y 1) (y 2)) = specSh A y := by
  subst hw hy
  refine (shapeCast_addUnit_apply ![280, 1024] _ h (ix3 0 (y 1) (y 2))).trans ?_
  show A _ = A _
  congr 1
  funext b
  match b with
  | ⟨0, _⟩ => rfl
  | ⟨1, _⟩ => exact Fin.ext (by show 0 + (y 2).val = (y 2).val; omega)

/-- The seven shifted copies. -/
theorem stageSh (A : Vec F S288x1024 .f32) (f : BufTy.Contents (Elt F) arg25.view.ty) {w0 w1 w2 w3 w4 w5 w6 : Vec F S280x1024 .f32}
    (hw0 : w0 = sub2 280 1024 1 0 A (by omega) (by omega)) (hw1 : w1 = sub2 280 1024 2 0 A (by omega) (by omega)) (hw2 : w2 = sub2 280 1024 3 0 A (by omega) (by omega)) (hw3 : w3 = sub2 280 1024 4 0 A (by omega) (by omega)) (hw4 : w4 = sub2 280 1024 5 0 A (by omega) (by omega)) (hw5 : w5 = sub2 280 1024 6 0 A (by omega) (by omega)) (hw6 : w6 = sub2 280 1024 7 0 A (by omega) (by omega))
    (o0 o1 o2 o3 o4 o5 o6 : Fin 3 → ℕ) (b0) (b1) (b2) (b3) (b4) (b5) (b6)
    (h0 : o0 = ![0, 0, 0]) (h1 : o1 = ![1, 0, 0]) (h2 : o2 = ![2, 0, 0]) (h3 : o3 = ![3, 0, 0]) (h4 : o4 = ![4, 0, 0]) (h5 : o5 = ![5, 0, 0])
    (h6 : o6 = ![6, 0, 0]) :
    arg25.view.read (Elt F) (arg25.view.writes (Elt F) f
      [⟨Rect.unit (s := ⟨3, ![7, 280, 1024]⟩) o6 ![1, 280, 1024] b6, k0_pay161 w6⟩,
       ⟨Rect.unit (s := ⟨3, ![7, 280, 1024]⟩) o5 ![1, 280, 1024] b5, k0_pay160 w5⟩,
       ⟨Rect.unit (s := ⟨3, ![7, 280, 1024]⟩) o4 ![1, 280, 1024] b4, k0_pay159 w4⟩,
       ⟨Rect.unit (s := ⟨3, ![7, 280, 1024]⟩) o3 ![1, 280, 1024] b3, k0_pay158 w3⟩,
       ⟨Rect.unit (s := ⟨3, ![7, 280, 1024]⟩) o2 ![1, 280, 1024] b2, k0_pay157 w2⟩,
       ⟨Rect.unit (s := ⟨3, ![7, 280, 1024]⟩) o1 ![1, 280, 1024] b1, k0_pay156 w1⟩,
       ⟨Rect.unit (s := ⟨3, ![7, 280, 1024]⟩) o0 ![1, 280, 1024] b0, k0_pay155 w0⟩]) = specSh A := by
  funext y
  have hin : ∀ (r : Fin 7), y 0 = r → ∀ b, (y b).val = (![r.val, 0, 0] : Fin 3 → ℕ) b + ((ix3 0 (y 1) (y 2) : S1x280x1024.Idx) b).val := by
    intro r hr b
    match b with
    | ⟨0, _⟩ => show (y 0).val = r.val + 0; rw [hr]; rfl
    | ⟨1, _⟩ => show (y 1).val = 0 + (y 1).val; omega
    | ⟨2, _⟩ => show (y 2).val = 0 + (y 2).val; omega
  have hout : ∀ (r : Fin 7), (y 0).val < r.val → (y 0).val < (![r.val, 0, 0] : Fin 3 → ℕ) 0 ∨ (![r.val, 0, 0] : Fin 3 → ℕ) 0 + 1 ≤ (y 0).val :=
    fun r h => Or.inl h
  have hy : (y 0).val < 7 := (y 0).isLt
  by_cases c6 : (y 0).val = 6
  · have e : y 0 = (6 : Fin 7) := Fin.ext c6
    exact (View.read_writes_cons_unit_of_mem _ _ b6 _ _ y (ix3 0 (y 1) (y 2)) h6 (hin 6 e)).trans (page_cast A 6 hw6 _ y e)
  refine (View.read_writes_cons_unit_of_not_mem _ _ b6 _ _ y h6 0 (hout 6 (by show _ < 6; omega))).trans ?_
  by_cases c5 : (y 0).val = 5
  · have e : y 0 = (5 : Fin 7) := Fin.ext c5
    exact (View.read_writes_cons_unit_of_mem _ _ b5 _ _ y (ix3 0 (y 1) (y 2)) h5 (hin 5 e)).trans (page_cast A 5 hw5 _ y e)
  refine (View.read_writes_cons_unit_of_not_mem _ _ b5 _ _ y h5 0 (hout 5 (by show _ < 5; omega))).trans ?_
  by_cases c4 : (y 0).val = 4
  · have e : y 0 = (4 : Fin 7) := Fin.ext c4
    exact (View.read_writes_cons_unit_of_mem _ _ b4 _ _ y (ix3 0 (y 1) (y 2)) h4 (hin 4 e)).trans (page_cast A 4 hw4 _ y e)
  refine (View.read_writes_cons_unit_of_not_mem _ _ b4 _ _ y h4 0 (hout 4 (by show _ < 4; omega))).trans ?_
  by_cases c3 : (y 0).val = 3
  · have e : y 0 = (3 : Fin 7) := Fin.ext c3
    exact (View.read_writes_cons_unit_of_mem _ _ b3 _ _ y (ix3 0 (y 1) (y 2)) h3 (hin 3 e)).trans (page_cast A 3 hw3 _ y e)
  refine (View.read_writes_cons_unit_of_not_mem _ _ b3 _ _ y h3 0 (hout 3 (by show _ < 3; omega))).trans ?_
  by_cases c2 : (y 0).val = 2
  · have e : y 0 = (2 : Fin 7) := Fin.ext c2
    exact (View.read_writes_cons_unit_of_mem _ _ b2 _ _ y (ix3 0 (y 1) (y 2)) h2 (hin 2 e)).trans (page_cast A 2 hw2 _ y e)
  refine (View.read_writes_cons_unit_of_not_mem _ _ b2 _ _ y h2 0 (hout 2 (by show _ < 2; omega))).trans ?_
  by_cases c1 : (y 0).val = 1
  · have e : y 0 = (1 : Fin 7) := Fin.ext c1
    exact (View.read_writes_cons_unit_of_mem _ _ b1 _ _ y (ix3 0 (y 1) (y 2)) h1 (hin 1 e)).trans (page_cast A 1 hw1 _ y e)
  refine (View.read_writes_cons_unit_of_not_mem _ _ b1 _ _ y h1 0 (hout 1 (by show _ < 1; omega))).trans ?_
  have e : y 0 = (0 : Fin 7) := Fin.ext (by show _ = 0; omega)
  exact (View.read_writes_cons_unit_of_mem _ _ b0 _ _ y (ix3 0 (y 1) (y 2)) h0 (hin 0 e)).trans (page_cast A 0 hw0 _ y e)

/-- The convolution. -/
theorem stageCv (v46 : Vec F S280x1024 .f32) (X6 : BufTy.Contents (Elt F) arg6.view.ty) (X7 : BufTy.Contents (Elt F) arg7.view.ty)
    (X24 : BufTy.Contents (Elt F) arg24.view.ty) (X25 : BufTy.Contents (Elt F) arg25.view.ty)
    (h6 : arg6.view.read (Elt F) X6 = I.cw) (h7 : arg7.view.read (Elt F) X7 = I.cb) (h24 : arg24.view.read (Elt F) X24 = I.A a)
    (h25 : arg25.view.read (Elt F) X25 = specSh (I.A a)) (G : BufTy.Contents (Elt F) arg26.view.ty) :
    arg26.view.read (Elt F) (arg26.view.writes (Elt F) G (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 X6 X7 X24 X25 k0_t3_loop.trips)) = I.Cv a := by
  apply loop3; exacts [h6, h7, h24, h25]

/-- The normed and gated convolution. -/
theorem stageC (v46 : Vec F S280x1024 .f32) (g b : Vec F S1x1024 .f32) (hg : g = I.lg) (hb : b = I.lb) (X26 : BufTy.Contents (Elt F) arg26.view.ty)
    (hY : arg26.view.read (Elt F) X26 = I.Cv a) (G : BufTy.Contents (Elt F) arg27.view.ty) :
    arg27.view.read (Elt F) (arg27.view.writes (Elt F) G (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 v46 g b X26 k0_t4_loop.trips)) = I.C a := by
  subst hg hb
  apply loop4; exact hY

theorem stageW {w1 : Vec F S256x1024 .bf16} {w2 : Vec F S1024x1024 .bf16} (h1 : w1 = I.C a) (h2 : w2 = I.pw) : k0_pay165 w1 w2 = I.W a := by
  subst h1 h2; rfl

theorem stageY {w1 : Vec F S256x2048 .bf16} {w2 : Vec F S2048x1024 .bf16} (h1 : w1 = I.Cat a st) (h2 : w2 = I.wo) : k0_pay2 w1 w2 = I.Y a st := by
  subst h1 h2; rfl

/-- The block's output. -/
theorem stageOut (v9 : Vec F S1x1x1024 .f32) (fg : Vec F S1x1024 .f32) (h9 : v9 = sub3 1 1024 0 2 0 I.md (by omega) (by omega) (by omega))
    (hf : fg = I.fg) (X2 : BufTy.Contents (Elt F) arg2.view.ty) (hx : arg2.view.read (Elt F) X2 = I.x) (X34 : BufTy.Contents (Elt F) arg34.view.ty)
    (hY : arg34.view.read (Elt F) X34 = I.Y a st) (G : BufTy.Contents (Elt F) arg21.view.ty) :
    arg21.view.read (Elt F) (arg21.view.writes (Elt F) G (pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (k0_pay151 v9) fg X2 X34 k0_t7_loop.trips)) = I.Out a st := by
  subst h9 hf
  apply loop7; exacts [hx, hY]

/-- The joined rows: four heads stored beside the convolution branch. -/
theorem stageCat (f : BufTy.Contents (Elt F) arg33.view.ty) (L : List (View.Piece (Elt F) S256x2048 .bf16))
    (hL : ∀ y : S256x2048.Idx, ∀ hy : (y 1).val < 1024, arg33.view.read (Elt F) (arg33.view.writes (Elt F) f L) y
      = specYL I.P (I.W a) (ix2 (y 0) ⟨(y 1).val, hy⟩))
    {w0 w1 w2 w3 : FVec F S256x256 .bf16} (h0 : w0 = I.H st 0) (h1 : w1 = I.H st 1) (h2 : w2 = I.H st 2) (h3 : w3 = I.H st 3)
    (b0) (b1) (b2) (b3) :
    arg33.view.read (Elt F) (arg33.view.writes (Elt F) f
      (⟨Rect.unit (s := ⟨2, ![256, 2048]⟩) ![0, 1792] ![256, 256] b3, w3⟩ :: ⟨Rect.unit (s := ⟨2, ![256, 2048]⟩) ![0, 1536] ![256, 256] b2, w2⟩
        :: ⟨Rect.unit (s := ⟨2, ![256, 2048]⟩) ![0, 1280] ![256, 256] b1, w1⟩ :: ⟨Rect.unit (s := ⟨2, ![256, 2048]⟩) ![0, 1024] ![256, 256] b0, w0⟩ :: L))
      = I.Cat a st := by
  subst h0 h1 h2 h3
  funext y
  have hy1 : (y 1).val < 2048 := (y 1).isLt
  have hin : ∀ (h : ℕ) (hh : h < 4) (q : (y 1).val - (1024 + 256 * h) < 256), 1024 + 256 * h ≤ (y 1).val → ∀ b, (y b).val
      = (![0, 1024 + 256 * h] : Fin 2 → ℕ) b + ((ix2 (y 0) ⟨(y 1).val - (1024 + 256 * h), q⟩ : S256x256.Idx) b).val := by
    intro h hh q hle b
    match b with
    | ⟨0, _⟩ => show (y 0).val = 0 + (y 0).val; omega
    | ⟨1, _⟩ => show (y 1).val = 1024 + 256 * h + ((y 1).val - (1024 + 256 * h)); omega
  have hsp : ∀ (h : Fin 4) (q : (y 1).val - (1024 + 256 * h.val) < 256), 1024 + 256 * h.val ≤ (y 1).val →
      I.H st h (ix2 (y 0) ⟨(y 1).val - (1024 + 256 * h.val), q⟩) = I.Cat a st y := by
    intro h q hle
    have hd : ((y 1).val - 1024) / 256 = h.val := by omega
    have hm : ((y 1).val - 1024) % 256 = (y 1).val - (1024 + 256 * h.val) := by omega
    refine Eq.trans ?_ (dif_neg (show ¬ (y 1).val < 1024 by omega)).symm
    have e1 : (⟨((y 1).val - 1024) / 256, by omega⟩ : Fin 4) = h := Fin.ext hd
    have e2 : (⟨((y 1).val - 1024) % 256, Nat.mod_lt _ (by decide)⟩ : Fin 256) = ⟨(y 1).val - (1024 + 256 * h.val), q⟩ := Fin.ext hm
    rw [e1, e2]
  by_cases c3 : 1792 ≤ (y 1).val
  · have q : (y 1).val - (1024 + 256 * (3 : Fin 4).val) < 256 := by show _ - 1792 < 256; omega
    exact (View.read_writes_cons_unit_of_mem _ _ b3 _ _ y (ix2 (y 0) ⟨(y 1).val - 1792, q⟩) rfl (hin 3 (by omega) q c3)).trans (hsp 3 q c3)
  refine (View.read_writes_cons_unit_of_not_mem _ _ b3 _ _ y rfl 1 (Or.inl (by show (y 1).val < 1792; omega))).trans ?_
  by_cases c2 : 1536 ≤ (y 1).val
  · have q : (y 1).val - (1024 + 256 * (2 : Fin 4).val) < 256 := by show _ - 1536 < 256; omega
    exact (View.read_writes_cons_unit_of_mem _ _ b2 _ _ y (ix2 (y 0) ⟨(y 1).val - 1536, q⟩) rfl (hin 2 (by omega) q c2)).trans (hsp 2 q c2)
  refine (View.read_writes_cons_unit_of_not_mem _ _ b2 _ _ y rfl 1 (Or.inl (by show (y 1).val < 1536; omega))).trans ?_
  by_cases c1 : 1280 ≤ (y 1).val
  · have q : (y 1).val - (1024 + 256 * (1 : Fin 4).val) < 256 := by show _ - 1280 < 256; omega
    exact (View.read_writes_cons_unit_of_mem _ _ b1 _ _ y (ix2 (y 0) ⟨(y 1).val - 1280, q⟩) rfl (hin 1 (by omega) q c1)).trans (hsp 1 q c1)
  refine (View.read_writes_cons_unit_of_not_mem _ _ b1 _ _ y rfl 1 (Or.inl (by show (y 1).val < 1280; omega))).trans ?_
  by_cases c0 : 1024 ≤ (y 1).val
  · have q : (y 1).val - (1024 + 256 * (0 : Fin 4).val) < 256 := by show _ - 1024 < 256; omega
    exact (View.read_writes_cons_unit_of_mem _ _ b0 _ _ y (ix2 (y 0) ⟨(y 1).val - 1024, q⟩) rfl (hin 0 (by omega) q c0)).trans (hsp 0 q c0)
  refine (View.read_writes_cons_unit_of_not_mem _ _ b0 _ _ y rfl 1 (Or.inl (by show (y 1).val < 1024; omega))).trans ?_
  have hy : (y 1).val < 1024 := by omega
  refine Eq.trans ?_ (dif_pos hy).symm
  exact hL y hy

/-- The carried state: four pages stored. -/
theorem stageSt (f : BufTy.Contents (Elt F) arg35.view.ty) (L : List (View.Piece (Elt F) S4x256x256 .f32))
    {w0 w1 w2 w3 : FVec F S1x256x256 .f32} (h0 : w0 = headSt st I.cd I.Kd I.V 0) (h1 : w1 = headSt st I.cd I.Kd I.V 1)
    (h2 : w2 = headSt st I.cd I.Kd I.V 2) (h3 : w3 = headSt st I.cd I.Kd I.V 3) (b0) (b1) (b2) (b3) :
    arg35.view.read (Elt F) (arg35.view.writes (Elt F) f
      (⟨Rect.unit (s := ⟨3, ![4, 256, 256]⟩) ![3, 0, 0] ![1, 256, 256] b3, w3⟩ :: ⟨Rect.unit (s := ⟨3, ![4, 256, 256]⟩) ![2, 0, 0] ![1, 256, 256] b2, w2⟩
        :: ⟨Rect.unit (s := ⟨3, ![4, 256, 256]⟩) ![1, 0, 0] ![1, 256, 256] b1, w1⟩
        :: ⟨Rect.unit (s := ⟨3, ![4, 256, 256]⟩) ![0, 0, 0] ![1, 256, 256] b0, w0⟩ :: L)) = I.St st := by
  subst h0 h1 h2 h3
  funext y
  have hy0 : (y 0).val < 4 := (y 0).isLt
  have hin : ∀ (h : Fin 4), y 0 = h → ∀ b, (y b).val = (![h.val, 0, 0] : Fin 3 → ℕ) b + ((ix3 0 (y 1) (y 2) : S1x256x256.Idx) b).val := by
    intro r hr b
    match b with
    | ⟨0, _⟩ => show (y 0).val = r.val + 0; rw [hr]; rfl
    | ⟨1, _⟩ => show (y 1).val = 0 + (y 1).val; omega
    | ⟨2, _⟩ => show (y 2).val = 0 + (y 2).val; omega
  have hsp : ∀ (h : Fin 4), y 0 = h → headSt st I.cd I.Kd I.V h (ix3 0 (y 1) (y 2)) = I.St st y := by
    intro h hh; subst hh; rfl
  by_cases c3 : y 0 = (3 : Fin 4)
  · exact (View.read_writes_cons_unit_of_mem _ _ b3 _ _ y (ix3 0 (y 1) (y 2)) rfl (hin 3 c3)).trans (hsp 3 c3)
  have n3 : (y 0).val ≠ 3 := fun e => c3 (Fin.ext e)
  refine (View.read_writes_cons_unit_of_not_mem _ _ b3 _ _ y rfl 0 (Or.inl (by show (y 0).val < 3; omega))).trans ?_
  by_cases c2 : y 0 = (2 : Fin 4)
  · exact (View.read_writes_cons_unit_of_mem _ _ b2 _ _ y (ix3 0 (y 1) (y 2)) rfl (hin 2 c2)).trans (hsp 2 c2)
  have n2 : (y 0).val ≠ 2 := fun e => c2 (Fin.ext e)
  refine (View.read_writes_cons_unit_of_not_mem _ _ b2 _ _ y rfl 0 (Or.inl (by show (y 0).val < 2; omega))).trans ?_
  by_cases c1 : y 0 = (1 : Fin 4)
  · exact (View.read_writes_cons_unit_of_mem _ _ b1 _ _ y (ix3 0 (y 1) (y 2)) rfl (hin 1 c1)).trans (hsp 1 c1)
  have n1 : (y 0).val ≠ 1 := fun e => c1 (Fin.ext e)
  refine (View.read_writes_cons_unit_of_not_mem _ _ b1 _ _ y rfl 0 (Or.inl (by show (y 0).val < 1; omega))).trans ?_
  have c0 : y 0 = (0 : Fin 4) := Fin.ext (by show _ = 0; omega)
  exact (View.read_writes_cons_unit_of_mem _ _ b0 _ _ y (ix3 0 (y 1) (y 2)) rfl (hin 0 c0)).trans (hsp 0 c0)

end Cert.KernelIdeal.Body
-- ==== Proof.RunA.lean ====
module

public import proofs.«01_k».proof.Proof.Chain

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! One grid point, run: the first block of a sequence. -/

namespace Cert.KernelIdeal.Body
open Cert.KernelIdeal Cert.KernelIdeal.Gen
variable {F : FTy → Type} [FloatOps F]
local notation "𝕄" => MT nD τ sig Unit (Elt F) ℕ (UR sig nD τ) ℕ

set_option maxHeartbeats 20000000 in
/-- One grid point that starts a sequence: what it reads is left, what it writes is the value above. -/
theorem runA (c : Dev nD) (i : grid0.Coords) (arg2 : Memref sig .tc .vmem S1x256x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S4x256x256 .f32) (harg17 : arg17.IsWhole) (arg18 : Memref sig .tc .vmem S4x256x256 .f32) (harg18 : arg18.IsWhole) (arg19 : Memref sig .tc .vmem S4x256x128 .f32) (harg19 : arg19.IsWhole) (arg20 : Memref sig .tc .vmem S4x1x256 .f32) (harg20 : arg20.IsWhole) (arg21 : Memref sig .tc .vmem S1x256x1024 .f32) (harg21 : arg21.IsWhole) (arg22 : Memref sig .tc .vmem S256x1024 .bf16) (harg22 : arg22.IsWhole) (arg23 : Memref sig .tc .vmem S256x7168 .f32) (harg23 : arg23.IsWhole) (arg24 : Memref sig .tc .vmem S288x1024 .f32) (harg24 : arg24.IsWhole) (arg25 : Memref sig .tc .vmem S7x280x1024 .f32) (harg25 : arg25.IsWhole) (arg26 : Memref sig .tc .vmem S256x1024 .f32) (harg26 : arg26.IsWhole) (arg27 : Memref sig .tc .vmem S256x1024 .bf16) (harg27 : arg27.IsWhole) (arg28 : Memref sig .tc .vmem S256x1024 .f32) (harg28 : arg28.IsWhole) (arg29 : Memref sig .tc .vmem S256x1024 .bf16) (harg29 : arg29.IsWhole) (arg30 : Memref sig .tc .vmem S256x1024 .bf16) (harg30 : arg30.IsWhole) (arg31 : Memref sig .tc .vmem S256x1024 .bf16) (harg31 : arg31.IsWhole) (arg32 : Memref sig .tc .vmem S256x1024 .bf16) (harg32 : arg32.IsWhole) (arg33 : Memref sig .tc .vmem S256x2048 .bf16) (harg33 : arg33.IsWhole) (arg34 : Memref sig .tc .vmem S256x1024 .f32) (harg34 : arg34.IsWhole) (arg35 : Memref sig .tc .vmem S4x256x256 .f32) (harg35 : arg35.IsWhole) (hc : firstBlock i) (I : Ins F)  (E : Set ℕ) (K : PUnit → sProp 𝕄) :
    iprop(owns (c : Thread nD τ) arg2 fullShare (I.x) ∗ owns (c : Thread nD τ) arg3 fullShare (I.md) ∗ owns (c : Thread nD τ) arg4 fullShare (I.ng) ∗ owns (c : Thread nD τ) arg5 fullShare (I.win) ∗ owns (c : Thread nD τ) arg6 fullShare (I.cw) ∗ owns (c : Thread nD τ) arg7 fullShare (I.cb) ∗ owns (c : Thread nD τ) arg8 fullShare (I.lg) ∗ owns (c : Thread nD τ) arg9 fullShare (I.lb) ∗ owns (c : Thread nD τ) arg10 fullShare (I.pw) ∗ owns (c : Thread nD τ) arg11 fullShare (I.gg) ∗ owns (c : Thread nD τ) arg12 fullShare (I.gb) ∗ owns (c : Thread nD τ) arg13 fullShare (I.wo) ∗ owns (c : Thread nD τ) arg14 fullShare (I.fg) ∗ owns (c : Thread nD τ) arg15 fullShare (I.co) ∗ owns (c : Thread nD τ) arg16 fullShare (I.si) ∗ owns (c : Thread nD τ) arg17 fullShare (I.msk) ∗ owns (c : Thread nD τ) arg18 fullShare (I.qd) ∗ owns (c : Thread nD τ) arg19 fullShare (I.kd) ∗ owns (c : Thread nD τ) arg20 fullShare (I.cd) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg2 fullShare (I.x) ∗ owns (c : Thread nD τ) arg3 fullShare (I.md) ∗ owns (c : Thread nD τ) arg4 fullShare (I.ng) ∗ owns (c : Thread nD τ) arg5 fullShare (I.win) ∗ owns (c : Thread nD τ) arg6 fullShare (I.cw) ∗ owns (c : Thread nD τ) arg7 fullShare (I.cb) ∗ owns (c : Thread nD τ) arg8 fullShare (I.lg) ∗ owns (c : Thread nD τ) arg9 fullShare (I.lb) ∗ owns (c : Thread nD τ) arg10 fullShare (I.pw) ∗ owns (c : Thread nD τ) arg11 fullShare (I.gg) ∗ owns (c : Thread nD τ) arg12 fullShare (I.gb) ∗ owns (c : Thread nD τ) arg13 fullShare (I.wo) ∗ owns (c : Thread nD τ) arg14 fullShare (I.fg) ∗ owns (c : Thread nD τ) arg15 fullShare (I.co) ∗ owns (c : Thread nD τ) arg16 fullShare (I.si) ∗ owns (c : Thread nD τ) arg17 fullShare (I.msk) ∗ owns (c : Thread nD τ) arg18 fullShare (I.qd) ∗ owns (c : Thread nD τ) arg19 fullShare (I.kd) ∗ owns (c : Thread nD τ) arg20 fullShare (I.cd) ∗ owns (c : Thread nD τ) arg21 fullShare (I.Out zeroA zeroSt) ∗ (∃ d, owns (c : Thread nD τ) arg22 fullShare d) ∗ (∃ d, owns (c : Thread nD τ) arg23 fullShare d) ∗ owns (c : Thread nD τ) arg24 fullShare (I.A' zeroA) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ owns (c : Thread nD τ) arg35 fullShare (I.St zeroSt)) -∗ K ⟨⟩))
      ⊢ wp frame (wpE (defs₀ (F := F)) Variants.none c none) E (cc0_hybrid_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_hybrid_layer_eq_skeleton]; unfold cc0_hybrid_layer_skel
  simp only [k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact hc)
  sl_step
  have h2 : arg2.view.read (Elt F) (harg2.unread I.x) = I.x := harg2.read_unread _
  have h3 : arg3.view.read (Elt F) (harg3.unread I.md) = I.md := harg3.read_unread _
  have h4 : arg4.view.read (Elt F) (harg4.unread I.ng) = I.ng := harg4.read_unread _
  have h5 : arg5.view.read (Elt F) (harg5.unread I.win) = I.win := harg5.read_unread _
  have h6 : arg6.view.read (Elt F) (harg6.unread I.cw) = I.cw := harg6.read_unread _
  have h7 : arg7.view.read (Elt F) (harg7.unread I.cb) = I.cb := harg7.read_unread _
  have h8 : arg8.view.read (Elt F) (harg8.unread I.lg) = I.lg := harg8.read_unread _
  have h9 : arg9.view.read (Elt F) (harg9.unread I.lb) = I.lb := harg9.read_unread _
  have h10 : arg10.view.read (Elt F) (harg10.unread I.pw) = I.pw := harg10.read_unread _
  have h11 : arg11.view.read (Elt F) (harg11.unread I.gg) = I.gg := harg11.read_unread _
  have h12 : arg12.view.read (Elt F) (harg12.unread I.gb) = I.gb := harg12.read_unread _
  have h13 : arg13.view.read (Elt F) (harg13.unread I.wo) = I.wo := harg13.read_unread _
  have h14 : arg14.view.read (Elt F) (harg14.unread I.fg) = I.fg := harg14.read_unread _
  have h15 : arg15.view.read (Elt F) (harg15.unread I.co) = I.co := harg15.read_unread _
  have h16 : arg16.view.read (Elt F) (harg16.unread I.si) = I.si := harg16.read_unread _
  have h17 : arg17.view.read (Elt F) (harg17.unread I.msk) = I.msk := harg17.read_unread _
  have h18 : arg18.view.read (Elt F) (harg18.unread I.qd) = I.qd := harg18.read_unread _
  have h19 : arg19.view.read (Elt F) (harg19.unread I.kd) = I.kd := harg19.read_unread _
  have h20 : arg20.view.read (Elt F) (harg20.unread I.cd) = I.cd := harg20.read_unread _
  have hP : arg23.view.read (Elt F) (arg23.view.writes (Elt F) arg23.view.junk (runA.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) = I.P :=
    read_all2 _ _ _ _ rfl (stageP I (by exact readAt_all2 _ _ (by exact stageU I Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ _ (readAt_sub3 _ _ h3 _ 0 0 0 rfl _ _ _) (readAt_sub3 _ _ h3 _ 0 1 0 rfl _ _ _) (readAt_all2 _ _ h4 _ rfl) h2 _) _ rfl)
      (by exact readAt_all2 _ _ h5 _ rfl))
  have hA := stageA0 I Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ hP f24 inb_S288x1024_S32x1024_0_0 rfl
  have hQ : arg29.view.read (Elt F) (arg29.view.writes (Elt F) f29 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runA.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).1) = I.Q := by apply loop6q <;> assumption
  have hKd : arg30.view.read (Elt F) (arg30.view.writes (Elt F) f30 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runA.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).2.1) = I.Kd := by apply loop6kd <;> assumption
  have hK : arg31.view.read (Elt F) (arg31.view.writes (Elt F) f31 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runA.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).2.2.1) = I.K := by apply loop6k <;> assumption
  have hV : arg32.view.read (Elt F) (arg32.view.writes (Elt F) f32 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runA.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).2.2.2) = I.V := by apply loop6v <;> assumption
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; swap; · iexact H21
    ipureintro
    refine stageOut I zeroA zeroSt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ (by exact readAt_sub3 _ _ h3 _ 0 2 0 rfl _ _ _) (by exact readAt_all2 _ _ h14 _ rfl) _ h2 _ ?_ _; refine read_all2 _ _ _ _ rfl (stageY I zeroA zeroSt ?_ (by exact readAt_all2 _ _ h13 _ rfl)); refine readAt_all2 _ _ ?_ _ rfl; refine stageCat I zeroA zeroSt arg33 _ _ ?_ (by exact y_of I zeroSt 0 (by exact readAt_sub2 _ _ hQ _ 0 0 rfl _ _) (by exact readAt_sub2 _ _ hV _ 0 0 rfl _ _) (by exact From.load (From.start (by exact read_all3 _ _ _ _ rfl rfl)) _ rfl _ _ _) (by exact readAt_sub2 _ _ hK _ 0 0 rfl _ _) (by exact readAt_sub3 _ _ h17 _ 0 0 0 rfl _ _ _) (by exact readAt_sub3 _ _ h18 _ 0 0 0 rfl _ _ _) (by exact readAt_sub2 _ _ h11 _ 0 0 rfl _ _) (by exact readAt_sub2 _ _ h12 _ 0 0 rfl _ _) (by exact readAt_sub2 _ _ hP _ 0 6144 rfl _ _)) (by exact (head1_y _ _ _ _ _ _ _ _ _).trans (y_of I zeroSt 1 (by exact readAt_sub2 _ _ hQ _ 0 256 rfl _ _) (by exact readAt_sub2 _ _ hV _ 0 256 rfl _ _) (by exact From.load (From.store (From.start (by exact read_all3 _ _ _ _ rfl rfl)) _ rfl _) _ rfl _ _ _) (by exact readAt_sub2 _ _ hK _ 0 256 rfl _ _) (by exact readAt_sub3 _ _ h17 _ 1 0 0 rfl _ _ _) (by exact readAt_sub3 _ _ h18 _ 1 0 0 rfl _ _ _) (by exact readAt_sub2 _ _ h11 _ 0 256 rfl _ _) (by exact readAt_sub2 _ _ h12 _ 0 256 rfl _ _) (by exact readAt_sub2 _ _ hP _ 0 6400 rfl _ _))) (by exact (head2_y _ _ _ _ _ _ _ _ _).trans (y_of I zeroSt 2 (by exact readAt_sub2 _ _ hQ _ 0 512 rfl _ _) (by exact readAt_sub2 _ _ hV _ 0 512 rfl _ _) (by exact From.load (From.store (From.store (From.start (by exact read_all3 _ _ _ _ rfl rfl)) _ rfl _) _ rfl _) _ rfl _ _ _) (by exact readAt_sub2 _ _ hK _ 0 512 rfl _ _) (by exact readAt_sub3 _ _ h17 _ 2 0 0 rfl _ _ _) (by exact readAt_sub3 _ _ h18 _ 2 0 0 rfl _ _ _) (by exact readAt_sub2 _ _ h11 _ 0 512 rfl _ _) (by exact readAt_sub2 _ _ h12 _ 0 512 rfl _ _) (by exact readAt_sub2 _ _ hP _ 0 6656 rfl _ _))) (by exact (head3_y _ _ _ _ _ _ _ _ _).trans (y_of I zeroSt 3 (by exact readAt_sub2 _ _ hQ _ 0 768 rfl _ _) (by exact readAt_sub2 _ _ hV _ 0 768 rfl _ _) (by exact From.load (From.store (From.store (From.store (From.start (by exact read_all3 _ _ _ _ rfl rfl)) _ rfl _) _ rfl _) _ rfl _) _ rfl _ _ _) (by exact readAt_sub2 _ _ hK _ 0 768 rfl _ _) (by exact readAt_sub3 _ _ h17 _ 3 0 0 rfl _ _ _) (by exact readAt_sub3 _ _ h18 _ 3 0 0 rfl _ _ _) (by exact readAt_sub2 _ _ h11 _ 0 768 rfl _ _) (by exact readAt_sub2 _ _ h12 _ 0 768 rfl _ _) (by exact readAt_sub2 _ _ hP _ 0 6912 rfl _ _))) _ _ _ _; intro y hy; exact loop5 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ hP _ _ (by exact read_all2 _ _ _ _ rfl (stageW I zeroA (by exact readAt_all2 _ _ (by exact stageC I zeroA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ (by exact readAt_all2 _ _ h8 _ rfl) (by exact readAt_all2 _ _ h9 _ rfl) _ (by exact stageCv I zeroA Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ _ _ h6 h7 hA (by exact stageSh (A := I.A zeroA) (hw0 := by exact readAt_sub2 _ _ hA _ 1 0 rfl _ _) (hw1 := by exact readAt_sub2 _ _ hA _ 2 0 rfl _ _) (hw2 := by exact readAt_sub2 _ _ hA _ 3 0 rfl _ _) (hw3 := by exact readAt_sub2 _ _ hA _ 4 0 rfl _ _) (hw4 := by exact readAt_sub2 _ _ hA _ 5 0 rfl _ _) (hw5 := by exact readAt_sub2 _ _ hA _ 6 0 rfl _ _) (hw6 := by exact readAt_sub2 _ _ hA _ 7 0 rfl _ _) (h0 := rfl) (h1 := rfl) (h2 := rfl) (h3 := rfl) (h4 := rfl) (h5 := rfl) (h6 := rfl) ..) _) _) _ rfl) (by exact readAt_all2 _ _ h10 _ rfl))) _ y hy
  isplitl [H22]
  · iexists _, _; isplitr; swap; · iexact H22
    ipureintro; rfl
  isplitl [H23]
  · iexists _, _; isplitr; swap; · iexact H23
    ipureintro; rfl
  isplitl [H24]
  · iexists _; isplitr; swap; · iexact H24
    ipureintro
    exact stageA' I zeroA arg24 _ _ hA (by exact readAt_sub2 _ _ hA _ 256 0 rfl _ _) _ rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  isplitl [H34]
  · iexists _, _; isplitr; swap; · iexact H34
    ipureintro; rfl
  · iexists _; isplitr; swap; · iexact H35
    ipureintro
    exact stageSt I zeroSt arg35 _ _ (by exact st_of I zeroSt 0 (by exact readAt_sub2 _ _ hV _ 0 0 rfl _ _) (by exact From.load (From.start (by exact read_all3 _ _ _ _ rfl rfl)) _ rfl _ _ _) (by exact readAt_sub2 _ _ hKd _ 0 0 rfl _ _) (by exact readAt_sub3 _ _ h20 _ 0 0 0 rfl _ _ _)) (by exact (head1_st _ _ _ _).trans (st_of I zeroSt 1 (by exact readAt_sub2 _ _ hV _ 0 256 rfl _ _) (by exact From.load (From.store (From.start (by exact read_all3 _ _ _ _ rfl rfl)) _ rfl _) _ rfl _ _ _) (by exact readAt_sub2 _ _ hKd _ 0 256 rfl _ _) (by exact readAt_sub3 _ _ h20 _ 1 0 0 rfl _ _ _))) (by exact (head2_st _ _ _ _).trans (st_of I zeroSt 2 (by exact readAt_sub2 _ _ hV _ 0 512 rfl _ _) (by exact From.load (From.store (From.store (From.start (by exact read_all3 _ _ _ _ rfl rfl)) _ rfl _) _ rfl _) _ rfl _ _ _) (by exact readAt_sub2 _ _ hKd _ 0 512 rfl _ _) (by exact readAt_sub3 _ _ h20 _ 2 0 0 rfl _ _ _))) (by exact (head3_st _ _ _ _).trans (st_of I zeroSt 3 (by exact readAt_sub2 _ _ hV _ 0 768 rfl _ _) (by exact From.load (From.store (From.store (From.store (From.start (by exact read_all3 _ _ _ _ rfl rfl)) _ rfl _) _ rfl _) _ rfl _) _ rfl _ _ _) (by exact readAt_sub2 _ _ hKd _ 0 768 rfl _ _) (by exact readAt_sub3 _ _ h20 _ 3 0 0 rfl _ _ _))) _ _ _ _

end Cert.KernelIdeal.Body
-- ==== Proof.RunB.lean ====
module

public import proofs.«01_k».proof.Proof.Chain

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! One grid point, run: a later block. -/

namespace Cert.KernelIdeal.Body
open Cert.KernelIdeal Cert.KernelIdeal.Gen
variable {F : FTy → Type} [FloatOps F]
local notation "𝕄" => MT nD τ sig Unit (Elt F) ℕ (UR sig nD τ) ℕ

set_option maxHeartbeats 20000000 in
/-- One grid point that carries on a sequence: what it reads is left, what it writes is the value above. -/
theorem runB (c : Dev nD) (i : grid0.Coords) (arg2 : Memref sig .tc .vmem S1x256x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S4x256x256 .f32) (harg17 : arg17.IsWhole) (arg18 : Memref sig .tc .vmem S4x256x256 .f32) (harg18 : arg18.IsWhole) (arg19 : Memref sig .tc .vmem S4x256x128 .f32) (harg19 : arg19.IsWhole) (arg20 : Memref sig .tc .vmem S4x1x256 .f32) (harg20 : arg20.IsWhole) (arg21 : Memref sig .tc .vmem S1x256x1024 .f32) (harg21 : arg21.IsWhole) (arg22 : Memref sig .tc .vmem S256x1024 .bf16) (harg22 : arg22.IsWhole) (arg23 : Memref sig .tc .vmem S256x7168 .f32) (harg23 : arg23.IsWhole) (arg24 : Memref sig .tc .vmem S288x1024 .f32) (harg24 : arg24.IsWhole) (arg25 : Memref sig .tc .vmem S7x280x1024 .f32) (harg25 : arg25.IsWhole) (arg26 : Memref sig .tc .vmem S256x1024 .f32) (harg26 : arg26.IsWhole) (arg27 : Memref sig .tc .vmem S256x1024 .bf16) (harg27 : arg27.IsWhole) (arg28 : Memref sig .tc .vmem S256x1024 .f32) (harg28 : arg28.IsWhole) (arg29 : Memref sig .tc .vmem S256x1024 .bf16) (harg29 : arg29.IsWhole) (arg30 : Memref sig .tc .vmem S256x1024 .bf16) (harg30 : arg30.IsWhole) (arg31 : Memref sig .tc .vmem S256x1024 .bf16) (harg31 : arg31.IsWhole) (arg32 : Memref sig .tc .vmem S256x1024 .bf16) (harg32 : arg32.IsWhole) (arg33 : Memref sig .tc .vmem S256x2048 .bf16) (harg33 : arg33.IsWhole) (arg34 : Memref sig .tc .vmem S256x1024 .f32) (harg34 : arg34.IsWhole) (arg35 : Memref sig .tc .vmem S4x256x256 .f32) (harg35 : arg35.IsWhole) (hc : ¬ firstBlock i) (I : Ins F) (a : Vec F S288x1024 .f32) (st : Vec F S4x256x256 .f32) (E : Set ℕ) (K : PUnit → sProp 𝕄) :
    iprop(owns (c : Thread nD τ) arg2 fullShare (I.x) ∗ owns (c : Thread nD τ) arg3 fullShare (I.md) ∗ owns (c : Thread nD τ) arg4 fullShare (I.ng) ∗ owns (c : Thread nD τ) arg5 fullShare (I.win) ∗ owns (c : Thread nD τ) arg6 fullShare (I.cw) ∗ owns (c : Thread nD τ) arg7 fullShare (I.cb) ∗ owns (c : Thread nD τ) arg8 fullShare (I.lg) ∗ owns (c : Thread nD τ) arg9 fullShare (I.lb) ∗ owns (c : Thread nD τ) arg10 fullShare (I.pw) ∗ owns (c : Thread nD τ) arg11 fullShare (I.gg) ∗ owns (c : Thread nD τ) arg12 fullShare (I.gb) ∗ owns (c : Thread nD τ) arg13 fullShare (I.wo) ∗ owns (c : Thread nD τ) arg14 fullShare (I.fg) ∗ owns (c : Thread nD τ) arg15 fullShare (I.co) ∗ owns (c : Thread nD τ) arg16 fullShare (I.si) ∗ owns (c : Thread nD τ) arg17 fullShare (I.msk) ∗ owns (c : Thread nD τ) arg18 fullShare (I.qd) ∗ owns (c : Thread nD τ) arg19 fullShare (I.kd) ∗ owns (c : Thread nD τ) arg20 fullShare (I.cd) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare (a) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ owns (c : Thread nD τ) arg35 fullShare (st)
        ∗ (iprop(owns (c : Thread nD τ) arg2 fullShare (I.x) ∗ owns (c : Thread nD τ) arg3 fullShare (I.md) ∗ owns (c : Thread nD τ) arg4 fullShare (I.ng) ∗ owns (c : Thread nD τ) arg5 fullShare (I.win) ∗ owns (c : Thread nD τ) arg6 fullShare (I.cw) ∗ owns (c : Thread nD τ) arg7 fullShare (I.cb) ∗ owns (c : Thread nD τ) arg8 fullShare (I.lg) ∗ owns (c : Thread nD τ) arg9 fullShare (I.lb) ∗ owns (c : Thread nD τ) arg10 fullShare (I.pw) ∗ owns (c : Thread nD τ) arg11 fullShare (I.gg) ∗ owns (c : Thread nD τ) arg12 fullShare (I.gb) ∗ owns (c : Thread nD τ) arg13 fullShare (I.wo) ∗ owns (c : Thread nD τ) arg14 fullShare (I.fg) ∗ owns (c : Thread nD τ) arg15 fullShare (I.co) ∗ owns (c : Thread nD τ) arg16 fullShare (I.si) ∗ owns (c : Thread nD τ) arg17 fullShare (I.msk) ∗ owns (c : Thread nD τ) arg18 fullShare (I.qd) ∗ owns (c : Thread nD τ) arg19 fullShare (I.kd) ∗ owns (c : Thread nD τ) arg20 fullShare (I.cd) ∗ owns (c : Thread nD τ) arg21 fullShare (I.Out a st) ∗ (∃ d, owns (c : Thread nD τ) arg22 fullShare d) ∗ (∃ d, owns (c : Thread nD τ) arg23 fullShare d) ∗ owns (c : Thread nD τ) arg24 fullShare (I.A' a) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ owns (c : Thread nD τ) arg35 fullShare (I.St st)) -∗ K ⟨⟩))
      ⊢ wp frame (wpE (defs₀ (F := F)) Variants.none c none) E (cc0_hybrid_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_hybrid_layer_eq_skeleton]; unfold cc0_hybrid_layer_skel
  simp only [k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%f35, %hf35, H35⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg24.eq_unread hf24; obtain rfl := harg35.eq_unread hf35
  sl_exec (disch := first | sl_exact hc)
  sl_step
  have h2 : arg2.view.read (Elt F) (harg2.unread I.x) = I.x := harg2.read_unread _
  have h3 : arg3.view.read (Elt F) (harg3.unread I.md) = I.md := harg3.read_unread _
  have h4 : arg4.view.read (Elt F) (harg4.unread I.ng) = I.ng := harg4.read_unread _
  have h5 : arg5.view.read (Elt F) (harg5.unread I.win) = I.win := harg5.read_unread _
  have h6 : arg6.view.read (Elt F) (harg6.unread I.cw) = I.cw := harg6.read_unread _
  have h7 : arg7.view.read (Elt F) (harg7.unread I.cb) = I.cb := harg7.read_unread _
  have h8 : arg8.view.read (Elt F) (harg8.unread I.lg) = I.lg := harg8.read_unread _
  have h9 : arg9.view.read (Elt F) (harg9.unread I.lb) = I.lb := harg9.read_unread _
  have h10 : arg10.view.read (Elt F) (harg10.unread I.pw) = I.pw := harg10.read_unread _
  have h11 : arg11.view.read (Elt F) (harg11.unread I.gg) = I.gg := harg11.read_unread _
  have h12 : arg12.view.read (Elt F) (harg12.unread I.gb) = I.gb := harg12.read_unread _
  have h13 : arg13.view.read (Elt F) (harg13.unread I.wo) = I.wo := harg13.read_unread _
  have h14 : arg14.view.read (Elt F) (harg14.unread I.fg) = I.fg := harg14.read_unread _
  have h15 : arg15.view.read (Elt F) (harg15.unread I.co) = I.co := harg15.read_unread _
  have h16 : arg16.view.read (Elt F) (harg16.unread I.si) = I.si := harg16.read_unread _
  have h17 : arg17.view.read (Elt F) (harg17.unread I.msk) = I.msk := harg17.read_unread _
  have h18 : arg18.view.read (Elt F) (harg18.unread I.qd) = I.qd := harg18.read_unread _
  have h19 : arg19.view.read (Elt F) (harg19.unread I.kd) = I.kd := harg19.read_unread _
  have h20 : arg20.view.read (Elt F) (harg20.unread I.cd) = I.cd := harg20.read_unread _
  have h24 : arg24.view.read (Elt F) (harg24.unread a) = a := harg24.read_unread _
  have h35 : arg35.view.read (Elt F) (harg35.unread st) = st := harg35.read_unread _
  have hP : arg23.view.read (Elt F) (arg23.view.writes (Elt F) arg23.view.junk (runB.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) = I.P :=
    read_all2 _ _ _ _ rfl (stageP I (by exact readAt_all2 _ _ (by exact stageU I Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ _ (readAt_sub3 _ _ h3 _ 0 0 0 rfl _ _ _) (readAt_sub3 _ _ h3 _ 0 1 0 rfl _ _ _) (readAt_all2 _ _ h4 _ rfl) h2 _) _ rfl)
      (by exact readAt_all2 _ _ h5 _ rfl))
  have hA := stageA I a Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ hP _ h24
  have hQ : arg29.view.read (Elt F) (arg29.view.writes (Elt F) f29 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runB.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).1) = I.Q := by apply loop6q <;> assumption
  have hKd : arg30.view.read (Elt F) (arg30.view.writes (Elt F) f30 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runB.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).2.1) = I.Kd := by apply loop6kd <;> assumption
  have hK : arg31.view.read (Elt F) (arg31.view.writes (Elt F) f31 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runB.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).2.2.1) = I.K := by apply loop6k <;> assumption
  have hV : arg32.view.read (Elt F) (arg32.view.writes (Elt F) f32 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 (0#32) (harg15.unread I.co)
      (harg16.unread I.si) (harg19.unread I.kd) (arg23.view.writes (Elt F) arg23.view.junk (runB.sl.H23_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 I f22)) k0_t6_loop.trips).2.2.2) = I.V := by apply loop6v <;> assumption
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; swap; · iexact H21
    ipureintro
    refine stageOut I a st Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ (by exact readAt_sub3 _ _ h3 _ 0 2 0 rfl _ _ _) (by exact readAt_all2 _ _ h14 _ rfl) _ h2 _ ?_ _; refine read_all2 _ _ _ _ rfl (stageY I a st ?_ (by exact readAt_all2 _ _ h13 _ rfl)); refine readAt_all2 _ _ ?_ _ rfl; refine stageCat I a st arg33 _ _ ?_ (by exact y_of I st 0 (by exact readAt_sub2 _ _ hQ _ 0 0 rfl _ _) (by exact readAt_sub2 _ _ hV _ 0 0 rfl _ _) (by exact readAt_sub3 _ _ h35 _ 0 0 0 rfl _ _ _) (by exact readAt_sub2 _ _ hK _ 0 0 rfl _ _) (by exact readAt_sub3 _ _ h17 _ 0 0 0 rfl _ _ _) (by exact readAt_sub3 _ _ h18 _ 0 0 0 rfl _ _ _) (by exact readAt_sub2 _ _ h11 _ 0 0 rfl _ _) (by exact readAt_sub2 _ _ h12 _ 0 0 rfl _ _) (by exact readAt_sub2 _ _ hP _ 0 6144 rfl _ _)) (by exact (head1_y _ _ _ _ _ _ _ _ _).trans (y_of I st 1 (by exact readAt_sub2 _ _ hQ _ 0 256 rfl _ _) (by exact readAt_sub2 _ _ hV _ 0 256 rfl _ _) (by exact readAt_sub3 _ _ h35 _ 1 0 0 rfl _ _ _) (by exact readAt_sub2 _ _ hK _ 0 256 rfl _ _) (by exact readAt_sub3 _ _ h17 _ 1 0 0 rfl _ _ _) (by exact readAt_sub3 _ _ h18 _ 1 0 0 rfl _ _ _) (by exact readAt_sub2 _ _ h11 _ 0 256 rfl _ _) (by exact readAt_sub2 _ _ h12 _ 0 256 rfl _ _) (by exact readAt_sub2 _ _ hP _ 0 6400 rfl _ _))) (by exact (head2_y _ _ _ _ _ _ _ _ _).trans (y_of I st 2 (by exact readAt_sub2 _ _ hQ _ 0 512 rfl _ _) (by exact readAt_sub2 _ _ hV _ 0 512 rfl _ _) (by exact readAt_sub3 _ _ h35 _ 2 0 0 rfl _ _ _) (by exact readAt_sub2 _ _ hK _ 0 512 rfl _ _) (by exact readAt_sub3 _ _ h17 _ 2 0 0 rfl _ _ _) (by exact readAt_sub3 _ _ h18 _ 2 0 0 rfl _ _ _) (by exact readAt_sub2 _ _ h11 _ 0 512 rfl _ _) (by exact readAt_sub2 _ _ h12 _ 0 512 rfl _ _) (by exact readAt_sub2 _ _ hP _ 0 6656 rfl _ _))) (by exact (head3_y _ _ _ _ _ _ _ _ _).trans (y_of I st 3 (by exact readAt_sub2 _ _ hQ _ 0 768 rfl _ _) (by exact readAt_sub2 _ _ hV _ 0 768 rfl _ _) (by exact readAt_sub3 _ _ h35 _ 3 0 0 rfl _ _ _) (by exact readAt_sub2 _ _ hK _ 0 768 rfl _ _) (by exact readAt_sub3 _ _ h17 _ 3 0 0 rfl _ _ _) (by exact readAt_sub3 _ _ h18 _ 3 0 0 rfl _ _ _) (by exact readAt_sub2 _ _ h11 _ 0 768 rfl _ _) (by exact readAt_sub2 _ _ h12 _ 0 768 rfl _ _) (by exact readAt_sub2 _ _ hP _ 0 6912 rfl _ _))) _ _ _ _; intro y hy; exact loop5 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ hP _ _ (by exact read_all2 _ _ _ _ rfl (stageW I a (by exact readAt_all2 _ _ (by exact stageC I a Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ (by exact readAt_all2 _ _ h8 _ rfl) (by exact readAt_all2 _ _ h9 _ rfl) _ (by exact stageCv I a Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 _ _ _ _ _ h6 h7 hA (by exact stageSh (A := I.A a) (hw0 := by exact readAt_sub2 _ _ hA _ 1 0 rfl _ _) (hw1 := by exact readAt_sub2 _ _ hA _ 2 0 rfl _ _) (hw2 := by exact readAt_sub2 _ _ hA _ 3 0 rfl _ _) (hw3 := by exact readAt_sub2 _ _ hA _ 4 0 rfl _ _) (hw4 := by exact readAt_sub2 _ _ hA _ 5 0 rfl _ _) (hw5 := by exact readAt_sub2 _ _ hA _ 6 0 rfl _ _) (hw6 := by exact readAt_sub2 _ _ hA _ 7 0 rfl _ _) (h0 := rfl) (h1 := rfl) (h2 := rfl) (h3 := rfl) (h4 := rfl) (h5 := rfl) (h6 := rfl) ..) _) _) _ rfl) (by exact readAt_all2 _ _ h10 _ rfl))) _ y hy
  isplitl [H22]
  · iexists _, _; isplitr; swap; · iexact H22
    ipureintro; rfl
  isplitl [H23]
  · iexists _, _; isplitr; swap; · iexact H23
    ipureintro; rfl
  isplitl [H24]
  · iexists _; isplitr; swap; · iexact H24
    ipureintro
    exact stageA' I a arg24 _ _ hA (by exact readAt_sub2 _ _ hA _ 256 0 rfl _ _) _ rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  isplitl [H34]
  · iexists _, _; isplitr; swap; · iexact H34
    ipureintro; rfl
  · iexists _; isplitr; swap; · iexact H35
    ipureintro
    exact stageSt I st arg35 _ _ (by exact st_of I st 0 (by exact readAt_sub2 _ _ hV _ 0 0 rfl _ _) (by exact readAt_sub3 _ _ h35 _ 0 0 0 rfl _ _ _) (by exact readAt_sub2 _ _ hKd _ 0 0 rfl _ _) (by exact readAt_sub3 _ _ h20 _ 0 0 0 rfl _ _ _)) (by exact (head1_st _ _ _ _).trans (st_of I st 1 (by exact readAt_sub2 _ _ hV _ 0 256 rfl _ _) (by exact readAt_sub3 _ _ h35 _ 1 0 0 rfl _ _ _) (by exact readAt_sub2 _ _ hKd _ 0 256 rfl _ _) (by exact readAt_sub3 _ _ h20 _ 1 0 0 rfl _ _ _))) (by exact (head2_st _ _ _ _).trans (st_of I st 2 (by exact readAt_sub2 _ _ hV _ 0 512 rfl _ _) (by exact readAt_sub3 _ _ h35 _ 2 0 0 rfl _ _ _) (by exact readAt_sub2 _ _ hKd _ 0 512 rfl _ _) (by exact readAt_sub3 _ _ h20 _ 2 0 0 rfl _ _ _))) (by exact (head3_st _ _ _ _).trans (st_of I st 3 (by exact readAt_sub2 _ _ hV _ 0 768 rfl _ _) (by exact readAt_sub3 _ _ h35 _ 3 0 0 rfl _ _ _) (by exact readAt_sub2 _ _ hKd _ 0 768 rfl _ _) (by exact readAt_sub3 _ _ h20 _ 3 0 0 rfl _ _ _))) _ _ _ _

end Cert.KernelIdeal.Body
-- ==== Proof.Launch.lean ====
module

public import proofs.«01_k».proof.Proof.RunA
public import proofs.«01_k».proof.Proof.RunB
public import proofs.«01_k».proof.Proof.Gen.KernelIdeal.Frame

@[expose] public section

set_option maxRecDepth 16384
set_option maxHeartbeats 1000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The whole launch: what the carried buffers and the output block hold at every grid point, and the run. -/

namespace Cert.KernelIdeal.Body
open Cert.KernelIdeal Cert.KernelIdeal.Gen
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What grid point `t` reads. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- The carried rows and state before grid point `n`: nothing where a sequence starts. -/
def carry (c : Dev nD) : ℕ → Vec F S288x1024 .f32 × Vec F S4x256x256 .f32
  | 0 => (zeroA, zeroSt)
  | n + 1 => if (n + 1) % 32 = 0 then (zeroA, zeroSt) else
      if h : n < cfg0.N then ((insAt m c ⟨n, h⟩).A' (carry c n).1, (insAt m c ⟨n, h⟩).St (carry c n).2) else (zeroA, zeroSt)

theorem carry_start (c : Dev nD) (n : ℕ) (h : n % 32 = 0) : carry m c n = (zeroA, zeroSt) := by
  cases n with
  | zero => rfl
  | succ n => exact if_pos h

theorem carry_next (c : Dev nD) (t : Fin cfg0.N) (h : ¬ (t.val + 1) % 32 = 0) :
    carry m c (t.val + 1) = ((insAt m c t).A' (carry m c t.val).1, (insAt m c t).St (carry m c t.val).2) :=
  (if_neg h).trans (dif_pos t.isLt)

/-- The output block of grid point `t`. -/
def outAt (c : Dev nD) (t : Fin cfg0.N) : Vec F S1x256x1024 .f32 := (insAt m c t).Out (carry m c t.val).1 (carry m c t.val).2

/-- The branch of the body is taken where a sequence starts. -/
theorem firstBlock_iff (t : Fin cfg0.N) : firstBlock (grid0.coords t) ↔ t.val % 32 = 0 := by
  have ht : t.val < 64 := Nat.lt_of_lt_of_eq t.isLt N_0
  have e1 : (grid0.coords t 1).val = t.val / 1 % 32 := Pipeline.Grid.coords_val t 1 (by decide) rfl
  simp only [firstBlock, e1]
  word_cmp

/-- Scratch operand 0. -/
abbrev scM0 : Memref sig .tc .vmem S256x1024 .bf16 := Memref.whole cc0_scratch0
/-- Scratch operand 1. -/
abbrev scM1 : Memref sig .tc .vmem S256x7168 .f32 := Memref.whole cc0_scratch1
/-- Scratch operand 2. -/
abbrev scM2 : Memref sig .tc .vmem S288x1024 .f32 := Memref.whole cc0_scratch2
/-- Scratch operand 3. -/
abbrev scM3 : Memref sig .tc .vmem S7x280x1024 .f32 := Memref.whole cc0_scratch3
/-- Scratch operand 4. -/
abbrev scM4 : Memref sig .tc .vmem S256x1024 .f32 := Memref.whole cc0_scratch4
/-- Scratch operand 5. -/
abbrev scM5 : Memref sig .tc .vmem S256x1024 .bf16 := Memref.whole cc0_scratch5
/-- Scratch operand 6. -/
abbrev scM6 : Memref sig .tc .vmem S256x1024 .f32 := Memref.whole cc0_scratch6
/-- Scratch operand 7. -/
abbrev scM7 : Memref sig .tc .vmem S256x1024 .bf16 := Memref.whole cc0_scratch7
/-- Scratch operand 8. -/
abbrev scM8 : Memref sig .tc .vmem S256x1024 .bf16 := Memref.whole cc0_scratch8
/-- Scratch operand 9. -/
abbrev scM9 : Memref sig .tc .vmem S256x1024 .bf16 := Memref.whole cc0_scratch9
/-- Scratch operand 10. -/
abbrev scM10 : Memref sig .tc .vmem S256x1024 .bf16 := Memref.whole cc0_scratch10
/-- Scratch operand 11. -/
abbrev scM11 : Memref sig .tc .vmem S256x2048 .bf16 := Memref.whole cc0_scratch11
/-- Scratch operand 12. -/
abbrev scM12 : Memref sig .tc .vmem S256x1024 .f32 := Memref.whole cc0_scratch12
/-- Scratch operand 13. -/
abbrev scM13 : Memref sig .tc .vmem S4x256x256 .f32 := Memref.whole cc0_scratch13

/-- The scratch buffers, the two carried ones at the given contents, and the generator register. -/
def scr (c : Dev nD) (a : Vec F S288x1024 .f32) (st : Vec F S4x256x256 .f32) : sProp 𝕄 :=
  iprop(iprop((∃ d, owns (c : Thread nD τ) scM0 fullShare d) ∗ (∃ d, owns (c : Thread nD τ) scM1 fullShare d) ∗ owns (c : Thread nD τ) scM2 fullShare a ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d) ∗ (∃ d, owns (c : Thread nD τ) scM11 fullShare d) ∗ (∃ d, owns (c : Thread nD τ) scM12 fullShare d) ∗ owns (c : Thread nD τ) scM13 fullShare st) ∗ (∃ r, prngReg c r))

/-- The region's own buffers, owned at any contents. -/
theorem rest_eq (c : Dev nD) : (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d) ∗ (∃ d, owns (c : Thread nD τ) scM11 fullShare d) ∗ (∃ d, owns (c : Thread nD τ) scM12 fullShare d) ∗ (∃ d, owns (c : Thread nD τ) scM13 fullShare d)) ∗ (∃ r, prngReg c r)) := by
  unfold Pipeline.ΦA; rw [scopedRest0_eq]
  simp only [scM0, scM1, scM2, scM3, scM4, scM5, scM6, scM7, scM8, scM9, scM10, scM11, scM12, scM13, owns_whole]
  try rfl

/-- The carried contents may be forgotten. -/
theorem scr_weak (c : Dev nD) (a : Vec F S288x1024 .f32) (st : Vec F S4x256x256 .f32) : scr c a st ⊢ (Pipeline.ΦA spec0 c : sProp 𝕄) := by
  rw [rest_eq]; unfold scr
  iintro ⟨⟨HS0, HS1, HS2, HS3, HS4, HS5, HS6, HS7, HS8, HS9, HS10, HS11, HS12, HS13⟩, Hg⟩
  isplitl [HS0 HS1 HS2 HS3 HS4 HS5 HS6 HS7 HS8 HS9 HS10 HS11 HS12 HS13]
  · isplitl [HS0]; · iexact HS0
    isplitl [HS1]; · iexact HS1
    isplitl [HS2]; · iexists _; iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    iexists _; iexact HS13
  iexact Hg

/-- What is held between grid points: before the first block of a sequence nothing is known of the scratch. -/
def inv (c : Dev nD) (n : ℕ) : sProp 𝕄 := if n % 32 = 0 then Pipeline.ΦA spec0 c else scr c (carry m c n).1 (carry m c n).2

theorem inv_start (c : Dev nD) (n : ℕ) (h : n % 32 = 0) : inv m c n = Pipeline.ΦA spec0 c := if_pos h
theorem inv_on (c : Dev nD) (n : ℕ) (h : ¬ n % 32 = 0) : inv m c n = scr c (carry m c n).1 (carry m c n).2 := if_neg h

theorem inv_weak (c : Dev nD) (n : ℕ) : inv m c n ⊢ Pipeline.ΦA spec0 c := by
  by_cases h : n % 32 = 0
  · rw [inv_start m c n h]
  · rw [inv_on m c n h]; exact scr_weak c _ _

theorem inv_next (c : Dev nD) (t : Fin cfg0.N) :
    scr c ((insAt m c t).A' (carry m c t.val).1) ((insAt m c t).St (carry m c t.val).2) ⊢ inv m c (t.val + 1) := by
  by_cases h : (t.val + 1) % 32 = 0
  · rw [inv_start m c _ h]; exact scr_weak c _ _
  · rw [inv_on m c _ h, carry_next m c t h]

/-- The launch's data: the arrays as the region finds them, each input block left in place, the output block as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outAt m c t
    | ⟨_ + 20, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) : (dats m 0 c).Φ t = inv m c t.val := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  before0_17_of m (dats m 0 c) (A_eq m c 17) (after_17 m c) t d
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  before0_18_of m (dats m 0 c) (A_eq m c 18) (after_18 m c) t d
theorem after_19 (c : Dev nD) (t : Fin cfg0.N) : (dats m 0 c).after 19 t = outAt m c t := by dsimp only [dats]

set_option maxHeartbeats 8000000 in
/-- The body at one point, between what it is handed and what it hands back: the scratch apart. -/
theorem stepA (c : Dev nD) (t : Fin cfg0.N) (hc : firstBlock (grid0.coords t)) (K : PUnit → sProp 𝕄) :
    iprop(Pipeline.ΦA spec0 c ∗ iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (iblk m c 15 t) ∗ owns (c : Thread nD τ) (win0_16.stage (cfg0.slots t 16)) fullShare (iblk m c 16 t) ∗ owns (c : Thread nD τ) (win0_17.stage (cfg0.slots t 17)) fullShare (iblk m c 17 t) ∗ owns (c : Thread nD τ) (win0_18.stage (cfg0.slots t 18)) fullShare (iblk m c 18 t)) ∗ (∃ d, owns (c : Thread nD τ) (win0_19.stage (cfg0.slots t 19)) fullShare d)
        ∗ (iprop(scr c ((insAt m c t).A' zeroA) ((insAt m c t).St zeroSt) ∗ iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (iblk m c 15 t) ∗ owns (c : Thread nD τ) (win0_16.stage (cfg0.slots t 16)) fullShare (iblk m c 16 t) ∗ owns (c : Thread nD τ) (win0_17.stage (cfg0.slots t 17)) fullShare (iblk m c 17 t) ∗ owns (c : Thread nD τ) (win0_18.stage (cfg0.slots t 18)) fullShare (iblk m c 18 t))
          ∗ owns (c : Thread nD τ) (win0_19.stage (cfg0.slots t 19)) fullShare ((insAt m c t).Out zeroA zeroSt)) -∗ K ⟨⟩))
      ⊢ wp frame (wpE (defs₀ (F := F)) Variants.none c none) Set.univ (bodyAt0 t) K := by
  unfold bodyAt0
  rw [rest_eq]; unfold scr
  iintro ⟨⟨⟨HS0, HS1, HS2, HS3, HS4, HS5, HS6, HS7, HS8, HS9, HS10, HS11, HS12, HS13⟩, Hg⟩, ⟨H0, H1, H2, H3, H4, H5, H6, H7, H8, H9, H10, H11, H12, H13, H14, H15, H16, H17, H18⟩, H19, Hk⟩
  iapply (runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc (insAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, H14, H15, H16, H17, H18, H19, HS0, HS1, HS2, HS3, HS4, HS5, HS6, HS7, HS8, HS9, HS10, HS11, HS12, HS13⟩
  iapply Hk
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    iexact Hg
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact H19

set_option maxHeartbeats 8000000 in
theorem stepB (c : Dev nD) (t : Fin cfg0.N) (hc : ¬ firstBlock (grid0.coords t)) (a : Vec F S288x1024 .f32) (st : Vec F S4x256x256 .f32) (K : PUnit → sProp 𝕄) :
    iprop(scr c a st ∗ iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (iblk m c 15 t) ∗ owns (c : Thread nD τ) (win0_16.stage (cfg0.slots t 16)) fullShare (iblk m c 16 t) ∗ owns (c : Thread nD τ) (win0_17.stage (cfg0.slots t 17)) fullShare (iblk m c 17 t) ∗ owns (c : Thread nD τ) (win0_18.stage (cfg0.slots t 18)) fullShare (iblk m c 18 t)) ∗ (∃ d, owns (c : Thread nD τ) (win0_19.stage (cfg0.slots t 19)) fullShare d)
        ∗ (iprop(scr c ((insAt m c t).A' a) ((insAt m c t).St st) ∗ iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (iblk m c 15 t) ∗ owns (c : Thread nD τ) (win0_16.stage (cfg0.slots t 16)) fullShare (iblk m c 16 t) ∗ owns (c : Thread nD τ) (win0_17.stage (cfg0.slots t 17)) fullShare (iblk m c 17 t) ∗ owns (c : Thread nD τ) (win0_18.stage (cfg0.slots t 18)) fullShare (iblk m c 18 t))
          ∗ owns (c : Thread nD τ) (win0_19.stage (cfg0.slots t 19)) fullShare ((insAt m c t).Out a st)) -∗ K ⟨⟩))
      ⊢ wp frame (wpE (defs₀ (F := F)) Variants.none c none) Set.univ (bodyAt0 t) K := by
  unfold bodyAt0
  unfold scr
  iintro ⟨⟨⟨HS0, HS1, HS2, HS3, HS4, HS5, HS6, HS7, HS8, HS9, HS10, HS11, HS12, HS13⟩, Hg⟩, ⟨H0, H1, H2, H3, H4, H5, H6, H7, H8, H9, H10, H11, H12, H13, H14, H15, H16, H17, H18⟩, H19, Hk⟩
  iapply (runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc (insAt m c t) a st Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, H14, H15, H16, H17, H18, H19, HS0, HS1, HS2, HS3, HS4, HS5, HS6, HS7, HS8, HS9, HS10, HS11, HS12, HS13⟩
  iapply Hk
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    iexact Hg
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact H19

/-- What the launch hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d)))
/-- What it takes back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t))

set_option maxHeartbeats 8000000 in
/-- The body meets what the launch asks at every point. -/
theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl, after_0, after_1, after_2, after_3, after_4, after_5, after_6, after_7, after_8, after_9, after_10, after_11, after_12, after_13, after_14, after_15, after_16, after_17, after_18, after_19]
  rw [show (dats m 0 c).Φ t.succ = inv m c (t.val + 1) from Φ_eq m c t.succ, show (dats m 0 c).Φ t.castSucc = inv m c t.val from Φ_eq m c t.castSucc]
  by_cases h0 : t.val % 32 = 0
  · rw [inv_start m c _ h0]
    have hn := inv_next m c t
    have ho : outAt m c t = (insAt m c t).Out zeroA zeroSt := by unfold outAt; rw [carry_start m c _ h0]
    rw [carry_start m c _ h0] at hn
    rw [ho]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (stepA m c t ((firstBlock_iff t).mpr h0) _)
    isplitl [HS]; · iexact HS
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]; · iexists _; iexact H19
    iintro ⟨HS, ⟨H0, H1, H2, H3, H4, H5, H6, H7, H8, H9, H10, H11, H12, H13, H14, H15, H16, H17, H18⟩, H19⟩
    isplitl [HS]; · iapply hn; iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [inv_on m c _ h0]
    have hn := inv_next m c t
    have ho : outAt m c t = (insAt m c t).Out (carry m c t.val).1 (carry m c t.val).2 := rfl
    skip
    rw [ho]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (stepB m c t (fun h => h0 ((firstBlock_iff t).mp h)) (carry m c t.val).1 (carry m c t.val).2 _)
    isplitl [HS]; · iexact HS
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]; · iexists _; iexact H19
    iintro ⟨HS, ⟨H0, H1, H2, H3, H4, H5, H6, H7, H8, H9, H10, H11, H12, H13, H14, H15, H16, H17, H18⟩, H19⟩
    isplitl [HS]; · iapply hn; iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enter (c : Dev nD) : Pipeline.ΦA spec0 c ⊢ (dats m 0 c).Φ 0 := by
  rw [show (dats m 0 c).Φ 0 = inv m c 0 from Φ_eq m c 0, inv_start m c 0 rfl]

theorem leave (c : Dev nD) : (dats m 0 c).Φ (Fin.last cfg0.N) ⊢ Pipeline.ΦA spec0 c := by
  rw [Φ_eq]; exact inv_weak m c _

set_option backward.isDefEq.respectTransparency.types false in
/-- The launch runs to its end and every semaphore counter ends at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- Every array of the launch ends at what its data say. -/
theorem run_post : θ_run defs (onTc (τ := τ) (main (F := F))) (s₀ m ρ) (Pipeline.FramePost cfgs (dats m) 0 (V m)) :=
  (θ_run defs _ _).mono (fun _ h => h.1) (run_quiet m ρ)

/-- The program ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_post m ρ)) ((θ_run defs _ _).mono (fun _ h => h.2) (run_quiet m ρ))

end Cert.KernelIdeal.Body
-- ==== Proof.Model.lean ====
module

public import Idealize.ShloMosaic.Lib.Pointwise
public import Mathlib.Data.EReal.Operations

@[expose] public section

noncomputable section

/-! One sequence's layer over the extended reals, row by row: what both programs compute. Rows and the columns of the
projection are numbered by naturals. -/

namespace Cert.Proof.Layer
open Idealize.ShloMosaic
open scoped BigOperators

/-- The number 1024, as the programs write it. -/
def c1024 : EReal := Ideal.ofBits FTy.f32 1149239296#32
/-- The number 256. -/
def c256 : EReal := Ideal.ofBits FTy.f32 1132462080#32
/-- One sixteenth. -/
def c16 : EReal := Ideal.ofBits FTy.f32 1031798784#32
/-- The norms' small addend. -/
def eps : EReal := Ideal.ofBits FTy.f32 897988541#32

/-- The reciprocal root mean square of a row. -/
def scl (x : Fin 1024 → EReal) : EReal := Ideal.rsqrt (Ideal.div (∑ k, x k * x k) c1024 + eps)
/-- The logistic function. -/
def sig (x : EReal) : EReal := Ideal.div 1 (1 + Ideal.exp (0 - x))
/-- `x` times its logistic. -/
def silu (x : EReal) : EReal := x * sig x
/-- A row's mean, `c` its length. -/
def mean {n : ℕ} (c : EReal) (x : Fin n → EReal) : EReal := Ideal.div (∑ k, x k) c
/-- The centred and scaled row. -/
def nrm {n : ℕ} (c : EReal) (x : Fin n → EReal) (e : Fin n) : EReal :=
  (x e - mean c x) * Ideal.rsqrt (Ideal.div (∑ k, (x k - mean c x) * (x k - mean c x)) c + eps)

/-- The inputs of one sequence: its rows, its modulation, the weights, the turning tables and the heads' log decays. -/
structure Mdl where
  x : ℕ → Fin 1024 → EReal
  sh : Fin 1024 → EReal
  sc : Fin 1024 → EReal
  gt : Fin 1024 → EReal
  ng : Fin 1024 → EReal
  win : Fin 1024 → ℕ → EReal
  cw : Fin 31 → Fin 1024 → EReal
  cb : Fin 1024 → EReal
  lg : Fin 1024 → EReal
  lb : Fin 1024 → EReal
  pw : Fin 1024 → Fin 1024 → EReal
  gg : ℕ → EReal
  gb : ℕ → EReal
  wo : Fin 2048 → Fin 1024 → EReal
  fg : Fin 1024 → EReal
  co : ℕ → Fin 128 → EReal
  si : ℕ → Fin 128 → EReal
  lam : Fin 4 → ℝ

namespace Mdl
variable (M : Mdl)

/-- The normed and modulated row. -/
def u (s : ℕ) (e : Fin 1024) : EReal := M.x s e * scl (M.x s) * M.ng e * (1 + M.sc e) + M.sh e
/-- The projected row. -/
def p (s j : ℕ) : EReal := ∑ e, M.u s e * M.win e j
/-- The gated row the convolution reads. -/
def g (s : ℕ) (c : Fin 1024) : EReal := M.p s c.val * sig (M.p s (1024 + c.val))
/-- Those rows behind 30 empty ones. -/
def up (j : ℕ) (c : Fin 1024) : EReal := if j < 30 then 0 else M.g (j - 30) c
/-- The convolution. -/
def cv (s : ℕ) (c : Fin 1024) : EReal := (∑ t : Fin 31, M.up (s + t.val) c * M.cw t c) + M.cb c
/-- The normed and gated convolution. -/
def cc (s : ℕ) (c : Fin 1024) : EReal := silu (nrm c1024 (M.cv s) c * M.lg c + M.lb c)
/-- Its projection. -/
def w (s : ℕ) (c : Fin 1024) : EReal := ∑ k, M.cc s k * M.pw k c
/-- The convolution branch. -/
def yl (s : ℕ) (c : Fin 1024) : EReal := M.w s c * silu (M.p s (2048 + c.val))
/-- The turned pair of half rows that start at column `base` of head `h`. -/
def rot (base s : ℕ) (h : Fin 4) (d : Fin 256) : EReal :=
  if hd : d.val < 128 then
    M.p s (base + 256 * h.val + d.val) * M.co s ⟨d.val, hd⟩ - M.p s (base + 256 * h.val + 128 + d.val) * M.si s ⟨d.val, hd⟩
  else
    M.p s (base + 256 * h.val + (d.val - 128)) * M.si s ⟨d.val - 128, by omega⟩
      + M.p s (base + 256 * h.val + 128 + (d.val - 128)) * M.co s ⟨d.val - 128, by omega⟩
/-- The queries. -/
def q (s : ℕ) (h : Fin 4) (d : Fin 256) : EReal := M.rot 3072 s h d
/-- The keys. -/
def k (s : ℕ) (h : Fin 4) (d : Fin 256) : EReal := M.rot 4096 s h d * c16
/-- The values. -/
def v (s : ℕ) (h : Fin 4) (e : Fin 256) : EReal := M.p s (5120 + 256 * h.val + e.val)
/-- The weight of row `t` in row `s`. -/
def dec (h : Fin 4) (s t : ℕ) : ℝ := if t ≤ s then Real.exp (M.lam h * ((s : ℝ) - t)) else 0
/-- The retention. -/
def r (s : ℕ) (h : Fin 4) (e : Fin 256) : EReal :=
  ∑ t ∈ Finset.range 8192, M.v t h e * ((∑ d, M.q s h d * M.k t h d) * (M.dec h s t : EReal))
/-- A head's normed and gated row. -/
def hn (s : ℕ) (h : Fin 4) (e : Fin 256) : EReal :=
  (nrm c256 (M.r s h) e * M.gg (256 * h.val + e.val) + M.gb (256 * h.val + e.val)) * silu (M.p s (6144 + 256 * h.val + e.val))
/-- The joined row. -/
def cat (s : ℕ) (j : Fin 2048) : EReal :=
  if h : j.val < 1024 then M.yl s ⟨j.val, h⟩
  else M.hn s ⟨(j.val - 1024) / 256, by omega⟩ ⟨(j.val - 1024) % 256, Nat.mod_lt _ (by decide)⟩
/-- Its projection. -/
def y (s : ℕ) (c : Fin 1024) : EReal := ∑ j, M.cat s j * M.wo j c
/-- The row plus the gated branches. -/
def hr (s : ℕ) (c : Fin 1024) : EReal := M.x s c + M.gt c * M.y s c
/-- The layer's row. -/
def out (s : ℕ) (c : Fin 1024) : EReal := M.hr s c * scl (M.hr s) * M.fg c
end Mdl

end Cert.Proof.Layer
end
-- ==== Proof.Retention.lean ====
module

public import proofs.«01_k».proof.Proof.Model

@[expose] public section

noncomputable section

/-! The retention over the reals: block by block with a carried state is the sum over all earlier rows. -/

namespace Cert.Proof.Layer
open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real queries, keys and values. -/
structure Reals (M : Mdl) where
  q : ℕ → Fin 4 → Fin 256 → ℝ
  k : ℕ → Fin 4 → Fin 256 → ℝ
  v : ℕ → Fin 4 → Fin 256 → ℝ
  hq : ∀ s h d, M.q s h d = (q s h d : EReal)
  hk : ∀ s h d, M.k s h d = (k s h d : EReal)
  hv : ∀ s h d, M.v s h d = (v s h d : EReal)

variable {M : Mdl} (R : Reals M)

/-- The state before block `n`. -/
def Reals.st (n : ℕ) (h : Fin 4) (d e : Fin 256) : ℝ :=
  ∑ t ∈ Finset.range (256 * n), Real.exp (M.lam h * (256 * (n : ℝ) - 1 - t)) * (R.k t h d * R.v t h e)

theorem Reals.st_next (n : ℕ) (h : Fin 4) (d e : Fin 256) :
    R.st (n + 1) h d e = R.st n h d e * Real.exp (M.lam h * 256)
      + ∑ i : Fin 256, R.k (256 * n + i.val) h d * Real.exp (M.lam h * (255 - (i.val : ℝ))) * R.v (256 * n + i.val) h e := by
  unfold Reals.st
  rw [show 256 * (n + 1) = 256 * n + 256 from rfl, Finset.sum_range_add, Finset.sum_mul]
  refine congrArg₂ (· + ·) (Finset.sum_congr rfl fun t _ => ?_) ?_
  · rw [show M.lam h * (256 * ((n + 1 : ℕ) : ℝ) - 1 - t) = M.lam h * (256 * (n : ℝ) - 1 - t) + M.lam h * 256 by push_cast; ring, Real.exp_add]
    ring
  · rw [Finset.sum_range]
    refine Finset.sum_congr rfl fun i _ => ?_
    rw [show M.lam h * (256 * ((n + 1 : ℕ) : ℝ) - 1 - ((256 * n + i.val : ℕ) : ℝ)) = M.lam h * (255 - (i.val : ℝ)) by push_cast; ring]
    ring

theorem dec_block (M : Mdl) (h : Fin 4) (n i j : ℕ) : M.dec h (256 * n + i) (256 * n + j) = M.dec h i j := by
  unfold Mdl.dec
  by_cases hij : j ≤ i
  · rw [if_pos hij, if_pos (by omega)]
    congr 2
    push_cast
    ring
  · rw [if_neg hij, if_neg (by omega)]

/-- Row `i` of block `n`: the sum over the block's rows and the carried state, against the sum over all rows. -/
theorem Reals.block (n : ℕ) (hn : n < 32) (i : Fin 256) (h : Fin 4) (e : Fin 256) :
    (∑ x : Fin 256, (∑ d, R.q (256 * n + i.val) h d * R.k (256 * n + x.val) h d) * M.dec h i.val x.val * R.v (256 * n + x.val) h e)
      + (∑ d, R.q (256 * n + i.val) h d * R.st n h d e) * Real.exp (M.lam h * ((i.val : ℝ) + 1))
    = ∑ t ∈ Finset.range 8192, R.v t h e * ((∑ d, R.q (256 * n + i.val) h d * R.k t h d) * M.dec h (256 * n + i.val) t) := by
  rw [show 8192 = 256 * n + 256 + (8192 - (256 * n + 256)) by omega, Finset.sum_range_add, Finset.sum_range_add]
  have h0 : (∑ x ∈ Finset.range (8192 - (256 * n + 256)), R.v (256 * n + 256 + x) h e
      * ((∑ d, R.q (256 * n + i.val) h d * R.k (256 * n + 256 + x) h d) * M.dec h (256 * n + i.val) (256 * n + 256 + x))) = 0 :=
    Finset.sum_eq_zero fun x _ => by
      unfold Mdl.dec
      rw [if_neg (by omega), mul_zero, mul_zero]
  rw [h0, add_zero, add_comm]
  refine congrArg₂ (· + ·) ?_ ?_
  · unfold Reals.st
    simp only [Finset.mul_sum]
    rw [Finset.sum_comm, Finset.sum_mul]
    refine Finset.sum_congr rfl fun t ht => ?_
    have ht' : t < 256 * n := Finset.mem_range.1 ht
    unfold Mdl.dec
    rw [if_pos (by omega), show M.lam h * (((256 * n + i.val : ℕ) : ℝ) - t) = M.lam h * (256 * (n : ℝ) - 1 - t) + M.lam h * ((i.val : ℝ) + 1) by push_cast; ring,
      Real.exp_add, Finset.sum_mul, Finset.sum_mul, Finset.mul_sum]
    refine Finset.sum_congr rfl fun d _ => ?_
    ring
  · rw [Finset.sum_range]
    refine Finset.sum_congr rfl fun x _ => ?_
    rw [dec_block]
    ring

/-- The retention is real. -/
theorem Reals.r_eq (s : ℕ) (h : Fin 4) (e : Fin 256) :
    M.r s h e = ((∑ t ∈ Finset.range 8192, R.v t h e * ((∑ d, R.q s h d * R.k t h d) * M.dec h s t) : ℝ) : EReal) := by
  unfold Mdl.r
  simp only [R.hq, R.hk, R.hv, coe_sum, EReal.coe_mul]

end Cert.Proof.Layer
end
-- ==== Proof.Rows.lean ====
module

public import proofs.«01_k».proof.Proof.Spec
public import proofs.«01_k».proof.Proof.Retention
public import Idealize.ShloMosaic.Lib.Pipeline.ValueKit

@[expose] public section

set_option maxRecDepth 16384

noncomputable section
open Idealize.ShloMosaic Idealize.ShloMosaic.TcCoe

/-! What one grid point computes, at the extended reals, against the layer's rows: block `n` of a sequence, given that
its blocks are the layer's inputs (`Fits`) and that what it carries is what the earlier blocks leave (`Held`). -/

namespace Cert.KernelIdeal.Body
open Cert.KernelIdeal Cert.KernelIdeal.Gen Cert.Proof Cert.Proof.Layer
open scoped BigOperators

/-- The blocks of grid point `n` of a sequence hold the layer's inputs. -/
structure Fits (M : Mdl) (n : ℕ) (I : Ins Ideal) : Prop where
  x : ∀ i e, I.x (ix3 0 i e) = M.x (256 * n + i.val) e
  sh : ∀ e, I.md (ix3 0 0 e) = M.sh e
  sc : ∀ e, I.md (ix3 0 1 e) = M.sc e
  gt : ∀ e, I.md (ix3 0 2 e) = M.gt e
  ng : ∀ e, I.ng (ix2 0 e) = M.ng e
  win : ∀ e j, I.win (ix2 e j) = M.win e j.val
  cw : ∀ t c, I.cw (ix2 t c) = M.cw t c
  cb : ∀ c, I.cb (ix2 0 c) = M.cb c
  lg : ∀ c, I.lg (ix2 0 c) = M.lg c
  lb : ∀ c, I.lb (ix2 0 c) = M.lb c
  pw : ∀ k c, I.pw (ix2 k c) = M.pw k c
  gg : ∀ c, I.gg (ix2 0 c) = M.gg c.val
  gb : ∀ c, I.gb (ix2 0 c) = M.gb c.val
  wo : ∀ j c, I.wo (ix2 j c) = M.wo j c
  fg : ∀ c, I.fg (ix2 0 c) = M.fg c
  co : ∀ i c, I.co (ix2 i c) = M.co (256 * n + i.val) c
  si : ∀ i c, I.si (ix2 i c) = M.si (256 * n + i.val) c
  msk : ∀ h i j, I.msk (ix3 h i j) = (M.dec h i.val j.val : EReal)
  qd : ∀ h i e, I.qd (ix3 h i e) = (Real.exp (M.lam h * ((i.val : ℝ) + 1)) : EReal)
  kd : ∀ h i e, I.kd (ix3 h i e) = (Real.exp (M.lam h * (255 - (i.val : ℝ))) : EReal)
  cd : ∀ h e, I.cd (ix3 h 0 e) = (Real.exp (M.lam h * 256) : EReal)

/-- Row `i` of a box, by its tile and its place within it. -/
theorem tile_at {α : Type} {C : ℕ} (X : (⟨2, ![256, C]⟩ : Shape).Idx → α) (i : Fin 256) (n c : ℕ) (e : Fin n) (hr) (hc) (j : Fin C) (hj : j.val = c + e.val) :
    sub2 32 n (32 * (tileOf i).val) c X hr hc (ix2 (inTile i) e) = X (ix2 i j) := by
  unfold sub2
  congr 1
  refine (ix2_inj ..).2 ⟨Fin.ext ?_, Fin.ext ?_⟩
  · show 32 * (i.val / 32) + i.val % 32 = i.val
    omega
  · exact hj.symm

theorem tile3_at {α : Type} {P C : ℕ} (X : (⟨3, ![P, 256, C]⟩ : Shape).Idx → α) (i : Fin 256) (n p c : ℕ) (e : Fin n) (hp) (hr) (hc)
    (a : Fin P) (ha : a.val = p) (j : Fin C) (hj : j.val = c + e.val) :
    sub3 32 n p (32 * (tileOf i).val) c X hp hr hc (ix3 0 (inTile i) e) = X (ix3 a i j) := by
  unfold sub3
  congr 1
  refine (ix3_inj ..).2 ⟨Fin.ext ?_, Fin.ext ?_, Fin.ext ?_⟩
  · exact ha.symm
  · show 32 * (i.val / 32) + i.val % 32 = i.val
    omega
  · exact hj.symm

theorem rows8_at {α : Type} {C : ℕ} (T : Fin 8 → (⟨2, ![32, C]⟩ : Shape).Idx → α) (i : Fin 256) (e : Fin C) :
    rows8 T (ix2 i e) = T (tileOf i) (ix2 (inTile i) e) := rfl

theorem tiles_at {α : Type} (T : Fin 8 → Fin 8 → (⟨2, ![32, 128]⟩ : Shape).Idx → α) (i : Fin 256) (e : Fin 1024) :
    tiles T (ix2 i e) = T (tileOf i) ⟨e.val / 128, by omega⟩ (ix2 (inTile i) ⟨e.val % 128, Nat.mod_lt _ (by decide)⟩) := rfl

theorem pay152_at (v3 v5 : Vec Ideal S1x1x1024 .f32) (v11 : Vec Ideal S1x1024 .f32) (x : Vec Ideal S1x32x1024 .f32) (r : Fin 32) (e : Fin 1024) :
    k0_pay152 v3 v5 v11 x (ix2 r e) = x (ix3 0 r e) * scl (fun k => x (ix3 0 r k)) * v11 (ix2 0 e) * (1 + v5 (ix3 0 0 e)) + v3 (ix3 0 0 e) := by
  pointwise [k0_pay152]
  rfl

variable {M : Mdl} {n : ℕ} {I : Ins Ideal} (hI : Fits M n I)
include hI

theorem U_at (i : Fin 256) (e : Fin 1024) : I.U (ix2 i e) = M.u (256 * n + i.val) e := by
  unfold Ins.U specU
  rw [rows8_at, pay152_at]
  have hx : ∀ k, sub3 32 1024 0 (32 * (tileOf i).val) 0 I.x (by omega) (tile_row _) (by omega) (ix3 0 (inTile i) k) = M.x (256 * n + i.val) k := fun k =>
    (tile3_at I.x i 1024 0 0 k _ _ _ 0 rfl k (Nat.zero_add _).symm).trans (hI.x i k)
  have h0 : sub3 1 1024 0 0 0 I.md (by omega) (by omega) (by omega) (ix3 0 0 e) = M.sh e := (congrArg I.md (by idx_ext)).trans (hI.sh e)
  have h1 : sub3 1 1024 0 1 0 I.md (by omega) (by omega) (by omega) (ix3 0 0 e) = M.sc e := (congrArg I.md (by idx_ext)).trans (hI.sc e)
  unfold Mdl.u
  simp only [hx, h0, h1, hI.ng]

theorem P_at (i : Fin 256) (j : Fin 7168) : I.P (ix2 i j) = M.p (256 * n + i.val) j.val := by
  unfold Ins.P
  pointwise [k0_pay153]
  exact Finset.sum_congr rfl fun e _ => by rw [U_at hI, hI.win]

/-- Row `j` of what the convolution sees, the first two (never read) aside, is the padded gated row `256 n + j - 2`. -/
def HeldA (M : Mdl) (n : ℕ) (a : Vec Ideal S288x1024 .f32) : Prop :=
  ∀ (j : Fin 288) (c : Fin 1024), 2 ≤ j.val → j.val < 32 → a (ix2 j c) = M.up (256 * n + j.val - 2) c

omit hI in
theorem pay154_at (a b : Vec Ideal S32x1024 .f32) (r : Fin 32) (e : Fin 1024) :
    k0_pay154 a b (ix2 r e) = a (ix2 r e) * Layer.sig (b (ix2 r e)) := by
  pointwise [k0_pay154]
  rfl

theorem glu_at (i : Fin 256) (c : Fin 1024) : rows8 (α := EReal) (gluT (F := Ideal) I.P) (ix2 i c) = M.g (256 * n + i.val) c := by
  unfold gluT
  rw [rows8_at, pay154_at, tile_at I.P i 1024 0 c _ _ ⟨c.val, by omega⟩ (Nat.zero_add _).symm,
    tile_at I.P i 1024 1024 c _ _ ⟨1024 + c.val, by omega⟩ rfl, P_at hI, P_at hI]
  rfl

theorem A_at {a : Vec Ideal S288x1024 .f32} (ha : HeldA M n a) (j : Fin 288) (c : Fin 1024) (hj : 2 ≤ j.val) :
    I.A a (ix2 j c) = M.up (256 * n + j.val - 2) c := by
  unfold Ins.A specA
  by_cases h : j.val < 32
  · exact (dif_pos h).trans (ha j c hj h)
  · refine (dif_neg h).trans ((glu_at hI ⟨j.val - 32, by omega⟩ c).trans ?_)
    unfold Mdl.up
    rw [if_neg (by omega)]
    exact congrArg (M.g · c) (by show 256 * n + (j.val - 32) = _; omega)

theorem A'_held {a : Vec Ideal S288x1024 .f32} (ha : HeldA M n a) : HeldA M (n + 1) (I.A' a) := by
  intro j c h2 h
  unfold Ins.A' specA'
  refine (dif_pos h).trans ((A_at hI ha ⟨256 + j.val, by omega⟩ c (by show 2 ≤ 256 + j.val; omega)).trans ?_)
  exact congrArg (M.up · c) (by show 256 * n + (256 + j.val) - 2 = _; omega)

omit hI in
theorem zeroA_held : HeldA M 0 zeroA := by
  intro j c h2 h
  unfold Mdl.up
  rw [if_pos (by omega)]
  exact Ideal.ofBits_zero_f32

/-- The bias and the 31 taps of one lane, in the body's order. -/
def taps (b : EReal) (f : Fin 31 → EReal) : EReal :=
  b + f 6 + f 14 + f 22 + f 30 + f 7 + f 15 + f 23 + f 0 + f 8 + f 16 + f 24 + f 1 + f 9 + f 17 + f 25 + f 2 + f 10 + f 18 + f 26
    + f 3 + f 11 + f 19 + f 27 + f 4 + f 12 + f 20 + f 28 + f 5 + f 13 + f 21 + f 29

omit hI in
theorem taps_eq (b : EReal) (f : Fin 31 → EReal) : taps b f = (∑ t, f t) + b := by
  have e : (∑ t, f t) = f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 := by
    simp only [Fin.sum_univ_castSucc, Fin.sum_univ_zero, zero_add]
    rfl
  rw [e, taps]
  ac_rfl

omit hI in
theorem convT_at (cb : Vec Ideal S1x128 .f32) (w : Fin 31 → Vec Ideal S1x128 .f32) (a : Vec Ideal S64x128 .f32)
    (sh : Fin 7 → Vec Ideal S1x56x128 .f32) (r : Fin 32) (e : Fin 128) (f : ℕ → EReal)
    (hf : ∀ k : Fin 64, 2 ≤ k.val → a (ix2 k e) = f k.val)
    (hs : ∀ (d : Fin 7) (k : Fin 56), 2 ≤ k.val + 1 + d.val → sh d (ix3 0 k e) = f (k.val + 1 + d.val)) :
    convT cb w a sh (ix2 r e) = taps (cb (ix2 0 e)) (fun t => f (r.val + 2 + t.val) * w t (ix2 0 e)) := by
  pointwise [convT, k0_pay18, k0_pay17, k0_pay16, k0_pay15, k0_pay14, k0_pay13, k0_pay12, k0_pay11, k0_pay10, k0_pay9, k0_pay8, k0_pay7, k0_pay6, k0_pay5, k0_pay4]
  unfold taps
  repeat' first
    | rfl
    | refine congrArg (· * _) ((hf _ (by first | omega | (simp; done) | (simp; omega))).trans (congrArg f ?_))
    | refine congrArg (· * _) ((hs _ _ (by first | omega | (simp; done) | (simp; omega))).trans (congrArg f ?_))
    | refine congrArg₂ (fun x y : EReal => x + y) ?_ ?_
  all_goals first | omega | (simp; done) | (simp; omega)

theorem Cv_at {a : Vec Ideal S288x1024 .f32} (ha : HeldA M n a) (i : Fin 256) (c : Fin 1024) : I.Cv a (ix2 i c) = M.cv (256 * n + i.val) c := by
  unfold Ins.Cv specConv
  rw [tiles_at]
  have hc : 128 * (c.val / 128) + c.val % 128 = c.val := Nat.div_add_mod _ _
  have hi : 32 * (i.val / 32) + i.val % 32 = i.val := Nat.div_add_mod _ _
  refine (convT_at _ _ _ _ (inTile i) _ (fun j => M.up (256 * n + 32 * (i.val / 32) + j - 2) c) ?_ ?_).trans ?_
  · intro k hk
    refine (congrArg (I.A a) (?_ : _ = ix2 ⟨32 * (i.val / 32) + k.val, by omega⟩ c)).trans ((A_at hI ha _ c (by show 2 ≤ 32 * _ + _; omega)).trans ?_)
    · exact (ix2_inj ..).2 ⟨rfl, Fin.ext hc⟩
    · exact congrArg (M.up · c) (by show 256 * n + (32 * (i.val / 32) + k.val) - 2 = _; omega)
  · intro d k hk
    refine (congrArg (I.A a) (?_ : _ = ix2 ⟨d.val + 1 + (32 * (i.val / 32) + k.val), by omega⟩ c)).trans ((A_at hI ha _ c (by show 2 ≤ _ + 1 + (32 * _ + _); omega)).trans ?_)
    · exact (ix2_inj ..).2 ⟨Fin.ext rfl, Fin.ext hc⟩
    · exact congrArg (M.up · c) (by show 256 * n + (d.val + 1 + (32 * (i.val / 32) + k.val)) - 2 = _; omega)
  · rw [taps_eq]
    have hw : ∀ t : Fin 31, sub2 1 128 t.val (128 * (c.val / 128)) I.cw (by omega) (by omega) (ix2 0 ⟨c.val % 128, Nat.mod_lt _ (by decide)⟩) = M.cw t c := fun t =>
      (congrArg I.cw ((ix2_inj ..).2 ⟨Fin.ext rfl, Fin.ext hc⟩)).trans (hI.cw t c)
    have hb : sub2 1 128 0 (128 * (c.val / 128)) I.cb (by omega) (by omega) (ix2 0 ⟨c.val % 128, Nat.mod_lt _ (by decide)⟩) = M.cb c :=
      (congrArg I.cb ((ix2_inj ..).2 ⟨Fin.ext rfl, Fin.ext hc⟩)).trans (hI.cb c)
    unfold Mdl.cv
    refine congrArg₂ (fun x y : EReal => x + y) (Finset.sum_congr rfl fun t _ => ?_) hb
    refine congrArg₂ (fun x y : EReal => x * y) (congrArg (M.up · c) ?_) (hw t)
    show 256 * n + 32 * (i.val / 32) + (i.val % 32 + 2 + t.val) - 2 = 256 * n + i.val + t.val
    omega

omit hI in
theorem pay164_at (g b : Vec Ideal S1x1024 .f32) (x : Vec Ideal S32x1024 .f32) (r : Fin 32) (e : Fin 1024) :
    k0_pay164 g b x (ix2 r e) = silu (nrm c1024 (fun k => x (ix2 r k)) e * g (ix2 0 e) + b (ix2 0 e)) := by
  pointwise [k0_pay164]
  rfl

theorem C_at {a : Vec Ideal S288x1024 .f32} (ha : HeldA M n a) (i : Fin 256) (c : Fin 1024) : I.C a (ix2 i c) = M.cc (256 * n + i.val) c := by
  unfold Ins.C specC
  rw [rows8_at, pay164_at]
  have hx : ∀ k, sub2 32 1024 (32 * (tileOf i).val) 0 (I.Cv a) (tile_row _) (by omega) (ix2 (inTile i) k) = M.cv (256 * n + i.val) k := fun k =>
    (tile_at (I.Cv a) i 1024 0 k _ _ k (Nat.zero_add _).symm).trans (Cv_at hI ha i k)
  unfold Mdl.cc
  simp only [hx, hI.lg, hI.lb]

theorem W_at {a : Vec Ideal S288x1024 .f32} (ha : HeldA M n a) (i : Fin 256) (c : Fin 1024) : I.W a (ix2 i c) = M.w (256 * n + i.val) c := by
  unfold Ins.W
  pointwise [k0_pay165]
  exact Finset.sum_congr rfl fun e _ => by rw [C_at hI ha, hI.pw]

omit hI in
theorem pay166_at (p w : Vec Ideal S32x1024 .f32) (r : Fin 32) (e : Fin 1024) :
    k0_pay166 p w (ix2 r e) = w (ix2 r e) * silu (p (ix2 r e)) := by
  pointwise [k0_pay166]
  rfl

theorem YL_at {a : Vec Ideal S288x1024 .f32} (ha : HeldA M n a) (i : Fin 256) (c : Fin 1024) :
    specYL (F := Ideal) I.P (I.W a) (ix2 i c) = M.yl (256 * n + i.val) c := by
  unfold specYL
  rw [rows8_at, pay166_at, tile_at I.P i 1024 2048 c _ _ ⟨2048 + c.val, by omega⟩ rfl,
    tile_at (I.W a) i 1024 0 c _ _ c (Nat.zero_add _).symm, P_at hI, W_at hI ha]
  rfl

omit hI in
theorem pay115_at (co si p1 p2 : Vec Ideal S32x128 .f32) (r : Fin 32) (e : Fin 128) :
    k0_pay115 co si p1 p2 (ix2 r e) = p1 (ix2 r e) * co (ix2 r e) - p2 (ix2 r e) * si (ix2 r e) := by
  pointwise [k0_pay115, k0_pay113, k0_pay114]

omit hI in
theorem pay116_at (co si p1 p2 : Vec Ideal S32x128 .f32) (r : Fin 32) (e : Fin 128) :
    k0_pay116 co si p1 p2 (ix2 r e) = p1 (ix2 r e) * si (ix2 r e) + p2 (ix2 r e) * co (ix2 r e) := by
  pointwise [k0_pay116, k0_pay113, k0_pay114]

omit hI in
theorem pay117_at (co si p1 p2 : Vec Ideal S32x128 .f32) (r : Fin 32) (e : Fin 128) :
    k0_pay117 co si p1 p2 (ix2 r e) = (p1 (ix2 r e) * co (ix2 r e) - p2 (ix2 r e) * si (ix2 r e)) * c16 := by
  pointwise [k0_pay117, k0_pay113, k0_pay114]
  rfl

omit hI in
theorem pay118_at (co si p1 p2 : Vec Ideal S32x128 .f32) (r : Fin 32) (e : Fin 128) :
    k0_pay118 co si p1 p2 (ix2 r e) = (p1 (ix2 r e) * si (ix2 r e) + p2 (ix2 r e) * co (ix2 r e)) * c16 := by
  pointwise [k0_pay118, k0_pay113, k0_pay114]
  rfl

omit hI in
/-- The slab and lane of column `256 h + d`. -/
theorem slab (h : Fin 4) (d : Fin 256) : (256 * h.val + d.val) / 128 / 2 = h.val ∧ (256 * h.val + d.val) / 128 % 2 = d.val / 128
    ∧ (256 * h.val + d.val) % 128 = d.val % 128 := by omega

theorem Q_at (i : Fin 256) (h : Fin 4) (d : Fin 256) :
    I.Q (ix2 i ⟨256 * h.val + d.val, by omega⟩) = M.q (256 * n + i.val) h d := by
  obtain ⟨e1, e2, e3⟩ := slab h d
  unfold Ins.Q specQ
  rw [tiles_at]
  unfold Mdl.q Mdl.rot
  by_cases hd : d.val < 128
  · have e4 : (256 * h.val + d.val) / 128 % 2 = 0 := by omega
    have e5 : d.val % 128 = d.val := by omega
    rw [if_pos e4, dif_pos hd, pay115_at, tile_at I.P i 128 _ _ _ _ ⟨3072 + 256 * h.val + d.val, by omega⟩ (by dsimp only [headOf]; omega),
      tile_at I.P i 128 _ _ _ _ ⟨3072 + 256 * h.val + 128 + d.val, by omega⟩ (by dsimp only [headOf]; omega),
      tile_at I.co i 128 _ _ _ _ ⟨d.val, hd⟩ (by dsimp only [headOf]; omega), tile_at I.si i 128 _ _ _ _ ⟨d.val, hd⟩ (by dsimp only [headOf]; omega),
      P_at hI, P_at hI, hI.co, hI.si]
  · have e4 : ¬ (256 * h.val + d.val) / 128 % 2 = 0 := by omega
    have e5 : d.val % 128 = d.val - 128 := by omega
    rw [if_neg e4, dif_neg hd, pay116_at, tile_at I.P i 128 _ _ _ _ ⟨3072 + 256 * h.val + (d.val - 128), by omega⟩ (by dsimp only [headOf]; omega),
      tile_at I.P i 128 _ _ _ _ ⟨3072 + 256 * h.val + 128 + (d.val - 128), by omega⟩ (by dsimp only [headOf]; omega),
      tile_at I.co i 128 _ _ _ _ ⟨d.val - 128, by omega⟩ (by dsimp only [headOf]; omega), tile_at I.si i 128 _ _ _ _ ⟨d.val - 128, by omega⟩ (by dsimp only [headOf]; omega),
      P_at hI, P_at hI, hI.co, hI.si]

theorem kT_at (i : Fin 256) (h : Fin 4) (d : Fin 256) :
    kT (F := Ideal) I.co I.si I.P (tileOf i) ⟨(256 * h.val + d.val) / 128, by omega⟩ (ix2 (inTile i) ⟨(256 * h.val + d.val) % 128, Nat.mod_lt _ (by decide)⟩)
      = M.k (256 * n + i.val) h d := by
  obtain ⟨e1, e2, e3⟩ := slab h d
  unfold kT
  unfold Mdl.k Mdl.rot
  by_cases hd : d.val < 128
  · have e4 : (256 * h.val + d.val) / 128 % 2 = 0 := by omega
    have e5 : d.val % 128 = d.val := by omega
    rw [if_pos e4, dif_pos hd, pay117_at, tile_at I.P i 128 _ _ _ _ ⟨4096 + 256 * h.val + d.val, by omega⟩ (by dsimp only [headOf]; omega),
      tile_at I.P i 128 _ _ _ _ ⟨4096 + 256 * h.val + 128 + d.val, by omega⟩ (by dsimp only [headOf]; omega),
      tile_at I.co i 128 _ _ _ _ ⟨d.val, hd⟩ (by dsimp only [headOf]; omega), tile_at I.si i 128 _ _ _ _ ⟨d.val, hd⟩ (by dsimp only [headOf]; omega),
      P_at hI, P_at hI, hI.co, hI.si]
  · have e4 : ¬ (256 * h.val + d.val) / 128 % 2 = 0 := by omega
    have e5 : d.val % 128 = d.val - 128 := by omega
    rw [if_neg e4, dif_neg hd, pay118_at, tile_at I.P i 128 _ _ _ _ ⟨4096 + 256 * h.val + (d.val - 128), by omega⟩ (by dsimp only [headOf]; omega),
      tile_at I.P i 128 _ _ _ _ ⟨4096 + 256 * h.val + 128 + (d.val - 128), by omega⟩ (by dsimp only [headOf]; omega),
      tile_at I.co i 128 _ _ _ _ ⟨d.val - 128, by omega⟩ (by dsimp only [headOf]; omega), tile_at I.si i 128 _ _ _ _ ⟨d.val - 128, by omega⟩ (by dsimp only [headOf]; omega),
      P_at hI, P_at hI, hI.co, hI.si]

theorem K_at (i : Fin 256) (h : Fin 4) (d : Fin 256) :
    I.K (ix2 i ⟨256 * h.val + d.val, by omega⟩) = M.k (256 * n + i.val) h d := by
  refine Eq.trans ?_ (kT_at hI i h d)
  unfold Ins.K specK
  rw [tiles_at]
  pointwise [k0_pay121]

theorem Kd_at (i : Fin 256) (h : Fin 4) (d : Fin 256) :
    I.Kd (ix2 i ⟨256 * h.val + d.val, by omega⟩) = M.k (256 * n + i.val) h d * (Real.exp (M.lam h * (255 - (i.val : ℝ))) : EReal) := by
  unfold Ins.Kd specKd
  rw [tiles_at]
  pointwise [k0_pay124, k0_pay122]
  obtain ⟨e1, e2, e3⟩ := slab h d
  refine congrArg₂ (fun x y : EReal => x * y) (kT_at hI i h d) ?_
  exact (tile3_at I.kd i 128 _ 0 _ _ _ _ h e1.symm ⟨d.val % 128, Nat.mod_lt _ (by decide)⟩ (by show d.val % 128 = 0 + (256 * h.val + d.val) % 128; omega)).trans (hI.kd h i _)

omit hI in
theorem pay171_at (x : Vec Ideal S32x1024 .f32) (r : Fin 32) (e : Fin 1024) : k0_pay171 x (ix2 r e) = x (ix2 r e) := by
  pointwise [k0_pay171]

theorem V_at (i : Fin 256) (h : Fin 4) (d : Fin 256) :
    I.V (ix2 i ⟨256 * h.val + d.val, by omega⟩) = M.v (256 * n + i.val) h d := by
  unfold Ins.V specV
  rw [rows8_at, pay171_at, tile_at I.P i 1024 5120 _ _ _ ⟨5120 + 256 * h.val + d.val, by omega⟩ (by show 5120 + 256 * h.val + d.val = 5120 + (256 * h.val + d.val); omega), P_at hI]
  rfl

/-! The heads, over real queries, keys and values. -/

omit hI in
theorem cols_at {α : Type} {P C : ℕ} (m n c : ℕ) (X : (⟨2, ![P, C]⟩ : Shape).Idx → α) (hr) (hc) (i : Fin m) (e : Fin n) (a : Fin P) (ha : a.val = i.val)
    (j : Fin C) (hj : j.val = c + e.val) : sub2 m n 0 c X hr hc (ix2 i e) = X (ix2 a j) := by
  unfold sub2
  congr 1
  exact (ix2_inj ..).2 ⟨Fin.ext ((Nat.zero_add _).trans ha.symm), Fin.ext hj.symm⟩

omit hI in
theorem page_at {α : Type} {P R C : ℕ} (m n : ℕ) (p : Fin P) (X : (⟨3, ![P, R, C]⟩ : Shape).Idx → α) (hp) (hr) (hc) (i : Fin m) (e : Fin n) (a : Fin R)
    (ha : a.val = i.val) (j : Fin C) (hj : j.val = e.val) : sub3 m n p.val 0 0 X hp hr hc (ix3 0 i e) = X (ix3 p a j) := by
  unfold sub3
  congr 1
  exact (ix3_inj ..).2 ⟨Fin.ext rfl, Fin.ext ((Nat.zero_add _).trans ha.symm), Fin.ext ((Nat.zero_add _).trans hj.symm)⟩

omit hI in
theorem pay173_at (v kd : Vec Ideal S256x256 .bf16) (st : Vec Ideal S1x256x256 .f32) (cd : Vec Ideal S1x1x256 .f32) (d e : Fin 256) :
    k0_pay173 v st kd cd (ix3 0 d e) = st (ix3 0 d e) * cd (ix3 0 0 e) + ∑ i, kd (ix2 i d) * v (ix2 i e) := by
  pointwise [k0_pay173, k0_pay172]

omit hI in
theorem pay174_at (q k v : Vec Ideal S256x256 .bf16) (st mk qd : Vec Ideal S1x256x256 .f32) (i e : Fin 256) :
    k0_pay174 q v st k mk qd (ix2 i e) = (∑ x, (∑ d, q (ix2 i d) * k (ix2 x d)) * mk (ix3 0 i x) * v (ix2 x e))
      + (∑ d, q (ix2 i d) * st (ix3 0 d e)) * qd (ix3 0 i e) := by
  pointwise [k0_pay174, k0_pay172]

variable (R : Reals M)

/-- The carried state is the state before block `n`. -/
def HeldSt {M : Mdl} (R : Reals M) (n : ℕ) (st : Vec Ideal S4x256x256 .f32) : Prop :=
  ∀ (h : Fin 4) (d e : Fin 256), st (ix3 h d e) = (R.st n h d e : EReal)

theorem St_held {st : Vec Ideal S4x256x256 .f32} (hst : HeldSt R n st) : HeldSt R (n + 1) (I.St st) := by
  intro h d e
  have hv : ∀ i : Fin 256, sub2 256 256 0 (256 * h.val) I.V (by omega) (by omega) (ix2 i e) = (R.v (256 * n + i.val) h e : EReal) := fun i =>
    (cols_at 256 256 _ I.V _ _ i e i rfl ⟨256 * h.val + e.val, by omega⟩ rfl).trans ((V_at hI i h e).trans (R.hv _ _ _))
  have hk : ∀ i : Fin 256, sub2 256 256 0 (256 * h.val) I.Kd (by omega) (by omega) (ix2 i d)
      = (R.k (256 * n + i.val) h d : EReal) * (Real.exp (M.lam h * (255 - (i.val : ℝ))) : EReal) := fun i =>
    (cols_at 256 256 _ I.Kd _ _ i d i rfl ⟨256 * h.val + d.val, by omega⟩ rfl).trans ((Kd_at hI i h d).trans (by rw [R.hk]))
  have hs : sub3 256 256 h.val 0 0 st (by omega) (by omega) (by omega) (ix3 0 d e) = (R.st n h d e : EReal) :=
    (page_at 256 256 h st _ _ _ d e d rfl e rfl).trans (hst h d e)
  have hc : sub3 1 256 h.val 0 0 I.cd (by omega) (by omega) (by omega) (ix3 0 0 e) = (Real.exp (M.lam h * 256) : EReal) :=
    (page_at 1 256 h I.cd _ _ _ 0 e 0 rfl e rfl).trans (hI.cd h e)
  show headSt (F := Ideal) st I.cd I.Kd I.V h (ix3 0 d e) = _
  unfold headSt
  rw [pay173_at, hs, hc]
  simp only [hv, hk]
  rw [R.st_next]
  simp only [EReal.coe_add, EReal.coe_mul, coe_sum]

omit hI in
theorem zeroSt_held : HeldSt R 0 zeroSt := by
  intro h d e
  unfold zeroSt Reals.st
  pointwise [k0_pay149]
  simp

theorem r_at (hn : n < 32) {st : Vec Ideal S4x256x256 .f32} (hst : HeldSt R n st) (h : Fin 4) (i e : Fin 256) :
    k0_pay174 (sub2 256 256 0 (256 * h.val) I.Q (by omega) (by omega)) (sub2 256 256 0 (256 * h.val) I.V (by omega) (by omega))
      (sub3 256 256 h.val 0 0 st (by omega) (by omega) (by omega)) (sub2 256 256 0 (256 * h.val) I.K (by omega) (by omega))
      (sub3 256 256 h.val 0 0 I.msk (by omega) (by omega) (by omega)) (sub3 256 256 h.val 0 0 I.qd (by omega) (by omega) (by omega)) (ix2 i e)
      = M.r (256 * n + i.val) h e := by
  have hq : ∀ d : Fin 256, sub2 256 256 0 (256 * h.val) I.Q (by omega) (by omega) (ix2 i d) = (R.q (256 * n + i.val) h d : EReal) := fun d =>
    (cols_at 256 256 _ I.Q _ _ i d i rfl ⟨256 * h.val + d.val, by omega⟩ rfl).trans ((Q_at hI i h d).trans (R.hq _ _ _))
  have hk : ∀ x d : Fin 256, sub2 256 256 0 (256 * h.val) I.K (by omega) (by omega) (ix2 x d) = (R.k (256 * n + x.val) h d : EReal) := fun x d =>
    (cols_at 256 256 _ I.K _ _ x d x rfl ⟨256 * h.val + d.val, by omega⟩ rfl).trans ((K_at hI x h d).trans (R.hk _ _ _))
  have hv : ∀ x : Fin 256, sub2 256 256 0 (256 * h.val) I.V (by omega) (by omega) (ix2 x e) = (R.v (256 * n + x.val) h e : EReal) := fun x =>
    (cols_at 256 256 _ I.V _ _ x e x rfl ⟨256 * h.val + e.val, by omega⟩ rfl).trans ((V_at hI x h e).trans (R.hv _ _ _))
  have hs : ∀ d : Fin 256, sub3 256 256 h.val 0 0 st (by omega) (by omega) (by omega) (ix3 0 d e) = (R.st n h d e : EReal) := fun d =>
    (page_at 256 256 h st _ _ _ d e d rfl e rfl).trans (hst h d e)
  have hm : ∀ x : Fin 256, sub3 256 256 h.val 0 0 I.msk (by omega) (by omega) (by omega) (ix3 0 i x) = (M.dec h i.val x.val : EReal) := fun x =>
    (page_at 256 256 h I.msk _ _ _ i x i rfl x rfl).trans (hI.msk h i x)
  have hqd : sub3 256 256 h.val 0 0 I.qd (by omega) (by omega) (by omega) (ix3 0 i e) = (Real.exp (M.lam h * ((i.val : ℝ) + 1)) : EReal) :=
    (page_at 256 256 h I.qd _ _ _ i e i rfl e rfl).trans (hI.qd h i e)
  refine (pay174_at _ _ _ _ _ _ i e).trans ?_
  rw [hqd, R.r_eq, ← R.block n hn]
  simp only [hq, hk, hv, hs, hm]
  simp only [EReal.coe_add, EReal.coe_mul, coe_sum]

omit hI in
theorem pay175_at (q k v : Vec Ideal S256x256 .bf16) (st mk qd : Vec Ideal S1x256x256 .f32) (i : Fin 256) :
    k0_pay175 q v st k mk qd (ix1 i) = ∑ e, k0_pay174 q v st k mk qd (ix2 i e) := by
  unfold k0_pay175
  generalize k0_pay174 q v st k mk qd = o
  pointwise

omit hI in
theorem pay176_at (o : Vec Ideal S256x256 .f32) (s : Vec Ideal S256 .f32) (g b : Vec Ideal S1x256 .f32) (p : Vec Ideal S256x256 .f32)
    (i e : Fin 256) (hs : s (ix1 i) = ∑ k, o (ix2 i k)) :
    k0_pay176 o s g b p (ix2 i e) = (nrm c256 (fun k => o (ix2 i k)) e * g (ix2 0 e) + b (ix2 0 e)) * silu (p (ix2 i e)) := by
  pointwise [k0_pay176]
  rw [hs]
  rfl

theorem H_at (hn : n < 32) {st : Vec Ideal S4x256x256 .f32} (hst : HeldSt R n st) (h : Fin 4) (i e : Fin 256) :
    I.H st h (ix2 i e) = M.hn (256 * n + i.val) h e := by
  unfold Ins.H headY
  refine (pay176_at _ _ _ _ _ i e (pay175_at _ _ _ _ _ _ i)).trans ?_
  unfold Mdl.hn
  simp only [r_at hI R hn hst]
  have hg : sub2 1 256 0 (256 * h.val) I.gg (by omega) (by omega) (ix2 0 e) = M.gg (256 * h.val + e.val) :=
    (cols_at 1 256 _ I.gg _ _ 0 e 0 rfl ⟨256 * h.val + e.val, by omega⟩ rfl).trans (hI.gg _)
  have hb : sub2 1 256 0 (256 * h.val) I.gb (by omega) (by omega) (ix2 0 e) = M.gb (256 * h.val + e.val) :=
    (cols_at 1 256 _ I.gb _ _ 0 e 0 rfl ⟨256 * h.val + e.val, by omega⟩ rfl).trans (hI.gb _)
  have hp : sub2 256 256 0 (6144 + 256 * h.val) I.P (by omega) (by omega) (ix2 i e) = M.p (256 * n + i.val) (6144 + 256 * h.val + e.val) :=
    (cols_at 256 256 _ I.P _ _ i e i rfl ⟨6144 + 256 * h.val + e.val, by omega⟩ rfl).trans (P_at hI i _)
  rw [hg, hb, hp]

theorem Cat_at (hn : n < 32) {a : Vec Ideal S288x1024 .f32} (ha : HeldA M n a) {st : Vec Ideal S4x256x256 .f32} (hst : HeldSt R n st)
    (i : Fin 256) (j : Fin 2048) : I.Cat a st (ix2 i j) = M.cat (256 * n + i.val) j := by
  unfold Ins.Cat specCat Mdl.cat
  by_cases h : j.val < 1024
  · rw [dif_pos h]
    exact (dif_pos h).trans (YL_at hI ha i ⟨j.val, h⟩)
  · rw [dif_neg h]
    exact (dif_neg h).trans (H_at hI R hn hst _ i _)

theorem Y_at (hn : n < 32) {a : Vec Ideal S288x1024 .f32} (ha : HeldA M n a) {st : Vec Ideal S4x256x256 .f32} (hst : HeldSt R n st)
    (i : Fin 256) (c : Fin 1024) : I.Y a st (ix2 i c) = M.y (256 * n + i.val) c := by
  unfold Ins.Y
  pointwise [k0_pay2]
  exact Finset.sum_congr rfl fun e _ => by rw [Cat_at hI R hn ha hst, hI.wo]

omit hI in
theorem pay3_at (gt fg : Vec Ideal S1x1024 .f32) (x : Vec Ideal S1x32x1024 .f32) (y : Vec Ideal S32x1024 .f32) (r : Fin 32) (e : Fin 1024) :
    k0_pay3 gt fg x y (ix3 0 r e) = (x (ix3 0 r e) + gt (ix2 0 e) * y (ix2 r e)) * scl (fun k => x (ix3 0 r k) + gt (ix2 0 k) * y (ix2 r k)) * fg (ix2 0 e) := by
  pointwise [k0_pay3]
  rfl

omit hI in
theorem pay151_at (g : Vec Ideal S1x1x1024 .f32) (e : Fin 1024) : k0_pay151 g (ix2 0 e) = g (ix3 0 0 e) := by
  pointwise [k0_pay151]

/-- The block's rows are the layer's. -/
theorem Out_at (hn : n < 32) {a : Vec Ideal S288x1024 .f32} (ha : HeldA M n a) {st : Vec Ideal S4x256x256 .f32} (hst : HeldSt R n st)
    (i : Fin 256) (c : Fin 1024) : I.Out a st (ix3 0 i c) = M.out (256 * n + i.val) c := by
  unfold Ins.Out specOut
  refine (pay3_at _ _ _ _ (inTile i) c).trans ?_
  have hx : ∀ k, sub3 32 1024 0 (32 * (tileOf i).val) 0 I.x (by omega) (tile_row _) (by omega) (ix3 0 (inTile i) k) = M.x (256 * n + i.val) k := fun k =>
    (tile3_at I.x i 1024 0 0 k _ _ _ 0 rfl k (Nat.zero_add _).symm).trans (hI.x i k)
  have hy : ∀ k, sub2 32 1024 (32 * (tileOf i).val) 0 (I.Y a st) (tile_row _) (by omega) (ix2 (inTile i) k) = M.y (256 * n + i.val) k := fun k =>
    (tile_at (I.Y a st) i 1024 0 k _ _ k (Nat.zero_add _).symm).trans (Y_at hI R hn ha hst i k)
  have hg : ∀ k, k0_pay151 (sub3 1 1024 0 2 0 I.md (by omega) (by omega) (by omega)) (ix2 0 k) = M.gt k := fun k =>
    (pay151_at _ k).trans ((congrArg I.md (by idx_ext)).trans (hI.gt k))
  unfold Mdl.out Mdl.hr
  refine congrArg₂ (fun x y : EReal => x * y) (congrArg₂ (fun x y : EReal => x * y) ?_ (congrArg scl (funext fun k => ?_))) (hI.fg c)
  · exact congrArg₂ (fun x y : EReal => x + y) (hx c) (congrArg₂ (fun x y : EReal => x * y) (hg c) (hy c))
  · exact congrArg₂ (fun x y : EReal => x + y) (hx k) (congrArg₂ (fun x y : EReal => x * y) (hg k) (hy k))

end Cert.KernelIdeal.Body
end
-- ==== Proof.Tables.lean ====
module

public import proofs.«01_k».proof.Proof.Retention

@[expose] public section

set_option maxRecDepth 16384

noncomputable section

/-! The turning tables and the log decays as both programs write them, the layer's inputs read off the arrays, and that
finite arrays give real queries, keys and values. -/

namespace Cert.Proof.Layer
open Idealize.ShloMosaic
open scoped BigOperators

/-- An extended real that is a real. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.mul {x y : EReal} : IsR x → IsR y → IsR (x * y) := fun ⟨a, ha⟩ ⟨b, hb⟩ => ⟨a * b, by rw [ha, hb, EReal.coe_mul]⟩
theorem IsR.sum {n : ℕ} {f : Fin n → EReal} (h : ∀ i, IsR (f i)) : IsR (∑ i, f i) := by
  choose g hg using h
  exact ⟨∑ i, g i, by rw [coe_sum]; exact Finset.sum_congr rfl fun i _ => hg i⟩

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem IsR.cos {x : EReal} : IsR x → IsR (Ideal.cos x) := fun ⟨a, ha⟩ => ⟨Real.cos a, by rw [ha]; rfl⟩
theorem IsR.sin {x : EReal} : IsR x → IsR (Ideal.sin x) := fun ⟨a, ha⟩ => ⟨Real.sin a, by rw [ha]; rfl⟩

theorem c1024_eq : c1024 = ((1024 : ℝ) : EReal) := by
  simp [c1024, Ideal.ofBits, Ideal.ieee, -EReal.coe_mul]; norm_num
theorem c16_eq : c16 = ((1 / 16 : ℝ) : EReal) := by
  simp [c16, Ideal.ofBits, Ideal.ieee, -EReal.coe_mul]; norm_num
theorem eps_eq : eps = ((8796093 / 8796093022208 : ℝ) : EReal) := by
  simp [eps, Ideal.ofBits, Ideal.ieee, -EReal.coe_mul]; norm_num
theorem c127_eq : Ideal.ofBits FTy.f32 1123942400#32 = ((127 : ℝ) : EReal) := by
  simp [Ideal.ofBits, Ideal.ieee, -EReal.coe_mul]; norm_num
theorem c10000_eq : Ideal.ofBits FTy.f32 1176256512#32 = ((10000 : ℝ) : EReal) := by
  simp [Ideal.ofBits, Ideal.ieee, -EReal.coe_mul]; norm_num
theorem ln2_eq : Ideal.ofBits FTy.f32 1060205080#32 = ((11629080 / 16777216 : ℝ) : EReal) := by
  simp [Ideal.ofBits, Ideal.ieee, -EReal.coe_mul]; norm_num
theorem neg5_eq : Ideal.ofBits FTy.f32 3231711232#32 = ((-5 : ℝ) : EReal) := by
  simp [Ideal.ofBits, Ideal.ieee, -EReal.coe_mul, -EReal.coe_neg]; norm_num

/-- A row number as the programs make it: a word turned into a float. -/
def num (n : ℕ) : EReal := FloatOps.sitofp (F := Ideal) FTy.f32 (BitVec.ofNat 32 n)

theorem num_eq (n : ℕ) (h : n < 2 ^ 31) : num n = ((n : ℝ) : EReal) := by
  have e : (BitVec.ofNat 32 n).toInt = (n : ℤ) := by
    rw [BitVec.toInt_eq_toNat_of_lt] <;> simp [BitVec.toNat_ofNat] <;> omega
  show (((BitVec.ofNat 32 n).toInt : ℝ) : EReal) = _
  rw [e]
  norm_cast

/-- A head's log decay, as the programs write it. -/
def lamE (h : Fin 4) : EReal :=
  Ideal.log (1 - Ideal.exp (Ideal.ofBits FTy.f32 1060205080#32 * (Ideal.ofBits FTy.f32 3231711232#32 - num h.val)))
/-- It is a real number. -/
def lamR (h : Fin 4) : ℝ := Real.log (1 - Real.exp (11629080 / 16777216 * (-5 - (h.val : ℝ))))

theorem lamE_eq (h : Fin 4) : lamE h = (lamR h : EReal) := by
  have hp : (0 : ℝ) < 1 - Real.exp (11629080 / 16777216 * (-5 - (h.val : ℝ))) := by
    have : Real.exp (11629080 / 16777216 * (-5 - (h.val : ℝ))) < 1 := by
      rw [Real.exp_lt_one_iff]
      have : (0 : ℝ) ≤ (h.val : ℝ) := Nat.cast_nonneg _
      nlinarith
    linarith
  unfold lamE
  rw [ln2_eq, neg5_eq, num_eq _ (by omega), ← EReal.coe_sub, ← EReal.coe_mul]
  show Ideal.log (1 - ((Real.exp _ : ℝ) : EReal)) = _
  rw [← EReal.coe_one, ← EReal.coe_sub]
  exact if_neg (not_le.2 hp)

/-- The decay as the programs write it. -/
theorem dec_eq (M : Mdl) (hl : M.lam = lamR) (h : Fin 4) (s t : ℕ) :
    (if (0 : EReal) ≤ ((s - t : ℝ) : EReal) then Ideal.exp (lamE h * max ((s - t : ℝ) : EReal) 0) else Ideal.ofBits FTy.f32 0#32) = (M.dec h s t : EReal) := by
  unfold Mdl.dec
  by_cases ht : t ≤ s
  · have hp : (0 : ℝ) ≤ (s - t : ℝ) := sub_nonneg.2 (Nat.cast_le.2 ht)
    have hp' : (0 : EReal) ≤ ((s - t : ℝ) : EReal) := by exact_mod_cast hp
    rw [if_pos hp', if_pos ht, max_eq_left hp', lamE_eq, ← EReal.coe_mul, hl]
    rfl
  · have hp : ¬ (0 : ℝ) ≤ (s - t : ℝ) := fun q => ht (Nat.cast_le.1 (sub_nonneg.1 q))
    have hp' : ¬ (0 : EReal) ≤ ((s - t : ℝ) : EReal) := by exact_mod_cast hp
    rw [if_neg hp', if_neg ht, Ideal.ofBits_zero_f32]
    rfl

/-- The points the turning frequencies are raised to: equally spaced from 0 to 1. -/
def lin (c : Fin 128) : EReal :=
  if c.val < 127 then
    Ideal.ofBits FTy.f32 0#32 * (1 - Ideal.div (num c.val) (Ideal.ofBits FTy.f32 1123942400#32))
      + Ideal.ofBits FTy.f32 1065353216#32 * Ideal.div (num c.val) (Ideal.ofBits FTy.f32 1123942400#32)
  else Ideal.ofBits FTy.f32 1065353216#32
/-- The turning angle of lane `c` in row `s`. -/
def ang (s : ℕ) (c : Fin 128) : EReal := num s * Ideal.div 1 (Ideal.pow (Ideal.ofBits FTy.f32 1176256512#32) (lin c))

theorem IsR.num (n : ℕ) : IsR (num n) := ⟨_, rfl⟩

theorem lin_real (c : Fin 128) : IsR (lin c) := by
  have h1 : IsR (Ideal.ofBits FTy.f32 1065353216#32) := by rw [Ideal.ofBits_one_f32]; exact .one
  have hd : IsR (Ideal.div (num c.val) (Ideal.ofBits FTy.f32 1123942400#32)) := by
    obtain ⟨a, ha⟩ := IsR.num c.val
    rw [ha, c127_eq, div_coe _ _ (by norm_num)]
    exact .coe _
  unfold lin
  split
  · refine ((IsR.mul ?_ (IsR.one.sub hd))).add (h1.mul hd)
    rw [Ideal.ofBits_zero_f32]
    exact .zero
  · exact h1

theorem ang_real (s : ℕ) (c : Fin 128) : IsR (ang s c) := by
  refine (IsR.num s).mul ?_
  obtain ⟨a, ha⟩ := lin_real c
  rw [ha, c10000_eq]
  show IsR (Ideal.div 1 (((10000 : ℝ) ^ a : ℝ) : EReal))
  rw [← EReal.coe_one, div_coe _ _ (ne_of_gt (Real.rpow_pos_of_pos (by norm_num) a))]
  exact .coe _

/-- The layer's inputs of sequence `b`, read off the programs' arrays. -/
def mdl (x : (⟨3, ![2, 8192, 1024]⟩ : Shape).Idx → EReal) (md : (⟨2, ![2, 3072]⟩ : Shape).Idx → EReal) (ng : (⟨2, ![1, 1024]⟩ : Shape).Idx → EReal)
    (win : (⟨3, ![1, 1024, 7168]⟩ : Shape).Idx → EReal) (cw : (⟨3, ![1, 31, 1024]⟩ : Shape).Idx → EReal)
    (cb lg lb : (⟨2, ![1, 1024]⟩ : Shape).Idx → EReal) (pw : (⟨3, ![1, 1024, 1024]⟩ : Shape).Idx → EReal)
    (gg gb : (⟨2, ![1, 1024]⟩ : Shape).Idx → EReal) (wo : (⟨3, ![1, 2048, 1024]⟩ : Shape).Idx → EReal)
    (fg : (⟨1, ![1024]⟩ : Shape).Idx → EReal) (b : Fin 2) : Mdl where
  x s e := if h : s < 8192 then x (ix3 b ⟨s, h⟩ e) else 0
  sh e := md (ix2 b ⟨e.val, by omega⟩)
  sc e := md (ix2 b ⟨1024 + e.val, by omega⟩)
  gt e := md (ix2 b ⟨2048 + e.val, by omega⟩)
  ng e := ng (ix2 0 e)
  win e j := if h : j < 7168 then win (ix3 0 e ⟨j, h⟩) else 0
  cw t c := cw (ix3 0 t c)
  cb c := cb (ix2 0 c)
  lg c := lg (ix2 0 c)
  lb c := lb (ix2 0 c)
  pw k c := pw (ix3 0 k c)
  gg c := if h : c < 1024 then gg (ix2 0 ⟨c, h⟩) else 0
  gb c := if h : c < 1024 then gb (ix2 0 ⟨c, h⟩) else 0
  wo j c := wo (ix3 0 j c)
  fg c := fg (ix1 c)
  co s c := Ideal.cos (ang s c)
  si s c := Ideal.sin (ang s c)
  lam := lamR

/-- A row's reciprocal root mean square is real when the row is. -/
theorem scl_real {x : Fin 1024 → EReal} (h : ∀ e, IsR (x e)) : IsR (scl x) := by
  choose r hr using h
  have e1 : Ideal.div (∑ k, x k * x k) c1024 + eps = (((∑ k, r k * r k) / 1024 + 8796093 / 8796093022208 : ℝ) : EReal) := by
    rw [show (∑ k, x k * x k) = ((∑ k, r k * r k : ℝ) : EReal) by rw [coe_sum]; exact Finset.sum_congr rfl fun k _ => by rw [hr, EReal.coe_mul],
      c1024_eq, div_coe _ _ (by norm_num), eps_eq, EReal.coe_add]
  have hp : (0 : ℝ) < (∑ k, r k * r k) / 1024 + 8796093 / 8796093022208 := by
    have : (0 : ℝ) ≤ ∑ k, r k * r k := Finset.sum_nonneg fun k _ => mul_self_nonneg _
    positivity
  unfold scl
  rw [e1]
  refine ⟨(Real.sqrt ((∑ k, r k * r k) / 1024 + 8796093 / 8796093022208))⁻¹, ?_⟩
  show (if _ then _ else _) = _
  rw [if_neg (not_lt.2 hp.le), if_neg hp.ne']

/-- A row that holds an infinity has reciprocal root mean square zero. -/
theorem scl_inf {x : Fin 1024 → EReal} (k : Fin 1024) (h : x k * x k = ⊤) : scl x = 0 := by
  have hs : ∑ k, x k * x k = ⊤ := by
    refine top_le_iff.1 (h ▸ Finset.single_le_sum (f := fun k => x k * x k) (fun i _ => ?_) (Finset.mem_univ k))
    show (0 : EReal) ≤ x i * x i
    induction x i with
    | bot => simp
    | top => simp
    | coe r => rw [← EReal.coe_mul]; exact_mod_cast mul_self_nonneg r
  have hd : Ideal.div ⊤ c1024 = (⊤ : EReal) := by
    rw [c1024_eq]
    unfold Ideal.div
    rw [if_neg (by exact_mod_cast (by norm_num : (1024 : ℝ) ≠ 0)), ← EReal.coe_inv, EReal.top_mul_coe_of_pos (by norm_num)]
  unfold scl
  rw [hs, hd, eps_eq, EReal.top_add_coe]
  rfl

/-- A normed row is real, whatever the row. -/
theorem normed_real (x : Fin 1024 → EReal) (e : Fin 1024) : IsR (x e * scl x) := by
  by_cases h : ∀ k, IsR (x k)
  · exact (h e).mul (scl_real h)
  · obtain ⟨k, hk⟩ := not_forall.1 h
    have hk' : x k * x k = ⊤ := by
      generalize x k = y at hk
      induction y with
      | bot => simp
      | top => simp
      | coe r => exact absurd ⟨r, rfl⟩ hk
    rw [scl_inf k hk', mul_zero]
    exact IsR.zero

section
variable {M : Mdl} (hsh : ∀ e, IsR (M.sh e)) (hsc : ∀ e, IsR (M.sc e)) (hng : ∀ e, IsR (M.ng e))
  (hwin : ∀ e j, 3072 ≤ j → j < 6144 → IsR (M.win e j)) (hco : ∀ s c, IsR (M.co s c)) (hsi : ∀ s c, IsR (M.si s c))
include hsh hsc hng hwin

theorem p_real (s j : ℕ) (h1 : 3072 ≤ j) (h2 : j < 6144) : IsR (M.p s j) :=
  IsR.sum fun e => ((((normed_real (M.x s) e).mul (hng e)).mul (IsR.one.add (hsc e))).add (hsh e)).mul (hwin e j h1 h2)

include hco hsi

theorem rot_real (base s : ℕ) (h : Fin 4) (d : Fin 256) (h1 : 3072 ≤ base) (h2 : base ≤ 4096) : IsR (M.rot base s h d) := by
  have hp := p_real hsh hsc hng hwin
  unfold Mdl.rot
  split
  · exact ((hp _ _ (by omega) (by omega)).mul (hco _ _)).sub ((hp _ _ (by omega) (by omega)).mul (hsi _ _))
  · exact ((hp _ _ (by omega) (by omega)).mul (hsi _ _)).add ((hp _ _ (by omega) (by omega)).mul (hco _ _))

theorem q_real (s : ℕ) (h : Fin 4) (d : Fin 256) : IsR (M.q s h d) := rot_real hsh hsc hng hwin hco hsi 3072 s h d (by omega) (by omega)
theorem k_real (s : ℕ) (h : Fin 4) (d : Fin 256) : IsR (M.k s h d) :=
  (rot_real hsh hsc hng hwin hco hsi 4096 s h d (by omega) (by omega)).mul (c16_eq ▸ IsR.coe _ : IsR c16)

omit hco hsi in
theorem v_real (s : ℕ) (h : Fin 4) (d : Fin 256) : IsR (M.v s h d) := p_real hsh hsc hng hwin s _ (by omega) (by omega)

/-- Real gains, modulation and projection to the queries, keys and values make these real. -/
def reals : Reals M where
  q s h d := (q_real hsh hsc hng hwin hco hsi s h d).choose
  k s h d := (k_real hsh hsc hng hwin hco hsi s h d).choose
  v s h d := (v_real hsh hsc hng hwin s h d).choose
  hq s h d := (q_real hsh hsc hng hwin hco hsi s h d).choose_spec
  hk s h d := (k_real hsh hsc hng hwin hco hsi s h d).choose_spec
  hv s h d := (v_real hsh hsc hng hwin s h d).choose_spec
end

end Cert.Proof.Layer
end
-- ==== Proof.Reads.lean ====
module

public import proofs.«01_k».proof.Proof.Gen.KernelIdeal.Frame
public import proofs.«01_k».proof.Proof.Tables
public import Idealize.ShloMosaic.Lib.Pipeline.ValueKit
public import Idealize.ShloMosaic.Lib.Claim
public import Idealize.ShloMosaic.Lib.StableHlo.RunRead

@[expose] public section

set_option maxRecDepth 16384

noncomputable section

/-! What each grid point's blocks hold: the arguments' entries, and the tables the host part makes. -/

open Idealize.ShloMosaic Idealize.ShloMosaic.TcCoe Idealize.ShloMosaic.Tactic Idealize.SL.Sem
namespace Cert.KernelIdeal.Body
open Cert.KernelIdeal Cert.KernelIdeal.Gen Cert.Proof Cert.Proof.Layer
open scoped BigOperators
variable (m : (ℓ : Loc nD τ sig) → Buf (Elt Ideal) ℓ) (c : Dev nD)

/-- The layer's inputs of sequence `b` in the kernel's arguments. -/
def inp (b : Fin 2) : Mdl :=
  mdl (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) b

theorem inp_win (b : Fin 2) (e : Fin 1024) (j : Fin 7168) : (inp m c b).win e j.val = m ((c : Thread nD τ).loc main_arg3) (ix3 0 e j) := dif_pos j.2
theorem inp_gg (b : Fin 2) (e : Fin 1024) : (inp m c b).gg e.val = m ((c : Thread nD τ).loc main_arg9) (ix2 0 e) := dif_pos e.2
theorem inp_gb (b : Fin 2) (e : Fin 1024) : (inp m c b).gb e.val = m ((c : Thread nD τ).loc main_arg10) (ix2 0 e) := dif_pos e.2

/-- Which block of its array each operand's window holds at a grid point. -/
theorem idx : ∀ t : Fin cfg0.N, (win0_0.index t = ![t.val / 32, t.val % 32, 0] ∧ win0_1.index t = ![t.val / 32, 0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val % 32, 0] ∧ win0_14.index t = ![t.val % 32, 0]
    ∧ win0_15.index t = ![0, 0, 0] ∧ win0_16.index t = ![0, 0, 0] ∧ win0_17.index t = ![0, 0, 0] ∧ win0_18.index t = ![0, 0, 0] ∧ win0_19.index t = ![t.val / 32, t.val % 32, 0]) :=
  (by decide +kernel : ∀ t : Fin grid0.N, _)

/-- A decay weight: the exponential of a head's log decay times a row distance. -/
theorem dk_eq (h : Fin 4) (d : ℝ) : Ideal.exp (lamE h * (d : EReal)) = (Real.exp (lamR h * d) : EReal) := by
  rw [lamE_eq, ← EReal.coe_mul]
  rfl
theorem c255_eq : Ideal.ofBits FTy.f32 1132396544#32 = ((255 : ℝ) : EReal) := by
  simp [Ideal.ofBits, Ideal.ieee, -EReal.coe_mul]; norm_num
theorem c256_eq : Ideal.ofBits FTy.f32 1132462080#32 = ((256 : ℝ) : EReal) := by
  simp [Ideal.ofBits, Ideal.ieee, -EReal.coe_mul]; norm_num

/-! The host part's arrays, entry by entry. -/

variable (b : Fin 2)

theorem a1 (k : Fin 3) (e : Fin 1024) : (V m c main_v0 (ix3 b k e) : EReal) = m ((c : Thread nD τ).loc main_arg1) (ix2 b ⟨k.val * 1024 + e.val, by omega⟩) := by
  unfold V
  after_reads_simp
  pointwise []
theorem a2 (e : Fin 1024) : (V m c main_v66 (ix2 0 e) : EReal) = (inp m c b).ng e := by
  unfold V
  after_reads_simp
  pointwise []
  rfl
theorem a3 (e : Fin 1024) (j : Fin 7168) : (V m c main_v68 (ix2 e j) : EReal) = (inp m c b).win e j.val := by
  unfold V
  after_reads_simp
  pointwise []
  exact (inp_win m c b e j).symm
theorem a4 (e : Fin 31) (j : Fin 1024) : (V m c main_v69 (ix2 e j) : EReal) = (inp m c b).cw e j := by
  unfold V
  after_reads_simp
  pointwise []
  rfl
theorem a5 (e : Fin 1024) : (V m c main_v71 (ix2 0 e) : EReal) = (inp m c b).cb e := by
  unfold V
  after_reads_simp
  pointwise []
  rfl
theorem a6 (e : Fin 1024) : (V m c main_v73 (ix2 0 e) : EReal) = (inp m c b).lg e := by
  unfold V
  after_reads_simp
  pointwise []
  rfl
theorem a7 (e : Fin 1024) : (V m c main_v75 (ix2 0 e) : EReal) = (inp m c b).lb e := by
  unfold V
  after_reads_simp
  pointwise []
  rfl
theorem a8 (e j : Fin 1024) : (V m c main_v77 (ix2 e j) : EReal) = (inp m c b).pw e j := by
  unfold V
  after_reads_simp
  pointwise []
  rfl
theorem a9 (e : Fin 1024) : (V m c main_v79 (ix2 0 e) : EReal) = (inp m c b).gg e.val := by
  unfold V
  after_reads_simp
  pointwise []
  exact (inp_gg m c b e).symm
theorem a10 (e : Fin 1024) : (V m c main_v81 (ix2 0 e) : EReal) = (inp m c b).gb e.val := by
  unfold V
  after_reads_simp
  pointwise []
  exact (inp_gb m c b e).symm
theorem a11 (e : Fin 2048) (j : Fin 1024) : (V m c main_v83 (ix2 e j) : EReal) = (inp m c b).wo e j := by
  unfold V
  after_reads_simp
  pointwise []
  rfl
theorem a12 (e : Fin 1024) : (V m c main_v84 (ix2 0 e) : EReal) = (inp m c b).fg e := by
  unfold V
  after_reads_simp
  pointwise []
  rfl
theorem turns (s : Fin 8192) (j : Fin 128) :
    (V m c main_v12 (ix2 s j) : EReal) = Ideal.cos (ang s.val j) ∧ (V m c main_v13 (ix2 s j) : EReal) = Ideal.sin (ang s.val j) := by
  constructor <;> unfold V <;> after_reads_simp <;> pointwise []
  on_goal 1 => refine congrArg Ideal.cos (?_ : _ = ang s.val j)
  on_goal 2 => refine congrArg Ideal.sin (?_ : _ = ang s.val j)
  all_goals
    show (_ * Ideal.div 1 (Ideal.pow _ ((concatenate S128 0 [⟨S127, _⟩, ⟨S1, _⟩] concatenates_S127_S1_S128_d0 : Vec Ideal S128 .f32) (ix1 j)))) = _
    pointwise []
    after_reads_simp
    simp only [StableHlo.TRef.ofBuf_toBuf]
    unfold ang lin
    split
    · show (_ * Ideal.div 1 (Ideal.pow _ ((addf (mulf (broadcastInDim S127 ![0] bcast_S1_S127_0 (shapeCast S1 (constant (F := Ideal) S_ .f32 0#32) shapeCasts_S_S1)) (subf (broadcastInDim S127 ![] bcast_S_S127 (constant (F := Ideal) S_ .f32 1065353216#32)) (Host.divf (sitofp .f32 (iotaInDim S127 32 0)) (broadcastInDim S127 ![] bcast_S_S127 (constant (F := Ideal) S_ .f32 1123942400#32)))))
          (mulf (broadcastInDim S127 ![0] bcast_S1_S127_0 (shapeCast S1 (constant (F := Ideal) S_ .f32 1065353216#32) shapeCasts_S_S1)) (Host.divf (sitofp .f32 (iotaInDim S127 32 0)) (broadcastInDim S127 ![] bcast_S_S127 (constant (F := Ideal) S_ .f32 1123942400#32)))) : Vec Ideal S127 .f32) (ix1 ⟨j.val, by assumption⟩)))) = _
      pointwise []
      rfl
    · rfl
theorem a13 (s : Fin 8192) (j : Fin 128) : (V m c main_v12 (ix2 s j) : EReal) = (inp m c b).co s.val j := (turns m c s j).1
theorem a14 (s : Fin 8192) (j : Fin 128) : (V m c main_v13 (ix2 s j) : EReal) = (inp m c b).si s.val j := (turns m c s j).2
theorem a15 (h : Fin 4) (i j : Fin 256) : (V m c main_v39 (ix3 h i j) : EReal) = ((inp m c b).dec h i.val j.val : EReal) := by
  unfold V
  after_reads_simp
  simp only [StableHlo.TRef.ofBuf_toBuf]
  show (select (broadcastInDim S4x256x256 ![1, 2] bcast_S256x256_S4x256x256_1_2 (cmpf CmpFPredicate.oge (subf (broadcastInDim S256x256 ![0, 1] bcast_S256x1_S256x256_0_1 (broadcastInDim S256x1 ![0] bcast_S256_S256x1_0 (sitofp (F := Ideal) FTy.f32 (iotaInDim S256 32 0)))) (broadcastInDim S256x256 ![0, 1] bcast_S1x256_S256x256_0_1 (broadcastInDim S1x256 ![1] bcast_S256_S1x256_1 (sitofp (F := Ideal) FTy.f32 (iotaInDim S256 32 0))))) (broadcastInDim S256x256 ![] bcast_S_S256x256 (constant (F := Ideal) S_ FTy.f32 0#32))))
    (Host.exp (mulf (broadcastInDim S4x256x256 ![0, 1, 2] bcast_S4x1x1_S4x256x256_0_1_2 (broadcastInDim S4x1x1 ![0] bcast_S4_S4x1x1_0 (Host.log (subf (broadcastInDim S4 ![] bcast_S_S4 (constant (F := Ideal) S_ FTy.f32 1065353216#32)) (Host.exp (mulf (broadcastInDim S4 ![] bcast_S_S4 (constant (F := Ideal) S_ FTy.f32 1060205080#32)) (subf (broadcastInDim S4 ![] bcast_S_S4 (constant (F := Ideal) S_ FTy.f32 3231711232#32)) (sitofp FTy.f32 (iotaInDim S4 32 0)))))))))
      (broadcastInDim S4x256x256 ![0, 1, 2] bcast_S1x256x256_S4x256x256_0_1_2 (broadcastInDim S1x256x256 ![1, 2] bcast_S256x256_S1x256x256_1_2 (maximumf (subf (broadcastInDim S256x256 ![0, 1] bcast_S256x1_S256x256_0_1 (broadcastInDim S256x1 ![0] bcast_S256_S256x1_0 (sitofp (F := Ideal) FTy.f32 (iotaInDim S256 32 0)))) (broadcastInDim S256x256 ![0, 1] bcast_S1x256_S256x256_0_1 (broadcastInDim S1x256 ![1] bcast_S256_S1x256_1 (sitofp (F := Ideal) FTy.f32 (iotaInDim S256 32 0))))) (broadcastInDim S256x256 ![] bcast_S_S256x256 (constant (F := Ideal) S_ FTy.f32 0#32)))))))
    (broadcastInDim S4x256x256 ![] bcast_S_S4x256x256 (constant (F := Ideal) S_ FTy.f32 0#32)) : Vec Ideal S4x256x256 .f32) (ix3 h i j) = _
  pointwise []
  rw [← dec_eq (inp m c b) rfl h i.val j.val, EReal.coe_sub, ← num_eq i.val (by omega), ← num_eq j.val (by omega)]
  rw [Ideal.ofBits_zero_f32]
  rfl
theorem a16 (h : Fin 4) (i j : Fin 256) : (V m c main_v60 (ix3 h i j) : EReal) = (Real.exp ((inp m c b).lam h * ((i.val : ℝ) + 1)) : EReal) := by
  unfold V
  after_reads_simp
  pointwise []
  refine Eq.trans ?_ (dk_eq h _)
  rw [EReal.coe_add, EReal.coe_one, ← num_eq i.val (by omega)]
  rfl
theorem a17 (h : Fin 4) (i : Fin 256) (j : Fin 128) : (V m c main_v62 (ix3 h i j) : EReal) = (Real.exp ((inp m c b).lam h * (255 - (i.val : ℝ))) : EReal) := by
  unfold V
  after_reads_simp
  pointwise []
  refine Eq.trans ?_ (dk_eq h _)
  rw [EReal.coe_sub, ← c255_eq, ← num_eq i.val (by omega)]
  rfl
theorem a18 (h : Fin 4) (j : Fin 256) : (V m c main_v64 (ix3 h 0 j) : EReal) = (Real.exp ((inp m c b).lam h * 256) : EReal) := by
  unfold V
  after_reads_simp
  pointwise []
  refine Eq.trans ?_ (dk_eq h _)
  rw [← c256_eq]
  rfl

/-! Each window's block. -/

variable (t : Fin cfg0.N) (n : ℕ)

theorem r2 (i : Fin 1) (j : Fin 1024) : (iblk m c 2 t (ix2 i j) : EReal) = V m c main_v66 (ix2 i j) := by
  blk_ext [iblk, idx t]
theorem r3 (i : Fin 1024) (j : Fin 7168) : (iblk m c 3 t (ix2 i j) : EReal) = V m c main_v68 (ix2 i j) := by
  blk_ext [iblk, idx t]
theorem r4 (i : Fin 31) (j : Fin 1024) : (iblk m c 4 t (ix2 i j) : EReal) = V m c main_v69 (ix2 i j) := by
  blk_ext [iblk, idx t]
theorem r5 (i : Fin 1) (j : Fin 1024) : (iblk m c 5 t (ix2 i j) : EReal) = V m c main_v71 (ix2 i j) := by
  blk_ext [iblk, idx t]
theorem r6 (i : Fin 1) (j : Fin 1024) : (iblk m c 6 t (ix2 i j) : EReal) = V m c main_v73 (ix2 i j) := by
  blk_ext [iblk, idx t]
theorem r7 (i : Fin 1) (j : Fin 1024) : (iblk m c 7 t (ix2 i j) : EReal) = V m c main_v75 (ix2 i j) := by
  blk_ext [iblk, idx t]
theorem r8 (i : Fin 1024) (j : Fin 1024) : (iblk m c 8 t (ix2 i j) : EReal) = V m c main_v77 (ix2 i j) := by
  blk_ext [iblk, idx t]
theorem r9 (i : Fin 1) (j : Fin 1024) : (iblk m c 9 t (ix2 i j) : EReal) = V m c main_v79 (ix2 i j) := by
  blk_ext [iblk, idx t]
theorem r10 (i : Fin 1) (j : Fin 1024) : (iblk m c 10 t (ix2 i j) : EReal) = V m c main_v81 (ix2 i j) := by
  blk_ext [iblk, idx t]
theorem r11 (i : Fin 2048) (j : Fin 1024) : (iblk m c 11 t (ix2 i j) : EReal) = V m c main_v83 (ix2 i j) := by
  blk_ext [iblk, idx t]
theorem r12 (i : Fin 1) (j : Fin 1024) : (iblk m c 12 t (ix2 i j) : EReal) = V m c main_v84 (ix2 i j) := by
  blk_ext [iblk, idx t]
theorem r15 (h : Fin 4) (i : Fin 256) (j : Fin 256) : (iblk m c 15 t (ix3 h i j) : EReal) = V m c main_v39 (ix3 h i j) := by
  blk_ext [iblk, idx t]
theorem r16 (h : Fin 4) (i : Fin 256) (j : Fin 256) : (iblk m c 16 t (ix3 h i j) : EReal) = V m c main_v60 (ix3 h i j) := by
  blk_ext [iblk, idx t]
theorem r17 (h : Fin 4) (i : Fin 256) (j : Fin 128) : (iblk m c 17 t (ix3 h i j) : EReal) = V m c main_v62 (ix3 h i j) := by
  blk_ext [iblk, idx t]
theorem r18 (h : Fin 4) (i : Fin 1) (j : Fin 256) : (iblk m c 18 t (ix3 h i j) : EReal) = V m c main_v64 (ix3 h i j) := by
  blk_ext [iblk, idx t]

section
variable (hn : n < 32) (ht : t.val = 32 * b.val + n)
include hn ht
theorem r0 (i : Fin 256) (e : Fin 1024) : (iblk m c 0 t (ix3 0 i e) : EReal) = (inp m c b).x (256 * n + i.val) e := by
  refine Eq.trans ?_ (dif_pos (by omega)).symm
  blk_ext [iblk, V, idx t]
theorem r1 (k : Fin 3) (e : Fin 1024) : (iblk m c 1 t (ix3 0 k e) : EReal) = V m c main_v0 (ix3 b k e) := by
  blk_ext [iblk, idx t]
theorem r13 (i : Fin 256) (j : Fin 128) : (iblk m c 13 t (ix2 i j) : EReal) = V m c main_v12 (ix2 ⟨256 * n + i.val, by omega⟩ j) := by
  blk_ext [iblk, idx t]
theorem r14 (i : Fin 256) (j : Fin 128) : (iblk m c 14 t (ix2 i j) : EReal) = V m c main_v13 (ix2 ⟨256 * n + i.val, by omega⟩ j) := by
  blk_ext [iblk, idx t]
end
end Cert.KernelIdeal.Body
end
-- ==== Proof.Value.lean ====
module

public import proofs.«01_k».proof.Proof.Launch
public import proofs.«01_k».proof.Proof.Rows
public import proofs.«01_k».proof.Proof.Reads

@[expose] public section

set_option maxRecDepth 16384

noncomputable section

/-! The kernel's result array: every row of it is the layer's row. -/

open Idealize.ShloMosaic Idealize.ShloMosaic.TcCoe Idealize.ShloMosaic.Tactic Idealize.SL.Sem
namespace Cert.KernelIdeal.Body
open Cert.KernelIdeal Cert.KernelIdeal.Gen Cert.Proof Cert.Proof.Layer
open Idealize.ShloMosaic.Pipeline (Dat)
open scoped BigOperators
variable (m : (ℓ : Loc nD τ sig) → Buf (Elt Ideal) ℓ) (c : Dev nD)

section
variable (t : Fin cfg0.N) (b : Fin 2) (n : ℕ) (hn : n < 32) (ht : t.val = 32 * b.val + n)
include hn ht
theorem x_eq (i : Fin 256) (e : Fin 1024) : (iblk m c 0 t (ix3 0 i e) : EReal) = (inp m c b).x (256 * n + i.val) e :=
  r0 m c b t n hn ht i e
theorem sh_eq (e : Fin 1024) : (iblk m c 1 t (ix3 0 0 e) : EReal) = (inp m c b).sh e :=
  (r1 m c b t n hn ht 0 e).trans ((a1 m c b 0 e).trans (congrArg (fun j => m ((c : Thread nD τ).loc main_arg1) (ix2 b j)) (Fin.ext (by simp))))
theorem sc_eq (e : Fin 1024) : (iblk m c 1 t (ix3 0 1 e) : EReal) = (inp m c b).sc e :=
  (r1 m c b t n hn ht 1 e).trans ((a1 m c b 1 e).trans (congrArg (fun j => m ((c : Thread nD τ).loc main_arg1) (ix2 b j)) (Fin.ext (by simp))))
theorem gt_eq (e : Fin 1024) : (iblk m c 1 t (ix3 0 2 e) : EReal) = (inp m c b).gt e :=
  (r1 m c b t n hn ht 2 e).trans ((a1 m c b 2 e).trans (congrArg (fun j => m ((c : Thread nD τ).loc main_arg1) (ix2 b j)) (Fin.ext (by simp))))
theorem ng_eq (e : Fin 1024) : (iblk m c 2 t (ix2 0 e) : EReal) = (inp m c b).ng e :=
  (r2 m c t 0 e).trans (a2 m c b e)
theorem win_eq (e : Fin 1024) (j : Fin 7168) : (iblk m c 3 t (ix2 e j) : EReal) = (inp m c b).win e j.val :=
  (r3 m c t e j).trans (a3 m c b e j)
theorem cw_eq (k : Fin 31) (j : Fin 1024) : (iblk m c 4 t (ix2 k j) : EReal) = (inp m c b).cw k j :=
  (r4 m c t k j).trans (a4 m c b k j)
theorem cb_eq (e : Fin 1024) : (iblk m c 5 t (ix2 0 e) : EReal) = (inp m c b).cb e :=
  (r5 m c t 0 e).trans (a5 m c b e)
theorem lg_eq (e : Fin 1024) : (iblk m c 6 t (ix2 0 e) : EReal) = (inp m c b).lg e :=
  (r6 m c t 0 e).trans (a6 m c b e)
theorem lb_eq (e : Fin 1024) : (iblk m c 7 t (ix2 0 e) : EReal) = (inp m c b).lb e :=
  (r7 m c t 0 e).trans (a7 m c b e)
theorem pw_eq (k : Fin 1024) (j : Fin 1024) : (iblk m c 8 t (ix2 k j) : EReal) = (inp m c b).pw k j :=
  (r8 m c t k j).trans (a8 m c b k j)
theorem gg_eq (e : Fin 1024) : (iblk m c 9 t (ix2 0 e) : EReal) = (inp m c b).gg e.val :=
  (r9 m c t 0 e).trans (a9 m c b e)
theorem gb_eq (e : Fin 1024) : (iblk m c 10 t (ix2 0 e) : EReal) = (inp m c b).gb e.val :=
  (r10 m c t 0 e).trans (a10 m c b e)
theorem wo_eq (k : Fin 2048) (j : Fin 1024) : (iblk m c 11 t (ix2 k j) : EReal) = (inp m c b).wo k j :=
  (r11 m c t k j).trans (a11 m c b k j)
theorem fg_eq (e : Fin 1024) : (iblk m c 12 t (ix2 0 e) : EReal) = (inp m c b).fg e :=
  (r12 m c t 0 e).trans (a12 m c b e)
theorem co_eq (i : Fin 256) (j : Fin 128) : (iblk m c 13 t (ix2 i j) : EReal) = (inp m c b).co (256 * n + i.val) j :=
  (r13 m c b t n hn ht i j).trans (a13 m c b _ j)
theorem si_eq (i : Fin 256) (j : Fin 128) : (iblk m c 14 t (ix2 i j) : EReal) = (inp m c b).si (256 * n + i.val) j :=
  (r14 m c b t n hn ht i j).trans (a14 m c b _ j)
theorem msk_eq (h : Fin 4) (i : Fin 256) (j : Fin 256) : (iblk m c 15 t (ix3 h i j) : EReal) = ((inp m c b).dec h i.val j.val : EReal) :=
  (r15 m c t h i j).trans (a15 m c b h i j)
theorem qd_eq (h : Fin 4) (i : Fin 256) (j : Fin 256) : (iblk m c 16 t (ix3 h i j) : EReal) = (Real.exp ((inp m c b).lam h * ((i.val : ℝ) + 1)) : EReal) :=
  (r16 m c t h i j).trans (a16 m c b h i j)
theorem kd_eq (h : Fin 4) (i : Fin 256) (j : Fin 128) : (iblk m c 17 t (ix3 h i j) : EReal) = (Real.exp ((inp m c b).lam h * (255 - (i.val : ℝ))) : EReal) :=
  (r17 m c t h i j).trans (a17 m c b h i j)
theorem cd_eq (h : Fin 4) (j : Fin 256) : (iblk m c 18 t (ix3 h 0 j) : EReal) = (Real.exp ((inp m c b).lam h * 256) : EReal) :=
  (r18 m c t h 0 j).trans (a18 m c b h j)

omit hn ht
/-- The blocks of a grid point, one by one. -/
theorem ins_eq : (insAt m c t).x = iblk m c 0 t ∧ (insAt m c t).md = iblk m c 1 t ∧ (insAt m c t).ng = iblk m c 2 t ∧ (insAt m c t).win = iblk m c 3 t ∧ (insAt m c t).cw = iblk m c 4 t ∧ (insAt m c t).cb = iblk m c 5 t ∧ (insAt m c t).lg = iblk m c 6 t ∧ (insAt m c t).lb = iblk m c 7 t ∧ (insAt m c t).pw = iblk m c 8 t ∧ (insAt m c t).gg = iblk m c 9 t ∧ (insAt m c t).gb = iblk m c 10 t ∧ (insAt m c t).wo = iblk m c 11 t ∧ (insAt m c t).fg = iblk m c 12 t ∧ (insAt m c t).co = iblk m c 13 t ∧ (insAt m c t).si = iblk m c 14 t ∧ (insAt m c t).msk = iblk m c 15 t ∧ (insAt m c t).qd = iblk m c 16 t ∧ (insAt m c t).kd = iblk m c 17 t ∧ (insAt m c t).cd = iblk m c 18 t := by
  unfold insAt
  dsimp only
  repeat' apply And.intro
  all_goals exact Eq.refl _
include hn ht
/-- The blocks of grid point `32 b + n` are block `n` of sequence `b`. -/
theorem fits : Fits (inp m c b) n (insAt m c t) := by
  obtain ⟨h_x, h_md, h_ng, h_win, h_cw, h_cb, h_lg, h_lb, h_pw, h_gg, h_gb, h_wo, h_fg, h_co, h_si, h_msk, h_qd, h_kd, h_cd⟩ := ins_eq m c t
  constructor
  · intro i e; rw [h_x]; exact x_eq m c t b n hn ht i e
  · intro e; rw [h_md]; exact sh_eq m c t b n hn ht e
  · intro e; rw [h_md]; exact sc_eq m c t b n hn ht e
  · intro e; rw [h_md]; exact gt_eq m c t b n hn ht e
  · intro e; rw [h_ng]; exact ng_eq m c t b n hn ht e
  · intro e j; rw [h_win]; exact win_eq m c t b n hn ht e j
  · intro k j; rw [h_cw]; exact cw_eq m c t b n hn ht k j
  · intro e; rw [h_cb]; exact cb_eq m c t b n hn ht e
  · intro e; rw [h_lg]; exact lg_eq m c t b n hn ht e
  · intro e; rw [h_lb]; exact lb_eq m c t b n hn ht e
  · intro k j; rw [h_pw]; exact pw_eq m c t b n hn ht k j
  · intro e; rw [h_gg]; exact gg_eq m c t b n hn ht e
  · intro e; rw [h_gb]; exact gb_eq m c t b n hn ht e
  · intro k j; rw [h_wo]; exact wo_eq m c t b n hn ht k j
  · intro e; rw [h_fg]; exact fg_eq m c t b n hn ht e
  · intro i j; rw [h_co]; exact co_eq m c t b n hn ht i j
  · intro i j; rw [h_si]; exact si_eq m c t b n hn ht i j
  · intro h i j; rw [h_msk]; exact msk_eq m c t b n hn ht h i j
  · intro h i j; rw [h_qd]; exact qd_eq m c t b n hn ht h i j
  · intro h i j; rw [h_kd]; exact kd_eq m c t b n hn ht h i j
  · intro h j; rw [h_cd]; exact cd_eq m c t b n hn ht h j
end

variable (R : ∀ b, Reals (inp m c b))

/-- What is carried into block `n` of sequence `b`. -/
theorem carried (b : Fin 2) : ∀ n, n < 32 → HeldA (inp m c b) n (carry m c (32 * b.val + n)).1 ∧ HeldSt (R b) n (carry m c (32 * b.val + n)).2
  | 0, _ => by
    rw [carry_start m c (32 * b.val + 0) (by omega)]
    exact ⟨zeroA_held, zeroSt_held (R b)⟩
  | n + 1, h => by
    have ih := carried b n (by omega)
    have hN : 32 * b.val + n < cfg0.N := by rw [show cfg0.N = 64 from N_0]; omega
    have hI := fits m c ⟨32 * b.val + n, hN⟩ b n (by omega) rfl
    rw [show 32 * b.val + (n + 1) = (⟨32 * b.val + n, hN⟩ : Fin cfg0.N).val + 1 from rfl, carry_next m c ⟨32 * b.val + n, hN⟩ (by show ¬ (32 * b.val + n + 1) % 32 = 0; omega)]
    exact ⟨A'_held hI ih.1, St_held hI (R b) ih.2⟩

include R in
/-- A grid point's output block. -/
theorem out_rows (t : Fin cfg0.N) (b : Fin 2) (n : ℕ) (hn : n < 32) (ht : t.val = 32 * b.val + n) (i : Fin 256) (e : Fin 1024) :
    outAt m c t (ix3 0 i e) = (inp m c b).out (256 * n + i.val) e := by
  have h := carried m c R b n hn
  rw [← ht] at h
  exact Out_at (fits m c t b n hn ht) (R b) hn h.1 h.2 i e

/-- The layer's rows, as the result array. -/
def resultOf : S2x8192x1024.Idx → EReal := fun y => (inp m c (y 0)).out (y 1).val (y 2)

include R in
theorem final : (dats m 0 c).arrAt 19 cfg0.N = resultOf m c := by
  refine (dats m 0 c).arrAt_eq_of_covers 19 (resultOf m c) (by decide +kernel) fun t _ y => ?_
  have hN : t.val < 64 := Nat.lt_of_lt_of_eq t.isLt N_0
  have hb : t.val / 32 < 2 := by omega
  blk_simp
  idx_vars y
  obtain rfl : y0 = 0 := Subsingleton.elim _ _
  refine (show (dats m 0 c).after 19 t (ix3 0 y1 y2) = outAt m c t (ix3 0 y1 y2) from rfl).trans ?_
  refine (out_rows m c R t ⟨t.val / 32, hb⟩ (t.val % 32) (Nat.mod_lt _ (by decide)) (by show t.val = 32 * (t.val / 32) + t.val % 32; omega) y1 y2).trans ?_
  have e : ((View.whole main_v85).slice (win0_19.rect t)).emb (ix3 0 y1 y2) = (ix3 ⟨t.val / 32, hb⟩ ⟨256 * (t.val % 32) + y1.val, by omega⟩ y2 : S2x8192x1024.Idx) := by
    blk_ext [idx t]
  rw [e]
  rfl
end Cert.KernelIdeal.Body
end
-- ==== Proof.RefRows.lean ====
module

public import proofs.«01_k».proof.Proof.Gen.ReferenceIdeal.Run
public import proofs.«01_k».proof.Proof.Tables
public import Idealize.ShloMosaic.Lib.Pipeline.ValueKit

@[expose] public section

set_option maxRecDepth 16384

noncomputable section

/-! The reference's named values, entry by entry, as the layer's rows. -/

open Idealize.ShloMosaic Idealize.ShloMosaic.TcCoe Idealize.SL.Sem
namespace Cert.ReferenceIdeal.Value
open Cert.ReferenceIdeal Cert.ReferenceIdeal.Gen Cert.Proof Cert.Proof.Layer
open scoped BigOperators
variable (V0 : Valuation τ sig (Elt Ideal)) (b : Fin 2)

/-- The layer's inputs of sequence `b` in the reference's arguments. -/
def inp : Mdl :=
  mdl (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) b

theorem inp_x (s : Fin 8192) (e : Fin 1024) : (inp V0 b).x s.val e = V0 (Proc.devRef .tc main_arg0) (ix3 b s e) := dif_pos s.2
theorem inp_win (e : Fin 1024) (j : Fin 7168) : (inp V0 b).win e j.val = V0 (Proc.devRef .tc main_arg3) (ix3 0 e j) := dif_pos j.2
theorem inp_gg (c : Fin 1024) : (inp V0 b).gg c.val = V0 (Proc.devRef .tc main_arg9) (ix2 0 c) := dif_pos c.2
theorem inp_gb (c : Fin 1024) : (inp V0 b).gb c.val = V0 (Proc.devRef .tc main_arg10) (ix2 0 c) := dif_pos c.2

theorem e25 (s : Fin 8192) (j : Fin 7168) : res_main_v25 V0 (ix3 b s j) = (inp V0 b).p s.val j.val := by
  pointwise [res_main_v25, res_main_v0]
  unfold Mdl.p
  show @Eq EReal _ _
  refine Finset.sum_congr rfl fun k _ => ?_
  rw [inp_win]
  simp only [Mdl.u, scl, inp_x]
  rfl

theorem e25' (s : Fin 8192) (n : ℕ) (hn : n < 7168) (m : ℕ) (e : n = m) : res_main_v25 V0 (ix3 b s ⟨n, hn⟩) = (inp V0 b).p s.val m := by
  rw [e25]; exact congrArg ((inp V0 b).p s.val) e

theorem e45 (s : Fin 8222) (c : Fin 1024) : res_main_v45 V0 (ix3 b s c) = (inp V0 b).up s.val c := by
  pointwise [res_main_v45]
  unfold Mdl.up
  split <;> rename_i h
  · rw [if_neg (by omega), e25' V0 b _ _ _ c.val rfl, e25' V0 b _ _ _ (1024 + c.val) rfl, ← zero_sub]
    rfl
  · rw [if_pos (by omega)]
    show (((0#32).toInt : ℝ) : EReal) = 0
    simp

theorem sum31 (f : Fin 31 → EReal) : ∑ i, f i = f 0 + f 1 + f 2 + f 3 + f 4 + f 5 + f 6 + f 7 + f 8 + f 9 + f 10 + f 11 + f 12 + f 13 + f 14
    + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

theorem e264 (s : Fin 8192) (c : Fin 1024) : res_main_v264 V0 (ix3 b s c) = (inp V0 b).cv s.val c := by
  pointwise [res_main_v264, res_main_v198, res_main_v121, res_main_v43]
  unfold Mdl.cv
  rw [sum31]
  simp only [e45, Nat.add_comm _ s.val]
  rfl

theorem e290 (s : Fin 8192) (c : Fin 1024) : res_main_v290 V0 (ix3 b s c)
    = nrm c1024 ((inp V0 b).cv s.val) c * (inp V0 b).lg c + (inp V0 b).lb c := by
  pointwise [res_main_v290, res_main_v272, res_main_v270]
  simp only [e264]
  rfl

theorem e306 (s : Fin 8192) (c : Fin 128) : res_main_v306 V0 (ix2 s c) = ang s.val c := by
  pointwise [res_main_v306, res_main_call3_v0, res_main_call3_v1, res_main_call3_v6]
  unfold ang lin
  split <;> rfl
theorem e334 (s : Fin 8192) (c : Fin 128) : res_main_v334 V0 (ix2 s c) = ang s.val c := by
  pointwise [res_main_v334, res_main_call4_v0, res_main_call4_v1, res_main_call4_v6]
  unfold ang lin
  split <;> rfl
theorem e308 (s : Fin 8192) (c : Fin 128) : res_main_v308 V0 (ix4 0 s 0 c) = (inp V0 b).co s.val c := by
  pointwise [res_main_v308]; rw [e306]; rfl
theorem e310 (s : Fin 8192) (c : Fin 128) : res_main_v310 V0 (ix4 0 s 0 c) = (inp V0 b).si s.val c := by
  pointwise [res_main_v310]; rw [e306]; rfl
theorem e336 (s : Fin 8192) (c : Fin 128) : res_main_v336 V0 (ix4 0 s 0 c) = (inp V0 b).co s.val c := by
  pointwise [res_main_v336]; rw [e334]; rfl
theorem e338 (s : Fin 8192) (c : Fin 128) : res_main_v338 V0 (ix4 0 s 0 c) = (inp V0 b).si s.val c := by
  pointwise [res_main_v338]; rw [e334]; rfl
theorem e311 (s : Fin 8192) (h : Fin 4) (c : Fin 128) : res_main_v311 V0 (ix4 b s h c) = (inp V0 b).p s.val (3072 + 256 * h.val + c.val) := by
  pointwise [res_main_v311, res_main_v30]
  exact e25' V0 b _ _ _ _ (by omega)
theorem e312 (s : Fin 8192) (h : Fin 4) (c : Fin 128) : res_main_v312 V0 (ix4 b s h c) = (inp V0 b).p s.val (3072 + 256 * h.val + 128 + c.val) := by
  pointwise [res_main_v312, res_main_v30]
  exact e25' V0 b _ _ _ _ (by omega)
theorem e339 (s : Fin 8192) (h : Fin 4) (c : Fin 128) : res_main_v339 V0 (ix4 b s h c) = (inp V0 b).p s.val (4096 + 256 * h.val + c.val) := by
  pointwise [res_main_v339, res_main_v32]
  exact e25' V0 b _ _ _ _ (by omega)
theorem e340 (s : Fin 8192) (h : Fin 4) (c : Fin 128) : res_main_v340 V0 (ix4 b s h c) = (inp V0 b).p s.val (4096 + 256 * h.val + 128 + c.val) := by
  pointwise [res_main_v340, res_main_v32]
  exact e25' V0 b _ _ _ _ (by omega)

/-- A sum over 256 lanes is the sum over its two halves. -/
theorem sum_halves (f : Fin 256 → EReal) : ∑ d, f d = (∑ i : Fin 128, f ⟨i.val, by omega⟩) + ∑ i : Fin 128, f ⟨128 + i.val, by omega⟩ :=
  Fin.sum_univ_add (a := 128) (b := 128) f

theorem rot_lo (M : Mdl) (base s : ℕ) (h : Fin 4) (i : Fin 128) : M.rot base s h ⟨i.val, by omega⟩
    = M.p s (base + 256 * h.val + i.val) * M.co s i - M.p s (base + 256 * h.val + 128 + i.val) * M.si s i := dif_pos i.2
theorem rot_hi (M : Mdl) (base s : ℕ) (h : Fin 4) (i : Fin 128) : M.rot base s h ⟨128 + i.val, by omega⟩
    = M.p s (base + 256 * h.val + i.val) * M.si s i + M.p s (base + 256 * h.val + 128 + i.val) * M.co s i := by
  have e : 128 + i.val - 128 = i.val := by omega
  unfold Mdl.rot
  rw [dif_neg (by simp)]
  simp only [e]

theorem e368 (s t : Fin 8192) : res_main_v368 V0 (ix2 s t) = ((s.val - t.val : ℝ) : EReal) := by
  pointwise [res_main_v368, res_main_v363]
  rw [EReal.coe_sub, ← num_eq s.val (by omega), ← num_eq t.val (by omega)]
  rfl

theorem e385 (s : Fin 8192) (h : Fin 4) (e : Fin 256) : res_main_v385 V0 (ix4 b s h e) = (inp V0 b).r s.val h e := by
  pointwise [res_main_v385]
  unfold Mdl.r
  rw [Finset.sum_range]
  show @Eq EReal _ _
  refine Finset.sum_congr rfl fun t _ => ?_
  rw [e25' V0 b t _ _ (5120 + 256 * h.val + e.val) (by omega), sum_halves]
  simp only [Mdl.q, Mdl.k, rot_lo, rot_hi, e311, e312, e339, e340, e308 V0 b, e310 V0 b, e336 V0 b, e338 V0 b, e368]
  congr 2
  exact dec_eq (inp V0 b) rfl h s.val t.val

theorem e391 (s : Fin 8192) (h : Fin 4) : res_main_v391 V0 (ix4 b s h 0) = mean c256 ((inp V0 b).r s.val h) := by
  pointwise [res_main_v391]
  simp only [e385]
  rfl
theorem e393 (s : Fin 8192) (h : Fin 4) (e : Fin 256) : res_main_v393 V0 (ix4 b s h e) = (inp V0 b).r s.val h e - mean c256 ((inp V0 b).r s.val h) := by
  pointwise [res_main_v393]
  rw [e385, e391]
theorem e28 (s : Fin 8192) (c : Fin 1024) : res_main_v28 V0 (ix3 b s c) = (inp V0 b).p s.val (2048 + c.val) := by
  pointwise [res_main_v28]
  exact e25' V0 b _ _ _ _ rfl
theorem e35 (s : Fin 8192) (c : Fin 1024) : res_main_v35 V0 (ix3 b s c) = (inp V0 b).p s.val (6144 + c.val) := by
  pointwise [res_main_v35]
  exact e25' V0 b _ _ _ _ rfl

/-- A joined row's product with a column is the sum of its two branches' products. -/
theorem y_eq (M : Mdl) (s : ℕ) (c : Fin 1024) : M.y s c = (∑ i : Fin 1024, M.yl s i * M.wo ⟨i.val, by omega⟩ c)
    + ∑ i : Fin 1024, M.hn s ⟨i.val / 256, by omega⟩ ⟨i.val % 256, by omega⟩ * M.wo ⟨1024 + i.val, by omega⟩ c := by
  refine (Fin.sum_univ_add (a := 1024) (b := 1024) fun j => M.cat s j * M.wo j c).trans (congr_arg₂ (fun x y : EReal => x + y) ?_ ?_)
  · refine Finset.sum_congr rfl fun i _ => ?_
    exact congrArg (fun x : EReal => x * M.wo ⟨i.val, by omega⟩ c) (dif_pos i.2)
  · refine Finset.sum_congr rfl fun i _ => ?_
    refine congrArg (fun x : EReal => x * M.wo ⟨1024 + i.val, by omega⟩ c) ((dif_neg (by simp)).trans ?_)
    have e : 1024 + i.val - 1024 = i.val := by omega
    simp only [Fin.val_natAdd, e]

theorem e420 (s : Fin 8192) (c : Fin 1024) : res_main_v420 V0 (ix3 b s c) = (inp V0 b).hr s.val c := by
  pointwise [res_main_v420, res_main_v0]
  unfold Mdl.hr
  rw [y_eq, inp_x]
  simp only [e290, e28, e35, e385, e391, e393, ← zero_sub]
  refine congr_arg₂ (fun x y : EReal => x + y) rfl (congr_arg₂ (fun x y : EReal => x * y) rfl (congr_arg₂ (fun x y : EReal => x + y) rfl ?_))
  refine Finset.sum_congr rfl fun i _ => congrArg (fun x : EReal => x * _) ?_
  have e : 256 * (i.val / 256) + i.val % 256 = i.val := by omega
  have e' : 6144 + 256 * (i.val / 256) + i.val % 256 = 6144 + i.val := by omega
  unfold Mdl.hn
  simp only [e, e', inp_gg, inp_gb]
  rfl

/-- The reference's result. -/
theorem result (s : Fin 8192) (c : Fin 1024) :
    (mulf (mulf (res_main_v420 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v420 V0) (res_main_v420 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg12)))) : Vec Ideal S2x8192x1024 .f32) (ix3 b s c)
      = (inp V0 b).out s.val c := by
  pointwise []
  simp only [e420]
  rfl

end Cert.ReferenceIdeal.Value
end
-- ==== Proof.Algebra.lean ====
module

public import proofs.«01_k».proof.Defs
public import proofs.«01_k».proof.Proof.Tables
public import Idealize.ShloMosaic.Lib.Pipeline.ValueKit

@[expose] public section

set_option maxRecDepth 16384

noncomputable section

/-! What the precondition says: the shift, the scale, the first norm's gain and the projection to queries, keys and values
hold reals, and so do the queries, keys and values. -/

open Idealize.ShloMosaic
namespace Cert.Proof
open Cert.Proof.Layer

/-- The side conditions of the precondition's operations. -/
theorem pre_facts : Cert.Pre_finite.Facts where
  slices_S2x3072_S2x2048_0_0 := by decide
  bcast_S_S2x2048 := by decide
  bcast_S_S1x1024 := by decide
  slices_S1x1024x7168_S1x1024x3072_0_0_3072 := by decide
  bcast_S_S1x1024x3072 := by decide

theorem top_eq : Ideal.ofBits .f32 0x7F800000#32 = (⊤ : EReal) := by
  show Ideal.ieee 8 23 0x7F800000#32 = _
  unfold Ideal.ieee
  simp

/-- An extended real whose size is below infinity is a real. -/
theorem real_of_lt {x : EReal} (h : Ideal.cmp .olt (max x (-x)) (Ideal.ofBits .f32 0x7F800000#32) = 1#1) : IsR x := by
  rw [top_eq] at h
  induction x with
  | bot => exact absurd h (by simp [Ideal.cmp])
  | top => exact absurd h (by simp [Ideal.cmp])
  | coe r => exact ⟨r, rfl⟩

/-- Finite arguments give real queries, keys and values. -/
def reals_mdl [Cert.Pre_finite.Facts] (x : FVec Ideal Cert.Pre_finite.S2x8192x1024 .f32) (md : FVec Ideal Cert.Pre_finite.S2x3072 .f32)
    (ng : FVec Ideal Cert.Pre_finite.S1x1024 .f32) (win : FVec Ideal Cert.Pre_finite.S1x1024x7168 .f32)
    (cw : FVec Ideal Cert.Pre_finite.S1x31x1024 .f32) (cb lg lb : FVec Ideal Cert.Pre_finite.S1x1024 .f32)
    (pw : FVec Ideal Cert.Pre_finite.S1x1024x1024 .f32) (gg gb : FVec Ideal Cert.Pre_finite.S1x1024 .f32)
    (wo : FVec Ideal Cert.Pre_finite.S1x2048x1024 .f32) (fg : FVec Ideal Cert.Pre_finite.S1024 .f32)
    (h0 : (Cert.Pre_finite.fn (F := Ideal) x md ng win cw cb lg lb pw gg gb wo fg).1 = fun _ => 1#1)
    (h1 : (Cert.Pre_finite.fn (F := Ideal) x md ng win cw cb lg lb pw gg gb wo fg).2.1 = fun _ => 1#1)
    (h2 : (Cert.Pre_finite.fn (F := Ideal) x md ng win cw cb lg lb pw gg gb wo fg).2.2 = fun _ => 1#1) (b : Fin 2) :
    Reals (mdl x md ng win cw cb lg lb pw gg gb wo fg b) := by
  have rm : ∀ j : Fin 2048, IsR (md (ix2 b ⟨j.val, by omega⟩)) := fun j => by
    have h := real_of_lt (congrFun h0 (ix2 b j))
    have e : (extractStridedSlice Cert.Pre_finite.S2x2048 ![0, 0] md Cert.Pre_finite.Facts.slices_S2x3072_S2x2048_0_0 :
        Vec Ideal Cert.Pre_finite.S2x2048 .f32) (ix2 b j) = md (ix2 b ⟨j.val, by omega⟩) := by
      pointwise []
    exact (congrArg IsR e).mp h
  have rn : ∀ i, IsR (ng i) := fun i => real_of_lt (congrFun h1 i)
  have rp : ∀ (e : Fin 1024) (j : Fin 3072), IsR (win (ix3 0 e ⟨3072 + j.val, by omega⟩)) := fun e j => by
    have h := real_of_lt (congrFun h2 (ix3 0 e j))
    have hs : (extractStridedSlice Cert.Pre_finite.S1x1024x3072 ![0, 0, 3072] win Cert.Pre_finite.Facts.slices_S1x1024x7168_S1x1024x3072_0_0_3072 :
        Vec Ideal Cert.Pre_finite.S1x1024x3072 .f32) (ix3 0 e j) = win (ix3 0 e ⟨3072 + j.val, by omega⟩) := by
      pointwise []
    exact (congrArg IsR hs).mp h
  refine reals (fun e => rm ⟨e.val, by omega⟩) (fun e => rm ⟨1024 + e.val, by omega⟩) (fun e => rn _) ?_
    (fun s c => (ang_real s c).cos) (fun s c => (ang_real s c).sin)
  intro e j h3 h6
  have hj : (mdl x md ng win cw cb lg lb pw gg gb wo fg b).win e j = win (ix3 0 e ⟨j, by omega⟩) := dif_pos (by omega)
  have hq := rp e ⟨j - 3072, by omega⟩
  rw [hj]
  simpa only [show 3072 + (j - 3072) = j by omega] using hq

/-- Equal arrays give equal inputs. -/
theorem mdl_congr {x x' : (⟨3, ![2, 8192, 1024]⟩ : Shape).Idx → EReal} {md md' : (⟨2, ![2, 3072]⟩ : Shape).Idx → EReal}
    {ng ng' : (⟨2, ![1, 1024]⟩ : Shape).Idx → EReal} {win win' : (⟨3, ![1, 1024, 7168]⟩ : Shape).Idx → EReal}
    {cw cw' : (⟨3, ![1, 31, 1024]⟩ : Shape).Idx → EReal} {cb cb' lg lg' lb lb' : (⟨2, ![1, 1024]⟩ : Shape).Idx → EReal}
    {pw pw' : (⟨3, ![1, 1024, 1024]⟩ : Shape).Idx → EReal} {gg gg' gb gb' : (⟨2, ![1, 1024]⟩ : Shape).Idx → EReal}
    {wo wo' : (⟨3, ![1, 2048, 1024]⟩ : Shape).Idx → EReal} {fg fg' : (⟨1, ![1024]⟩ : Shape).Idx → EReal}
    (h0 : x = x') (h1 : md = md') (h2 : ng = ng') (h3 : win = win') (h4 : cw = cw') (h5 : cb = cb') (h6 : lg = lg') (h7 : lb = lb')
    (h8 : pw = pw') (h9 : gg = gg') (h10 : gb = gb') (h11 : wo = wo') (h12 : fg = fg') (b : Fin 2) :
    mdl x md ng win cw cb lg lb pw gg gb wo fg b = mdl x' md' ng' win' cw' cb' lg' lb' pw' gg' gb' wo' fg' b := by
  subst h0 h1 h2 h3 h4 h5 h6 h7 h8 h9 h10 h11 h12
  rfl

end Cert.Proof
end
-- ==== Proof.Same.lean ====
/- The kernel read at bits and at the reals is one program, word for word. -/
module

public import proofs.«01_k».proof.Defs
public import proofs.«01_k».proof.Proof.Gen.Kernel
public import proofs.«01_k».proof.Proof.Gen.KernelIdeal

@[expose] public section

set_option maxRecDepth 100000
set_option maxHeartbeats 20000000

noncomputable section

namespace Cert.Proof

open Idealize.ShloMosaic

variable [Cert.Kernel.Facts] [Cert.KernelIdeal.Facts] {F : FTy → Type} [FloatOps F]

/-- The tables of bodies are the same. -/
theorem same_table : Cert.Kernel.defs₀ (F := F) = Cert.KernelIdeal.defs₀ (F := F) := by
  refine congrArg Defs.onTc ?_
  funext l x
  match l, x with
  | 0, (t, s) => rfl
  | ⟨_ + 1, h⟩, _ => exact absurd h (Nat.not_lt.2 (Nat.le_add_left _ _))

/-- So are the pipelines and what the regions run. -/
theorem same_defs : Cert.Kernel.defs (F := F) = Cert.KernelIdeal.defs (F := F) :=
  congrArg (Pipeline.defs (Cert.KernelIdeal.pcfgs (F := F))) same_table

/-- The host programs are the same. -/
theorem same_main : Cert.Kernel.main (F := F) = Cert.KernelIdeal.main (F := F) := rfl

end Cert.Proof
-- ==== Proof.lean ====
/- The proof of the certificate of the conformer block's kernel: the frames of the three programs, that the idealized
   program is the printed one, and that the kernel and the reference compute the same array. -/
module

public import proofs.«01_k».proof.Defs
public import proofs.«01_k».proof.Proof.Value
public import proofs.«01_k».proof.Proof.RefRows
public import proofs.«01_k».proof.Proof.Algebra
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

/-- The printed program ends with its arguments kept: it is the idealized program's text, whose run is proved
    for any float values. -/
theorem frame_kernel : Cert.quiescent_Kernel (hKernel := Cert.Kernel.Gen.facts) := fun m g _ => by
  letI := Cert.Kernel.Gen.facts
  letI := Cert.KernelIdeal.Gen.facts
  rw [same_defs, same_main]
  exact Cert.KernelIdeal.Body.frame (F := Bits) m g

/-- The idealized program ends with its arguments kept. -/
theorem frame_ideal : Cert.quiescent_KernelIdeal (hKernelIdeal := Cert.KernelIdeal.Gen.facts) := fun m g _ =>
  Cert.KernelIdeal.Body.frame (F := Ideal) m g

/-- The reference ends with its arguments kept; it has no counters. -/
theorem frame_reference : Cert.quiescent_ReferenceIdeal (hReferenceIdeal := Cert.ReferenceIdeal.Gen.facts) :=
  fun m g _ => (θ_run _ _ _).mono
    (fun r h => ⟨fun c => (h c).2, sem_eq_zero_of_no_sems rfl _⟩) (Cert.ReferenceIdeal.Value.run (F := Ideal) m g)

/-- The kernel and the reference end with the same array: the layer's rows of the arguments. -/
theorem algebraic : Cert.algebraic_KernelIdeal_ReferenceIdeal_pre_finite (hKernelIdeal := Cert.KernelIdeal.Gen.facts)
    (hReferenceIdeal := Cert.ReferenceIdeal.Gen.facts) (hPre_finite := pre_facts) := fun m g m' g' hpre hagree => by
  letI := Cert.KernelIdeal.Gen.facts
  letI := Cert.ReferenceIdeal.Gen.facts
  letI := pre_facts
  refine ⟨fun c => Cert.KernelIdeal.Body.resultOf m c, ?_, ?_⟩
  · refine (θ_run _ _ _).mono (fun r h c => ⟨((h.1 c).1 19).trans ?_, h.2.1 c⟩)
      (θ_run_and (Cert.KernelIdeal.Body.run_post (F := Ideal) m g) (Cert.KernelIdeal.Body.frame (F := Ideal) m g))
    exact Cert.KernelIdeal.Body.final m c fun b =>
      reals_mdl _ _ _ _ _ _ _ _ _ _ _ _ _ (hpre c).1 (hpre c).2.1 (hpre c).2.2 b
  · refine (θ_run _ _ _).mono (fun r h c => ⟨(h c).1.trans ?_, (h c).2⟩) (Cert.ReferenceIdeal.Value.run (F := Ideal) m' g')
    obtain ⟨a0, a1, a2, a3, a4, a5, a6, a7, a8, a9, a10, a11, a12⟩ := hagree c
    have e : ∀ b, Cert.ReferenceIdeal.Value.inp (StableHlo.launchContents m' c) b = Cert.KernelIdeal.Body.inp m c b :=
      fun b => mdl_congr a0 a1 a2 a3 a4 a5 a6 a7 a8 a9 a10 a11 a12 b
    funext y
    idx_vars y

    exact (Cert.ReferenceIdeal.Value.result _ y0 y1 y2).trans (congrArg (fun M => M.out y1.val y2) (e y0))

theorem claim : Cert.Claim := ⟨Cert.Kernel.Gen.facts, Cert.KernelIdeal.Gen.facts, Cert.ReferenceIdeal.Gen.facts, pre_facts,
  frame_kernel, frame_ideal, fun m g _ => frame_ideal m g trivial, frame_reference, fun m g _ => frame_reference m g trivial,
  trivial, algebraic⟩

end Cert.Proof

end
